-- ==== Defs.lean ====
def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11)
      ∧ r.2.mem ((c.tc : Thread Cert.Back.nD Cert.Back.τ).loc Cert.Back.main_arg12) = m ((c.tc : Thread Cert.Back.nD Cert.Back.τ).loc Cert.Back.main_arg12))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
      ∧ r.2.mem ((c.tc : Thread Cert.BackIdeal.nD Cert.BackIdeal.τ).loc Cert.BackIdeal.main_arg12) = m ((c.tc : Thread Cert.BackIdeal.nD Cert.BackIdeal.τ).loc Cert.BackIdeal.main_arg12))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7)
      ∧ r.2.mem ((c.tc : Thread Cert.BackRefIdeal.nD Cert.BackRefIdeal.τ).loc Cert.BackRefIdeal.main_arg8) = m ((c.tc : Thread Cert.BackRefIdeal.nD Cert.BackRefIdeal.τ).loc Cert.BackRefIdeal.main_arg8)
      ∧ r.2.mem ((c.tc : Thread Cert.BackRefIdeal.nD Cert.BackRefIdeal.τ).loc Cert.BackRefIdeal.main_arg9) = m ((c.tc : Thread Cert.BackRefIdeal.nD Cert.BackRefIdeal.τ).loc Cert.BackRefIdeal.main_arg9)
      ∧ r.2.mem ((c.tc : Thread Cert.BackRefIdeal.nD Cert.BackRefIdeal.τ).loc Cert.BackRefIdeal.main_arg10) = m ((c.tc : Thread Cert.BackRefIdeal.nD Cert.BackRefIdeal.τ).loc Cert.BackRefIdeal.main_arg10)
      ∧ r.2.mem ((c.tc : Thread Cert.BackRefIdeal.nD Cert.BackRefIdeal.τ).loc Cert.BackRefIdeal.main_arg11) = m ((c.tc : Thread Cert.BackRefIdeal.nD Cert.BackRefIdeal.τ).loc Cert.BackRefIdeal.main_arg11)
      ∧ r.2.mem ((c.tc : Thread Cert.BackRefIdeal.nD Cert.BackRefIdeal.τ).loc Cert.BackRefIdeal.main_arg12) = m ((c.tc : Thread Cert.BackRefIdeal.nD Cert.BackRefIdeal.τ).loc Cert.BackRefIdeal.main_arg12))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8)
      ∧ r.2.mem ((c.tc : Thread Cert.FrontRefIdeal.nD Cert.FrontRefIdeal.τ).loc Cert.FrontRefIdeal.main_arg9) = m ((c.tc : Thread Cert.FrontRefIdeal.nD Cert.FrontRefIdeal.τ).loc Cert.FrontRefIdeal.main_arg9))
      ∧ r.2.sem = fun _ => 0)

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)
      ∧ m' ((c.tc : Thread Cert.BackRefIdeal.nD Cert.BackRefIdeal.τ).loc Cert.BackRefIdeal.main_arg8) = m ((c.tc : Thread Cert.BackIdeal.nD Cert.BackIdeal.τ).loc Cert.BackIdeal.main_arg8)
      ∧ m' ((c.tc : Thread Cert.BackRefIdeal.nD Cert.BackRefIdeal.τ).loc Cert.BackRefIdeal.main_arg9) = m ((c.tc : Thread Cert.BackIdeal.nD Cert.BackIdeal.τ).loc Cert.BackIdeal.main_arg9)
      ∧ m' ((c.tc : Thread Cert.BackRefIdeal.nD Cert.BackRefIdeal.τ).loc Cert.BackRefIdeal.main_arg10) = m ((c.tc : Thread Cert.BackIdeal.nD Cert.BackIdeal.τ).loc Cert.BackIdeal.main_arg10)
      ∧ m' ((c.tc : Thread Cert.BackRefIdeal.nD Cert.BackRefIdeal.τ).loc Cert.BackRefIdeal.main_arg11) = m ((c.tc : Thread Cert.BackIdeal.nD Cert.BackIdeal.τ).loc Cert.BackIdeal.main_arg11)
      ∧ m' ((c.tc : Thread Cert.BackRefIdeal.nD Cert.BackRefIdeal.τ).loc Cert.BackRefIdeal.main_arg12) = m ((c.tc : Thread Cert.BackIdeal.nD Cert.BackIdeal.τ).loc Cert.BackIdeal.main_arg12)) →
    ∃ (v0 : (c : Dev Cert.BackIdeal.nD) → Buf (Elt Ideal) ((c.tc : Thread Cert.BackIdeal.nD Cert.BackIdeal.τ).loc Cert.BackIdeal.main_v24)) (v1 : (c : Dev Cert.BackIdeal.nD) → Buf (Elt Ideal) ((c.tc : Thread Cert.BackIdeal.nD Cert.BackIdeal.τ).loc Cert.BackIdeal.main_v25)) (v2 : (c : Dev Cert.BackIdeal.nD) → Buf (Elt Ideal) ((c.tc : Thread Cert.BackIdeal.nD Cert.BackIdeal.τ).loc Cert.BackIdeal.main_v26)) (v3 : (c : Dev Cert.BackIdeal.nD) → Buf (Elt Ideal) ((c.tc : Thread Cert.BackIdeal.nD Cert.BackIdeal.τ).loc Cert.BackIdeal.main_v29)) (v4 : (c : Dev Cert.BackIdeal.nD) → Buf (Elt Ideal) ((c.tc : Thread Cert.BackIdeal.nD Cert.BackIdeal.τ).loc Cert.BackIdeal.main_v30)) (v5 : (c : Dev Cert.BackIdeal.nD) → Buf (Elt Ideal) ((c.tc : Thread Cert.BackIdeal.nD Cert.BackIdeal.τ).loc Cert.BackIdeal.main_v33)) (v6 : (c : Dev Cert.BackIdeal.nD) → Buf (Elt Ideal) ((c.tc : Thread Cert.BackIdeal.nD Cert.BackIdeal.τ).loc Cert.BackIdeal.main_v34)) (v7 : (c : Dev Cert.BackIdeal.nD) → Buf (Elt Ideal) ((c.tc : Thread Cert.BackIdeal.nD Cert.BackIdeal.τ).loc Cert.BackIdeal.main_v37)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v24) = v0 c
          ∧ r.2.mem ((c.tc : Thread Cert.BackIdeal.nD Cert.BackIdeal.τ).loc Cert.BackIdeal.main_v25) = v1 c
          ∧ r.2.mem ((c.tc : Thread Cert.BackIdeal.nD Cert.BackIdeal.τ).loc Cert.BackIdeal.main_v26) = v2 c
          ∧ r.2.mem ((c.tc : Thread Cert.BackIdeal.nD Cert.BackIdeal.τ).loc Cert.BackIdeal.main_v29) = v3 c
          ∧ r.2.mem ((c.tc : Thread Cert.BackIdeal.nD Cert.BackIdeal.τ).loc Cert.BackIdeal.main_v30) = v4 c
          ∧ r.2.mem ((c.tc : Thread Cert.BackIdeal.nD Cert.BackIdeal.τ).loc Cert.BackIdeal.main_v33) = v5 c
          ∧ r.2.mem ((c.tc : Thread Cert.BackIdeal.nD Cert.BackIdeal.τ).loc Cert.BackIdeal.main_v34) = v6 c
          ∧ r.2.mem ((c.tc : Thread Cert.BackIdeal.nD Cert.BackIdeal.τ).loc Cert.BackIdeal.main_v37) = v7 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
          ∧ r.2.mem ((c.tc : Thread Cert.BackIdeal.nD Cert.BackIdeal.τ).loc Cert.BackIdeal.main_arg12) = m ((c.tc : Thread Cert.BackIdeal.nD Cert.BackIdeal.τ).loc Cert.BackIdeal.main_arg12))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v7) = v0 c
          ∧ r.2.mem ((c.tc : Thread Cert.BackRefIdeal.nD Cert.BackRefIdeal.τ).loc Cert.BackRefIdeal.main_v8) = v1 c
          ∧ r.2.mem ((c.tc : Thread Cert.BackRefIdeal.nD Cert.BackRefIdeal.τ).loc Cert.BackRefIdeal.main_v9) = v2 c
          ∧ r.2.mem ((c.tc : Thread Cert.BackRefIdeal.nD Cert.BackRefIdeal.τ).loc Cert.BackRefIdeal.main_v10) = v3 c
          ∧ r.2.mem ((c.tc : Thread Cert.BackRefIdeal.nD Cert.BackRefIdeal.τ).loc Cert.BackRefIdeal.main_v11) = v4 c
          ∧ r.2.mem ((c.tc : Thread Cert.BackRefIdeal.nD Cert.BackRefIdeal.τ).loc Cert.BackRefIdeal.main_v12) = v5 c
          ∧ r.2.mem ((c.tc : Thread Cert.BackRefIdeal.nD Cert.BackRefIdeal.τ).loc Cert.BackRefIdeal.main_v13) = v6 c
          ∧ r.2.mem ((c.tc : Thread Cert.BackRefIdeal.nD Cert.BackRefIdeal.τ).loc Cert.BackRefIdeal.main_v14) = v7 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7)
          ∧ r.2.mem ((c.tc : Thread Cert.BackRefIdeal.nD Cert.BackRefIdeal.τ).loc Cert.BackRefIdeal.main_arg8) = m' ((c.tc : Thread Cert.BackRefIdeal.nD Cert.BackRefIdeal.τ).loc Cert.BackRefIdeal.main_arg8)
          ∧ r.2.mem ((c.tc : Thread Cert.BackRefIdeal.nD Cert.BackRefIdeal.τ).loc Cert.BackRefIdeal.main_arg9) = m' ((c.tc : Thread Cert.BackRefIdeal.nD Cert.BackRefIdeal.τ).loc Cert.BackRefIdeal.main_arg9)
          ∧ r.2.mem ((c.tc : Thread Cert.BackRefIdeal.nD Cert.BackRefIdeal.τ).loc Cert.BackRefIdeal.main_arg10) = m' ((c.tc : Thread Cert.BackRefIdeal.nD Cert.BackRefIdeal.τ).loc Cert.BackRefIdeal.main_arg10)
          ∧ r.2.mem ((c.tc : Thread Cert.BackRefIdeal.nD Cert.BackRefIdeal.τ).loc Cert.BackRefIdeal.main_arg11) = m' ((c.tc : Thread Cert.BackRefIdeal.nD Cert.BackRefIdeal.τ).loc Cert.BackRefIdeal.main_arg11)
          ∧ r.2.mem ((c.tc : Thread Cert.BackRefIdeal.nD Cert.BackRefIdeal.τ).loc Cert.BackRefIdeal.main_arg12) = m' ((c.tc : Thread Cert.BackRefIdeal.nD Cert.BackRefIdeal.τ).loc Cert.BackRefIdeal.main_arg12))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)
      ∧ m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9)) →
    ∃ (v0 : (c : Dev Cert.FrontIdeal.nD) → Buf (Elt Ideal) ((c.tc : Thread Cert.FrontIdeal.nD Cert.FrontIdeal.τ).loc Cert.FrontIdeal.main_v17)) (v1 : (c : Dev Cert.FrontIdeal.nD) → Buf (Elt Ideal) ((c.tc : Thread Cert.FrontIdeal.nD Cert.FrontIdeal.τ).loc Cert.FrontIdeal.main_v20)) (v2 : (c : Dev Cert.FrontIdeal.nD) → Buf (Elt Ideal) ((c.tc : Thread Cert.FrontIdeal.nD Cert.FrontIdeal.τ).loc Cert.FrontIdeal.main_v21)) (v3 : (c : Dev Cert.FrontIdeal.nD) → Buf (Elt Ideal) ((c.tc : Thread Cert.FrontIdeal.nD Cert.FrontIdeal.τ).loc Cert.FrontIdeal.main_v22)) (v4 : (c : Dev Cert.FrontIdeal.nD) → Buf (Elt Ideal) ((c.tc : Thread Cert.FrontIdeal.nD Cert.FrontIdeal.τ).loc Cert.FrontIdeal.main_v23)) (v5 : (c : Dev Cert.FrontIdeal.nD) → Buf (Elt Ideal) ((c.tc : Thread Cert.FrontIdeal.nD Cert.FrontIdeal.τ).loc Cert.FrontIdeal.main_v24)) (v6 : (c : Dev Cert.FrontIdeal.nD) → Buf (Elt Ideal) ((c.tc : Thread Cert.FrontIdeal.nD Cert.FrontIdeal.τ).loc Cert.FrontIdeal.main_v25)) (v7 : (c : Dev Cert.FrontIdeal.nD) → Buf (Elt Ideal) ((c.tc : Thread Cert.FrontIdeal.nD Cert.FrontIdeal.τ).loc Cert.FrontIdeal.main_v26)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v17) = v0 c
          ∧ r.2.mem ((c.tc : Thread Cert.FrontIdeal.nD Cert.FrontIdeal.τ).loc Cert.FrontIdeal.main_v20) = v1 c
          ∧ r.2.mem ((c.tc : Thread Cert.FrontIdeal.nD Cert.FrontIdeal.τ).loc Cert.FrontIdeal.main_v21) = v2 c
          ∧ r.2.mem ((c.tc : Thread Cert.FrontIdeal.nD Cert.FrontIdeal.τ).loc Cert.FrontIdeal.main_v22) = v3 c
          ∧ r.2.mem ((c.tc : Thread Cert.FrontIdeal.nD Cert.FrontIdeal.τ).loc Cert.FrontIdeal.main_v23) = v4 c
          ∧ r.2.mem ((c.tc : Thread Cert.FrontIdeal.nD Cert.FrontIdeal.τ).loc Cert.FrontIdeal.main_v24) = v5 c
          ∧ r.2.mem ((c.tc : Thread Cert.FrontIdeal.nD Cert.FrontIdeal.τ).loc Cert.FrontIdeal.main_v25) = v6 c
          ∧ r.2.mem ((c.tc : Thread Cert.FrontIdeal.nD Cert.FrontIdeal.τ).loc Cert.FrontIdeal.main_v26) = v7 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v7) = v0 c
          ∧ r.2.mem ((c.tc : Thread Cert.FrontRefIdeal.nD Cert.FrontRefIdeal.τ).loc Cert.FrontRefIdeal.main_v8) = v1 c
          ∧ r.2.mem ((c.tc : Thread Cert.FrontRefIdeal.nD Cert.FrontRefIdeal.τ).loc Cert.FrontRefIdeal.main_v9) = v2 c
          ∧ r.2.mem ((c.tc : Thread Cert.FrontRefIdeal.nD Cert.FrontRefIdeal.τ).loc Cert.FrontRefIdeal.main_v10) = v3 c
          ∧ r.2.mem ((c.tc : Thread Cert.FrontRefIdeal.nD Cert.FrontRefIdeal.τ).loc Cert.FrontRefIdeal.main_v11) = v4 c
          ∧ r.2.mem ((c.tc : Thread Cert.FrontRefIdeal.nD Cert.FrontRefIdeal.τ).loc Cert.FrontRefIdeal.main_v12) = v5 c
          ∧ r.2.mem ((c.tc : Thread Cert.FrontRefIdeal.nD Cert.FrontRefIdeal.τ).loc Cert.FrontRefIdeal.main_v13) = v6 c
          ∧ r.2.mem ((c.tc : Thread Cert.FrontRefIdeal.nD Cert.FrontRefIdeal.τ).loc Cert.FrontRefIdeal.main_v14) = v7 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8)
          ∧ r.2.mem ((c.tc : Thread Cert.FrontRefIdeal.nD Cert.FrontRefIdeal.τ).loc Cert.FrontRefIdeal.main_arg9) = m' ((c.tc : Thread Cert.FrontRefIdeal.nD Cert.FrontRefIdeal.τ).loc Cert.FrontRefIdeal.main_arg9))

def Claim : Prop :=
  ∃ (hBack : Cert.Back.Facts) (hBackIdeal : Cert.BackIdeal.Facts) (hBackRefIdeal : Cert.BackRefIdeal.Facts) (hFront : Cert.Front.Facts) (hFrontIdeal : Cert.FrontIdeal.Facts) (hFrontRefIdeal : Cert.FrontRefIdeal.Facts),
    quiescent_Back (hBack := hBack)
    ∧ quiescent_BackIdeal (hBackIdeal := hBackIdeal)
    ∧ quiescent_BackRefIdeal (hBackRefIdeal := hBackRefIdeal)
    ∧ quiescent_Front (hFront := hFront)
    ∧ quiescent_FrontIdeal (hFrontIdeal := hFrontIdeal)
    ∧ quiescent_FrontRefIdeal (hFrontRefIdeal := hFrontRefIdeal)
    ∧ preserves_Back_BackIdeal
    ∧ algebraic_BackIdeal_BackRefIdeal (hBackIdeal := hBackIdeal) (hBackRefIdeal := hBackRefIdeal)
    ∧ preserves_Front_FrontIdeal
    ∧ algebraic_FrontIdeal_FrontRefIdeal (hFrontIdeal := hFrontIdeal) (hFrontRefIdeal := hFrontRefIdeal)
-- ==== Back.lean ====
abbrev S3x3072x4096 : Shape := ⟨3, ![3, 3072, 4096]⟩
abbrev S4096 : Shape := ⟨1, ![4096]⟩
abbrev S11008 : Shape := ⟨1, ![11008]⟩
abbrev S1024x4096 : Shape := ⟨2, ![1024, 4096]⟩
abbrev S2752x4096 : Shape := ⟨2, ![2752, 4096]⟩
abbrev S1024x11008 : Shape := ⟨2, ![1024, 11008]⟩
abbrev S_ : Shape := ⟨0, ![]⟩
abbrev S4x1024x4096 : Shape := ⟨3, ![4, 1024, 4096]⟩
abbrev S64x4096 : Shape := ⟨2, ![64, 4096]⟩
abbrev S4x64x4096 : Shape := ⟨3, ![4, 64, 4096]⟩
abbrev S16x4096 : Shape := ⟨2, ![16, 4096]⟩
abbrev S1x64x4096 : Shape := ⟨3, ![1, 64, 4096]⟩
abbrev S4096x4096 : Shape := ⟨2, ![4096, 4096]⟩
abbrev S4x2752x4096 : Shape := ⟨3, ![4, 2752, 4096]⟩
abbrev S11008x4096 : Shape := ⟨2, ![11008, 4096]⟩
abbrev S4x1024x11008 : Shape := ⟨3, ![4, 1024, 11008]⟩
abbrev S64x11008 : Shape := ⟨2, ![64, 11008]⟩
abbrev S4x64x11008 : Shape := ⟨3, ![4, 64, 11008]⟩
abbrev S16x11008 : Shape := ⟨2, ![16, 11008]⟩
abbrev S1x64x11008 : Shape := ⟨3, ![1, 64, 11008]⟩
abbrev S4096x11008 : Shape := ⟨2, ![4096, 11008]⟩
abbrev S9216x4096 : Shape := ⟨2, ![9216, 4096]⟩
abbrev S1x4096 : Shape := ⟨2, ![1, 4096]⟩
abbrev S9216x128 : Shape := ⟨2, ![9216, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1024x128 : Shape := ⟨2, ![1024, 128]⟩
abbrev S512x4096 : Shape := ⟨2, ![512, 4096]⟩
abbrev S1024x512 : Shape := ⟨2, ![1024, 512]⟩
abbrev S1024x1 : Shape := ⟨2, ![1024, 1]⟩
abbrev S2 : Shape := ⟨1, ![2]⟩
abbrev S9216x11008 : Shape := ⟨2, ![9216, 11008]⟩
abbrev S1024x256 : Shape := ⟨2, ![1024, 256]⟩
abbrev S1x11008 : Shape := ⟨2, ![1, 11008]⟩
abbrev S128x11008 : Shape := ⟨2, ![128, 11008]⟩
abbrev S128x128 : Shape := ⟨2, ![128, 128]⟩
abbrev S128 : Shape := ⟨1, ![128]⟩
abbrev S128x1 : Shape := ⟨2, ![128, 1]⟩
abbrev S512x11008 : Shape := ⟨2, ![512, 11008]⟩
abbrev S512x128 : Shape := ⟨2, ![512, 128]⟩
abbrev S256x11008 : Shape := ⟨2, ![256, 11008]⟩
abbrev S512x256 : Shape := ⟨2, ![512, 256]⟩
abbrev S512x1 : Shape := ⟨2, ![512, 1]⟩
abbrev S3x3072x11008 : Shape := ⟨3, ![3, 3072, 11008]⟩
abbrev S9216x1 : Shape := ⟨2, ![9216, 1]⟩
abbrev S9216 : Shape := ⟨1, ![9216]⟩
abbrev S3x3072 : Shape := ⟨2, ![3, 3072]⟩

abbrev nBuf : Space → Nat
  | .hbm => 55
  | .vmem => 69
  | .smem => 3
  | _ => 0

abbrev bufTy : (tb : Table) → Fin (tcTables nBuf tb) → BufTy
  | .hbm, ⟨0, _⟩ => ⟨S3x3072x4096, .bf16⟩
  | .hbm, ⟨1, _⟩ => ⟨S3x3072x4096, .f32⟩
  | .hbm, ⟨2, _⟩ => ⟨S4096, .f32⟩
  | .hbm, ⟨3, _⟩ => ⟨S4096, .f32⟩
  | .hbm, ⟨4, _⟩ => ⟨S11008, .f32⟩
  | .hbm, ⟨5, _⟩ => ⟨S1024x4096, .i8⟩
  | .hbm, ⟨6, _⟩ => ⟨S2752x4096, .i8⟩
  | .hbm, ⟨7, _⟩ => ⟨S2752x4096, .i8⟩
  | .hbm, ⟨8, _⟩ => ⟨S1024x11008, .i8⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x1024x4096, .bf16⟩
  | .hbm, ⟨14, _⟩ => ⟨S4096x4096, .bf16⟩
  | .hbm, ⟨15, _⟩ => ⟨S4x2752x4096, .bf16⟩
  | .hbm, ⟨16, _⟩ => ⟨S11008x4096, .bf16⟩
  | .hbm, ⟨17, _⟩ => ⟨S4x2752x4096, .bf16⟩
  | .hbm, ⟨18, _⟩ => ⟨S11008x4096, .bf16⟩
  | .hbm, ⟨19, _⟩ => ⟨S4x1024x11008, .bf16⟩
  | .hbm, ⟨20, _⟩ => ⟨S4096x11008, .bf16⟩
  | .hbm, ⟨21, _⟩ => ⟨S9216x4096, .bf16⟩
  | .hbm, ⟨22, _⟩ => ⟨S9216x4096, .f32⟩
  | .hbm, ⟨23, _⟩ => ⟨S1x4096, .f32⟩
  | .hbm, ⟨24, _⟩ => ⟨S9216x4096, .i8⟩
  | .hbm, ⟨25, _⟩ => ⟨S9216x128, .f32⟩
  | .hbm, ⟨26, _⟩ => ⟨S1, .f32⟩
  | .hbm, ⟨27, _⟩ => ⟨S9216x4096, .f32⟩
  | .hbm, ⟨28, _⟩ => ⟨S1x4096, .f32⟩
  | .hbm, ⟨29, _⟩ => ⟨S9216x4096, .i8⟩
  | .hbm, ⟨30, _⟩ => ⟨S9216x128, .f32⟩
  | .hbm, ⟨31, _⟩ => ⟨S1, .f32⟩
  | .hbm, ⟨32, _⟩ => ⟨S1, .f32⟩
  | .hbm, ⟨33, _⟩ => ⟨S2, .f32⟩
  | .hbm, ⟨34, _⟩ => ⟨S9216x11008, .f32⟩
  | .hbm, ⟨35, _⟩ => ⟨S9216x11008, .bf16⟩
  | .hbm, ⟨36, _⟩ => ⟨S1x11008, .f32⟩
  | .hbm, ⟨37, _⟩ => ⟨S9216x11008, .i8⟩
  | .hbm, ⟨38, _⟩ => ⟨S9216x128, .f32⟩
  | .hbm, ⟨39, _⟩ => ⟨S1, .f32⟩
  | .hbm, ⟨40, _⟩ => ⟨S9216x4096, .bf16⟩
  | .hbm, ⟨41, _⟩ => ⟨S3x3072x4096, .bf16⟩
  | .hbm, ⟨42, _⟩ => ⟨S3x3072x11008, .bf16⟩
  | .hbm, ⟨43, _⟩ => ⟨S3x3072x4096, .i8⟩
  | .hbm, ⟨44, _⟩ => ⟨S9216x1, .f32⟩
  | .hbm, ⟨45, _⟩ => ⟨S9216, .f32⟩
  | .hbm, ⟨46, _⟩ => ⟨S3x3072, .f32⟩
  | .hbm, ⟨47, _⟩ => ⟨S3x3072x4096, .i8⟩
  | .hbm, ⟨48, _⟩ => ⟨S9216x1, .f32⟩
  | .hbm, ⟨49, _⟩ => ⟨S9216, .f32⟩
  | .hbm, ⟨50, _⟩ => ⟨S3x3072, .f32⟩
  | .hbm, ⟨51, _⟩ => ⟨S3x3072x11008, .i8⟩
  | .hbm, ⟨52, _⟩ => ⟨S9216x1, .f32⟩
  | .hbm, ⟨53, _⟩ => ⟨S9216, .f32⟩
  | .hbm, ⟨54, _⟩ => ⟨S3x3072, .f32⟩
  | .local _ .vmem, ⟨0, _⟩ => ⟨S64x4096, .i8⟩
  | .local _ .vmem, ⟨1, _⟩ => ⟨S64x4096, .i8⟩
  | .local _ .vmem, ⟨2, _⟩ => ⟨S4x64x4096, .bf16⟩
  | .local _ .vmem, ⟨3, _⟩ => ⟨S4x64x4096, .bf16⟩
  | .local _ .vmem, ⟨4, _⟩ => ⟨S64x4096, .i8⟩
  | .local _ .vmem, ⟨5, _⟩ => ⟨S64x4096, .i8⟩
  | .local _ .vmem, ⟨6, _⟩ => ⟨S4x64x4096, .bf16⟩
  | .local _ .vmem, ⟨7, _⟩ => ⟨S4x64x4096, .bf16⟩
  | .local _ .vmem, ⟨8, _⟩ => ⟨S64x4096, .i8⟩
  | .local _ .vmem, ⟨9, _⟩ => ⟨S64x4096, .i8⟩
  | .local _ .vmem, ⟨10, _⟩ => ⟨S4x64x4096, .bf16⟩
  | .local _ .vmem, ⟨11, _⟩ => ⟨S4x64x4096, .bf16⟩
  | .local _ .vmem, ⟨12, _⟩ => ⟨S64x11008, .i8⟩
  | .local _ .vmem, ⟨13, _⟩ => ⟨S64x11008, .i8⟩
  | .local _ .vmem, ⟨14, _⟩ => ⟨S4x64x11008, .bf16⟩
  | .local _ .vmem, ⟨15, _⟩ => ⟨S4x64x11008, .bf16⟩
  | .local _ .vmem, ⟨16, _⟩ => ⟨S256x4096, .f32⟩
  | .local _ .vmem, ⟨17, _⟩ => ⟨S256x4096, .f32⟩
  | .local _ .vmem, ⟨18, _⟩ => ⟨S1x4096, .f32⟩
  | .local _ .vmem, ⟨19, _⟩ => ⟨S256x4096, .i8⟩
  | .local _ .vmem, ⟨20, _⟩ => ⟨S256x4096, .i8⟩
  | .local _ .vmem, ⟨21, _⟩ => ⟨S256x128, .f32⟩
  | .local _ .vmem, ⟨22, _⟩ => ⟨S256x128, .f32⟩
  | .local _ .vmem, ⟨23, _⟩ => ⟨S1024x4096, .i8⟩
  | .local _ .vmem, ⟨24, _⟩ => ⟨S1024x4096, .i8⟩
  | .local _ .vmem, ⟨25, _⟩ => ⟨S1024x128, .f32⟩
  | .local _ .vmem, ⟨26, _⟩ => ⟨S1024x128, .f32⟩
  | .local _ .vmem, ⟨27, _⟩ => ⟨S512x4096, .bf16⟩
  | .local _ .vmem, ⟨28, _⟩ => ⟨S512x4096, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .f32⟩
  | .local _ .vmem, ⟨32, _⟩ => ⟨S1024x512, .f32⟩
  | .local _ .vmem, ⟨33, _⟩ => ⟨S256x4096, .f32⟩
  | .local _ .vmem, ⟨34, _⟩ => ⟨S256x4096, .f32⟩
  | .local _ .vmem, ⟨35, _⟩ => ⟨S1x4096, .f32⟩
  | .local _ .vmem, ⟨36, _⟩ => ⟨S256x4096, .i8⟩
  | .local _ .vmem, ⟨37, _⟩ => ⟨S256x4096, .i8⟩
  | .local _ .vmem, ⟨38, _⟩ => ⟨S256x128, .f32⟩
  | .local _ .vmem, ⟨39, _⟩ => ⟨S256x128, .f32⟩
  | .local _ .vmem, ⟨40, _⟩ => ⟨S1024x4096, .i8⟩
  | .local _ .vmem, ⟨41, _⟩ => ⟨S1024x4096, .i8⟩
  | .local _ .vmem, ⟨42, _⟩ => ⟨S1024x128, .f32⟩
  | .local _ .vmem, ⟨43, _⟩ => ⟨S1024x128, .f32⟩
  | .local _ .vmem, ⟨44, _⟩ => ⟨S256x4096, .bf16⟩
  | .local _ .vmem, ⟨45, _⟩ => ⟨S256x4096, .bf16⟩
  | .local _ .vmem, ⟨46, _⟩ => ⟨S256x4096, .bf16⟩
  | .local _ .vmem, ⟨47, _⟩ => ⟨S256x4096, .bf16⟩
  | .local _ .vmem, ⟨48, _⟩ => ⟨S1024x256, .f32⟩
  | .local _ .vmem, ⟨49, _⟩ => ⟨S1024x256, .f32⟩
  | .local _ .vmem, ⟨50, _⟩ => ⟨S1024x256, .bf16⟩
  | .local _ .vmem, ⟨51, _⟩ => ⟨S1024x256, .bf16⟩
  | .local _ .vmem, ⟨52, _⟩ => ⟨S128x11008, .f32⟩
  | .local _ .vmem, ⟨53, _⟩ => ⟨S128x11008, .f32⟩
  | .local _ .vmem, ⟨54, _⟩ => ⟨S1x11008, .f32⟩
  | .local _ .vmem, ⟨55, _⟩ => ⟨S128x11008, .i8⟩
  | .local _ .vmem, ⟨56, _⟩ => ⟨S128x11008, .i8⟩
  | .local _ .vmem, ⟨57, _⟩ => ⟨S128x128, .f32⟩
  | .local _ .vmem, ⟨58, _⟩ => ⟨S128x128, .f32⟩
  | .local _ .vmem, ⟨59, _⟩ => ⟨S512x11008, .i8⟩
  | .local _ .vmem, ⟨60, _⟩ => ⟨S512x11008, .i8⟩
  | .local _ .vmem, ⟨61, _⟩ => ⟨S512x128, .f32⟩
  | .local _ .vmem, ⟨62, _⟩ => ⟨S512x128, .f32⟩
  | .local _ .vmem, ⟨63, _⟩ => ⟨S256x11008, .bf16⟩
  | .local _ .vmem, ⟨64, _⟩ => ⟨S256x11008, .bf16⟩
  | .local _ .vmem, ⟨65, _⟩ => ⟨S512x256, .f32⟩
  | .local _ .vmem, ⟨66, _⟩ => ⟨S512x256, .f32⟩
  | .local _ .vmem, ⟨67, _⟩ => ⟨S512x256, .bf16⟩
  | .local _ .vmem, ⟨68, _⟩ => ⟨S512x256, .bf16⟩
  | .local _ .smem, ⟨0, _⟩ => ⟨S1, .f32⟩
  | .local _ .smem, ⟨1, _⟩ => ⟨S2, .f32⟩
  | .local _ .smem, ⟨2, _⟩ => ⟨S1, .f32⟩
  | _, _ => ⟨S3x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg2_0 : Ref sig .tc := ⟨.vmem, 19, rfl⟩
abbrev cc4_stg2_1 : Ref sig .tc := ⟨.vmem, 20, rfl⟩
abbrev cc4_stg3_0 : Ref sig .tc := ⟨.vmem, 21, rfl⟩
abbrev cc4_stg3_1 : Ref sig .tc := ⟨.vmem, 22, rfl⟩
abbrev cc5_stg1_0 : Ref sig .tc := ⟨.vmem, 23, rfl⟩
abbrev cc5_stg1_1 : Ref sig .tc := ⟨.vmem, 24, rfl⟩
abbrev cc5_stg2_0 : Ref sig .tc := ⟨.vmem, 25, rfl⟩
abbrev cc5_stg2_1 : Ref sig .tc := ⟨.vmem, 26, rfl⟩
abbrev cc5_stg3_0 : Ref sig .tc := ⟨.vmem, 27, rfl⟩
abbrev cc5_stg3_1 : Ref sig .tc := ⟨.vmem, 28, rfl⟩
abbrev cc5_stg4_0 : Ref sig .tc := ⟨.vmem, 29, rfl⟩
abbrev cc5_stg4_1 : Ref sig .tc := ⟨.vmem, 30, rfl⟩
abbrev cc5_stg5_0 : Ref sig .tc := ⟨.vmem, 31, rfl⟩
abbrev cc5_stg5_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg1_0 : Ref sig .tc := ⟨.vmem, 40, rfl⟩
abbrev cc7_stg1_1 : Ref sig .tc := ⟨.vmem, 41, rfl⟩
abbrev cc7_stg2_0 : Ref sig .tc := ⟨.vmem, 42, rfl⟩
abbrev cc7_stg2_1 : Ref sig .tc := ⟨.vmem, 43, rfl⟩
abbrev cc7_stg3_0 : Ref sig .tc := ⟨.vmem, 44, rfl⟩
abbrev cc7_stg3_1 : Ref sig .tc := ⟨.vmem, 45, rfl⟩
abbrev cc7_stg4_0 : Ref sig .tc := ⟨.vmem, 46, rfl⟩
abbrev cc7_stg4_1 : Ref sig .tc := ⟨.vmem, 47, rfl⟩
abbrev cc7_stg5_0 : Ref sig .tc := ⟨.vmem, 48, rfl⟩
abbrev cc7_stg5_1 : Ref sig .tc := ⟨.vmem, 49, rfl⟩
abbrev cc7_stg6_0 : Ref sig .tc := ⟨.vmem, 50, rfl⟩
abbrev cc7_stg6_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg3_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg2_1 : Ref sig .tc := ⟨.vmem, 62, rfl⟩
abbrev cc9_stg3_0 : Ref sig .tc := ⟨.vmem, 63, rfl⟩
abbrev cc9_stg3_1 : Ref sig .tc := ⟨.vmem, 64, rfl⟩
abbrev cc9_stg4_0 : Ref sig .tc := ⟨.vmem, 65, rfl⟩
abbrev cc9_stg4_1 : Ref sig .tc := ⟨.vmem, 66, rfl⟩
abbrev cc9_stg5_0 : Ref sig .tc := ⟨.vmem, 67, rfl⟩
abbrev cc9_stg5_1 : Ref sig .tc := ⟨.vmem, 68, rfl⟩
abbrev cc5_stg0_0 : Ref sig .tc := ⟨.smem, 0, rfl⟩
abbrev cc7_stg0_0 : Ref sig .tc := ⟨.smem, 1, rfl⟩
abbrev cc9_stg0_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem2_0 : DmaSem sig := 19
abbrev cc4_sem2_1 : DmaSem sig := 20
abbrev cc4_sem3_0 : DmaSem sig := 21
abbrev cc4_sem3_1 : DmaSem sig := 22
abbrev cc5_sem0_0 : DmaSem sig := 23
abbrev cc5_sem1_0 : DmaSem sig := 24
abbrev cc5_sem1_1 : DmaSem sig := 25
abbrev cc5_sem2_0 : DmaSem sig := 26
abbrev cc5_sem2_1 : DmaSem sig := 27
abbrev cc5_sem3_0 : DmaSem sig := 28
abbrev cc5_sem3_1 : DmaSem sig := 29
abbrev cc5_sem4_0 : DmaSem sig := 30
abbrev cc5_sem4_1 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc6_sem3_0 : DmaSem sig := 39
abbrev cc6_sem3_1 : DmaSem sig := 40
abbrev cc7_sem0_0 : DmaSem sig := 41
abbrev cc7_sem1_0 : DmaSem sig := 42
abbrev cc7_sem1_1 : DmaSem sig := 43
abbrev cc7_sem2_0 : DmaSem sig := 44
abbrev cc7_sem2_1 : DmaSem sig := 45
abbrev cc7_sem3_0 : DmaSem sig := 46
abbrev cc7_sem3_1 : DmaSem sig := 47
abbrev cc7_sem4_0 : DmaSem sig := 48
abbrev cc7_sem4_1 : DmaSem sig := 49
abbrev cc7_sem5_0 : DmaSem sig := 50
abbrev cc7_sem5_1 : DmaSem sig := 51
abbrev cc7_sem6_0 : DmaSem sig := 52
abbrev cc7_sem6_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem2_1 : DmaSem sig := 58
abbrev cc8_sem3_0 : DmaSem sig := 59
abbrev cc8_sem3_1 : DmaSem sig := 60
abbrev cc9_sem0_0 : DmaSem sig := 61
abbrev cc9_sem1_0 : DmaSem sig := 62
abbrev cc9_sem1_1 : DmaSem sig := 63
abbrev cc9_sem2_0 : DmaSem sig := 64
abbrev cc9_sem2_1 : DmaSem sig := 65
abbrev cc9_sem3_0 : DmaSem sig := 66
abbrev cc9_sem3_1 : DmaSem sig := 67
abbrev cc9_sem4_0 : DmaSem sig := 68
abbrev cc9_sem4_1 : DmaSem sig := 69
abbrev cc9_sem5_0 : DmaSem sig := 70
abbrev cc9_sem5_1 : DmaSem sig := 71

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S64x4096 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![43], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S64x4096 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x64x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S64x11008 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x64x11008 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![36], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x4096 .i8 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![9, 8], ![false, false]⟩

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .smem S1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S1024x4096 .i8 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S512x4096 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1024x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1024x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨1, ![36], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x4096 .i8 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![9, 43], ![false, false]⟩

def cc7_transform_0 (i : grid7.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .smem S2 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false]

abbrev stage7_1 : Fin 2 → Memref sig .tc .vmem S1024x4096 .i8 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S256x4096 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S256x4096 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![false, true]

abbrev stage7_5 : Fin 2 → Memref sig .tc .vmem S1024x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S1024x256 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev grid8 : Pipeline.Grid := ⟨1, ![72], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x11008 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x11008 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S128x11008 .i8 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S128x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨2, ![18, 16], ![false, false]⟩

def cc9_transform_0 (i : grid9.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .smem S1 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, false]

abbrev stage9_1 : Fin 2 → Memref sig .tc .vmem S512x11008 .i8 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S512x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S256x11008 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![false, true]

abbrev stage9_4 : Fin 2 → Memref sig .tc .vmem S512x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev stage9_5 : Fin 2 → Memref sig .tc .vmem S512x256 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]
-- ==== BackRefIdeal.lean ====
abbrev S3x3072x4096 : Shape := ⟨3, ![3, 3072, 4096]⟩
abbrev S4096 : Shape := ⟨1, ![4096]⟩
abbrev S11008 : Shape := ⟨1, ![11008]⟩
abbrev S1024x4096 : Shape := ⟨2, ![1024, 4096]⟩
abbrev S2752x4096 : Shape := ⟨2, ![2752, 4096]⟩
abbrev S1024x11008 : Shape := ⟨2, ![1024, 11008]⟩
abbrev S_ : Shape := ⟨0, ![]⟩
abbrev S9216x4096 : Shape := ⟨2, ![9216, 4096]⟩
abbrev S1 : Shape := ⟨1, ![1]⟩
abbrev S9216x11008 : Shape := ⟨2, ![9216, 11008]⟩
abbrev S9216 : Shape := ⟨1, ![9216]⟩
abbrev S9216x1 : Shape := ⟨2, ![9216, 1]⟩
abbrev S1x4096 : Shape := ⟨2, ![1, 4096]⟩
abbrev S9216x1024 : Shape := ⟨2, ![9216, 1024]⟩
abbrev S9216x2752 : Shape := ⟨2, ![9216, 2752]⟩
abbrev S1x11008 : Shape := ⟨2, ![1, 11008]⟩
abbrev S3x3072x11008 : Shape := ⟨3, ![3, 3072, 11008]⟩
abbrev S3x3072 : Shape := ⟨2, ![3, 3072]⟩

abbrev nBuf : Space → Nat
  | .hbm => 35
  | .vmem => 17
  | .smem => 4
  | _ => 0

abbrev bufTy : (tb : Table) → Fin (tcTables nBuf tb) → BufTy
  | .hbm, ⟨0, _⟩ => ⟨S3x3072x4096, .bf16⟩
  | .hbm, ⟨1, _⟩ => ⟨S3x3072x4096, .f32⟩
  | .hbm, ⟨2, _⟩ => ⟨S4096, .f32⟩
  | .hbm, ⟨3, _⟩ => ⟨S4096, .f32⟩
  | .hbm, ⟨4, _⟩ => ⟨S11008, .f32⟩
  | .hbm, ⟨5, _⟩ => ⟨S1024x4096, .i8⟩
  | .hbm, ⟨6, _⟩ => ⟨S2752x4096, .i8⟩
  | .hbm, ⟨7, _⟩ => ⟨S2752x4096, .i8⟩
  | .hbm, ⟨8, _⟩ => ⟨S1024x11008, .i8⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S9216x4096, .bf16⟩
  | .hbm, ⟨14, _⟩ => ⟨S9216x4096, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S9216x4096, .bf16⟩
  | .hbm, ⟨20, _⟩ => ⟨S9216x11008, .bf16⟩
  | .hbm, ⟨21, _⟩ => ⟨S9216x4096, .i8⟩
  | .hbm, ⟨22, _⟩ => ⟨S9216, .f32⟩
  | .hbm, ⟨23, _⟩ => ⟨S9216x4096, .i8⟩
  | .hbm, ⟨24, _⟩ => ⟨S9216, .f32⟩
  | .hbm, ⟨25, _⟩ => ⟨S9216x11008, .i8⟩
  | .hbm, ⟨26, _⟩ => ⟨S9216, .f32⟩
  | .hbm, ⟨27, _⟩ => ⟨S3x3072x4096, .bf16⟩
  | .hbm, ⟨28, _⟩ => ⟨S3x3072x11008, .bf16⟩
  | .hbm, ⟨29, _⟩ => ⟨S3x3072x4096, .i8⟩
  | .hbm, ⟨30, _⟩ => ⟨S3x3072, .f32⟩
  | .hbm, ⟨31, _⟩ => ⟨S3x3072x4096, .i8⟩
  | .hbm, ⟨32, _⟩ => ⟨S3x3072, .f32⟩
  | .hbm, ⟨33, _⟩ => ⟨S3x3072x11008, .i8⟩
  | .hbm, ⟨34, _⟩ => ⟨S3x3072, .f32⟩
  | .local _ .vmem, ⟨0, _⟩ => ⟨S9216x4096, .bf16⟩
  | .local _ .vmem, ⟨1, _⟩ => ⟨S9216x4096, .f32⟩
  | .local _ .vmem, ⟨2, _⟩ => ⟨S4096, .f32⟩
  | .local _ .vmem, ⟨3, _⟩ => ⟨S4096, .f32⟩
  | .local _ .vmem, ⟨4, _⟩ => ⟨S11008, .f32⟩
  | .local _ .vmem, ⟨5, _⟩ => ⟨S1024x4096, .i8⟩
  | .local _ .vmem, ⟨6, _⟩ => ⟨S2752x4096, .i8⟩
  | .local _ .vmem, ⟨7, _⟩ => ⟨S2752x4096, .i8⟩
  | .local _ .vmem, ⟨8, _⟩ => ⟨S1024x11008, .i8⟩
  | .local _ .vmem, ⟨9, _⟩ => ⟨S9216x4096, .bf16⟩
  | .local _ .vmem, ⟨10, _⟩ => ⟨S9216x11008, .bf16⟩
  | .local _ .vmem, ⟨11, _⟩ => ⟨S9216x4096, .i8⟩
  | .local _ .vmem, ⟨12, _⟩ => ⟨S9216, .f32⟩
  | .local _ .vmem, ⟨13, _⟩ => ⟨S9216x4096, .i8⟩
  | .local _ .vmem, ⟨14, _⟩ => ⟨S9216, .f32⟩
  | .local _ .vmem, ⟨15, _⟩ => ⟨S9216x11008, .i8⟩
  | .local _ .vmem, ⟨16, _⟩ => ⟨S9216, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S3x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev main_v6_6 : Ref sig .tc := ⟨.hbm, 25, rfl⟩
abbrev main_v6_7 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg13_0 : Ref sig .tc := ⟨.vmem, 9, rfl⟩
abbrev cc0_stg14_0 : Ref sig .tc := ⟨.vmem, 10, rfl⟩
abbrev cc0_stg15_0 : Ref sig .tc := ⟨.vmem, 11, rfl⟩
abbrev cc0_stg16_0 : Ref sig .tc := ⟨.vmem, 12, rfl⟩
abbrev cc0_stg17_0 : Ref sig .tc := ⟨.vmem, 13, rfl⟩
abbrev cc0_stg18_0 : Ref sig .tc := ⟨.vmem, 14, rfl⟩
abbrev cc0_stg19_0 : Ref sig .tc := ⟨.vmem, 15, rfl⟩
abbrev cc0_stg20_0 : Ref sig .tc := ⟨.vmem, 16, rfl⟩
abbrev cc0_stg9_0 : Ref sig .tc := ⟨.smem, 0, rfl⟩
abbrev cc0_stg10_0 : Ref sig .tc := ⟨.smem, 1, rfl⟩
abbrev cc0_stg11_0 : Ref sig .tc := ⟨.smem, 2, rfl⟩
abbrev cc0_stg12_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S9216x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2752x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2752x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x11008 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .smem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S9216x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S9216x11008 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S9216x4096 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S9216 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S9216x4096 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S9216 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S9216x11008 .i8 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S9216 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Front.lean ====
abbrev S3x3072x4096 : Shape := ⟨3, ![3, 3072, 4096]⟩
abbrev S3x3072x64 : Shape := ⟨3, ![3, 3072, 64]⟩
abbrev S4096 : Shape := ⟨1, ![4096]⟩
abbrev S1024x4096 : Shape := ⟨2, ![1024, 4096]⟩
abbrev S256x4096 : Shape := ⟨2, ![256, 4096]⟩
abbrev S_ : Shape := ⟨0, ![]⟩
abbrev S4x1024x4096 : Shape := ⟨3, ![4, 1024, 4096]⟩
abbrev S64x4096 : Shape := ⟨2, ![64, 4096]⟩
abbrev S4x64x4096 : Shape := ⟨3, ![4, 64, 4096]⟩
abbrev S16x4096 : Shape := ⟨2, ![16, 4096]⟩
abbrev S1x64x4096 : Shape := ⟨3, ![1, 64, 4096]⟩
abbrev S4096x4096 : Shape := ⟨2, ![4096, 4096]⟩
abbrev S4x256x4096 : Shape := ⟨3, ![4, 256, 4096]⟩
abbrev S9216x4096 : Shape := ⟨2, ![9216, 4096]⟩
abbrev S1x4096 : Shape := ⟨2, ![1, 4096]⟩
abbrev S9216x128 : Shape := ⟨2, ![9216, 128]⟩
abbrev S256x128 : Shape := ⟨2, ![256, 128]⟩
abbrev S4096x256 : Shape := ⟨2, ![4096, 256]⟩
abbrev S8x256 : Shape := ⟨2, ![8, 256]⟩
abbrev S64x256 : Shape := ⟨2, ![64, 256]⟩
abbrev S4x256 : Shape := ⟨2, ![4, 256]⟩
abbrev S2x256 : Shape := ⟨2, ![2, 256]⟩
abbrev S1x256 : Shape := ⟨2, ![1, 256]⟩
abbrev S128x256 : Shape := ⟨2, ![128, 256]⟩
abbrev S256x1 : Shape := ⟨2, ![256, 1]⟩
abbrev S256 : Shape := ⟨1, ![256]⟩
abbrev S9216x64 : Shape := ⟨2, ![9216, 64]⟩
abbrev S1 : Shape := ⟨1, ![1]⟩
abbrev S3 : Shape := ⟨1, ![3]⟩
abbrev S9216x1024 : Shape := ⟨2, ![9216, 1024]⟩
abbrev S1024x128 : Shape := ⟨2, ![1024, 128]⟩
abbrev S1024x64 : Shape := ⟨2, ![1024, 64]⟩
abbrev S512x4096 : Shape := ⟨2, ![512, 4096]⟩
abbrev S1024x512 : Shape := ⟨2, ![1024, 512]⟩
abbrev S1024x1 : Shape := ⟨2, ![1024, 1]⟩
abbrev S1024 : Shape := ⟨1, ![1024]⟩
abbrev S3x3072x128 : Shape := ⟨3, ![3, 3072, 128]⟩
abbrev S9216x1 : Shape := ⟨2, ![9216, 1]⟩
abbrev S9216 : Shape := ⟨1, ![9216]⟩
abbrev S3x3072 : Shape := ⟨2, ![3, 3072]⟩
abbrev S3x3072x32x128 : Shape := ⟨4, ![3, 3072, 32, 128]⟩
abbrev S3x3072x32 : Shape := ⟨3, ![3, 3072, 32]⟩
abbrev S3x3072x8x128 : Shape := ⟨4, ![3, 3072, 8, 128]⟩
abbrev S3x3072x8 : Shape := ⟨3, ![3, 3072, 8]⟩

abbrev nBuf : Space → Nat
  | .hbm => 42
  | .vmem => 44
  | .smem => 1
  | _ => 0

abbrev bufTy : (tb : Table) → Fin (tcTables nBuf tb) → BufTy
  | .hbm, ⟨0, _⟩ => ⟨S3x3072x4096, .bf16⟩
  | .hbm, ⟨1, _⟩ => ⟨S3x3072x64, .f32⟩
  | .hbm, ⟨2, _⟩ => ⟨S3x3072x64, .f32⟩
  | .hbm, ⟨3, _⟩ => ⟨S4096, .f32⟩
  | .hbm, ⟨4, _⟩ => ⟨S1024x4096, .i8⟩
  | .hbm, ⟨5, _⟩ => ⟨S256x4096, .i8⟩
  | .hbm, ⟨6, _⟩ => ⟨S256x4096, .i8⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x1024x4096, .bf16⟩
  | .hbm, ⟨11, _⟩ => ⟨S4096x4096, .bf16⟩
  | .hbm, ⟨12, _⟩ => ⟨S4x256x4096, .bf16⟩
  | .hbm, ⟨13, _⟩ => ⟨S1024x4096, .bf16⟩
  | .hbm, ⟨14, _⟩ => ⟨S4x256x4096, .bf16⟩
  | .hbm, ⟨15, _⟩ => ⟨S1024x4096, .bf16⟩
  | .hbm, ⟨16, _⟩ => ⟨S9216x4096, .bf16⟩
  | .hbm, ⟨17, _⟩ => ⟨S1x4096, .f32⟩
  | .hbm, ⟨18, _⟩ => ⟨S9216x4096, .i8⟩
  | .hbm, ⟨19, _⟩ => ⟨S9216x128, .f32⟩
  | .hbm, ⟨20, _⟩ => ⟨S9216x64, .f32⟩
  | .hbm, ⟨21, _⟩ => ⟨S9216x64, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S3, .f32⟩
  | .hbm, ⟨26, _⟩ => ⟨S9216x4096, .i8⟩
  | .hbm, ⟨27, _⟩ => ⟨S9216x1024, .i8⟩
  | .hbm, ⟨28, _⟩ => ⟨S9216x1024, .i8⟩
  | .hbm, ⟨29, _⟩ => ⟨S9216x1024, .bf16⟩
  | .hbm, ⟨30, _⟩ => ⟨S9216x128, .f32⟩
  | .hbm, ⟨31, _⟩ => ⟨S3x3072x128, .f32⟩
  | .hbm, ⟨32, _⟩ => ⟨S3x3072x4096, .i8⟩
  | .hbm, ⟨33, _⟩ => ⟨S9216x1, .f32⟩
  | .hbm, ⟨34, _⟩ => ⟨S9216, .f32⟩
  | .hbm, ⟨35, _⟩ => ⟨S3x3072, .f32⟩
  | .hbm, ⟨36, _⟩ => ⟨S3x3072x32x128, .i8⟩
  | .hbm, ⟨37, _⟩ => ⟨S3x3072x32, .f32⟩
  | .hbm, ⟨38, _⟩ => ⟨S3x3072x8x128, .i8⟩
  | .hbm, ⟨39, _⟩ => ⟨S3x3072x8, .f32⟩
  | .hbm, ⟨40, _⟩ => ⟨S3x3072x8x128, .i8⟩
  | .hbm, ⟨41, _⟩ => ⟨S3x3072x8, .f32⟩
  | .local _ .vmem, ⟨0, _⟩ => ⟨S64x4096, .i8⟩
  | .local _ .vmem, ⟨1, _⟩ => ⟨S64x4096, .i8⟩
  | .local _ .vmem, ⟨2, _⟩ => ⟨S4x64x4096, .bf16⟩
  | .local _ .vmem, ⟨3, _⟩ => ⟨S4x64x4096, .bf16⟩
  | .local _ .vmem, ⟨4, _⟩ => ⟨S64x4096, .i8⟩
  | .local _ .vmem, ⟨5, _⟩ => ⟨S64x4096, .i8⟩
  | .local _ .vmem, ⟨6, _⟩ => ⟨S4x64x4096, .bf16⟩
  | .local _ .vmem, ⟨7, _⟩ => ⟨S4x64x4096, .bf16⟩
  | .local _ .vmem, ⟨8, _⟩ => ⟨S64x4096, .i8⟩
  | .local _ .vmem, ⟨9, _⟩ => ⟨S64x4096, .i8⟩
  | .local _ .vmem, ⟨10, _⟩ => ⟨S4x64x4096, .bf16⟩
  | .local _ .vmem, ⟨11, _⟩ => ⟨S4x64x4096, .bf16⟩
  | .local _ .vmem, ⟨12, _⟩ => ⟨S256x4096, .bf16⟩
  | .local _ .vmem, ⟨13, _⟩ => ⟨S256x4096, .bf16⟩
  | .local _ .vmem, ⟨14, _⟩ => ⟨S1x4096, .f32⟩
  | .local _ .vmem, ⟨15, _⟩ => ⟨S256x4096, .i8⟩
  | .local _ .vmem, ⟨16, _⟩ => ⟨S256x4096, .i8⟩
  | .local _ .vmem, ⟨17, _⟩ => ⟨S256x128, .f32⟩
  | .local _ .vmem, ⟨18, _⟩ => ⟨S256x128, .f32⟩
  | .local _ .vmem, ⟨19, _⟩ => ⟨S4096x256, .bf16⟩
  | .local _ .vmem, ⟨20, _⟩ => ⟨S1024x4096, .i8⟩
  | .local _ .vmem, ⟨21, _⟩ => ⟨S1024x4096, .i8⟩
  | .local _ .vmem, ⟨22, _⟩ => ⟨S1024x128, .f32⟩
  | .local _ .vmem, ⟨23, _⟩ => ⟨S1024x128, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S512x4096, .bf16⟩
  | .local _ .vmem, ⟨29, _⟩ => ⟨S512x4096, .bf16⟩
  | .local _ .vmem, ⟨30, _⟩ => ⟨S512x4096, .bf16⟩
  | .local _ .vmem, ⟨31, _⟩ => ⟨S512x4096, .bf16⟩
  | .local _ .vmem, ⟨32, _⟩ => ⟨S512x4096, .bf16⟩
  | .local _ .vmem, ⟨33, _⟩ => ⟨S512x4096, .bf16⟩
  | .local _ .vmem, ⟨34, _⟩ => ⟨S1024x512, .i8⟩
  | .local _ .vmem, ⟨35, _⟩ => ⟨S1024x512, .i8⟩
  | .local _ .vmem, ⟨36, _⟩ => ⟨S1024x512, .i8⟩
  | .local _ .vmem, ⟨37, _⟩ => ⟨S1024x512, .i8⟩
  | .local _ .vmem, ⟨38, _⟩ => ⟨S1024x512, .i8⟩
  | .local _ .vmem, ⟨39, _⟩ => ⟨S1024x512, .i8⟩
  | .local _ .vmem, ⟨40, _⟩ => ⟨S1024x512, .bf16⟩
  | .local _ .vmem, ⟨41, _⟩ => ⟨S1024x512, .bf16⟩
  | .local _ .vmem, ⟨42, _⟩ => ⟨S1024x128, .f32⟩
  | .local _ .vmem, ⟨43, _⟩ => ⟨S1024x128, .f32⟩
  | .local _ .smem, ⟨0, _⟩ => ⟨S3, .f32⟩
  | _, _ => ⟨S3x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg3_1 : Ref sig .tc := ⟨.vmem, 18, rfl⟩
abbrev cc3_scratch0 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg2_1 : Ref sig .tc := ⟨.vmem, 23, rfl⟩
abbrev cc4_stg3_0 : Ref sig .tc := ⟨.vmem, 24, rfl⟩
abbrev cc4_stg3_1 : Ref sig .tc := ⟨.vmem, 25, rfl⟩
abbrev cc4_stg4_0 : Ref sig .tc := ⟨.vmem, 26, rfl⟩
abbrev cc4_stg4_1 : Ref sig .tc := ⟨.vmem, 27, rfl⟩
abbrev cc4_stg5_0 : Ref sig .tc := ⟨.vmem, 28, rfl⟩
abbrev cc4_stg5_1 : Ref sig .tc := ⟨.vmem, 29, rfl⟩
abbrev cc4_stg6_0 : Ref sig .tc := ⟨.vmem, 30, rfl⟩
abbrev cc4_stg6_1 : Ref sig .tc := ⟨.vmem, 31, rfl⟩
abbrev cc4_stg7_0 : Ref sig .tc := ⟨.vmem, 32, rfl⟩
abbrev cc4_stg7_1 : Ref sig .tc := ⟨.vmem, 33, rfl⟩
abbrev cc4_stg8_0 : Ref sig .tc := ⟨.vmem, 34, rfl⟩
abbrev cc4_stg8_1 : Ref sig .tc := ⟨.vmem, 35, rfl⟩
abbrev cc4_stg9_0 : Ref sig .tc := ⟨.vmem, 36, rfl⟩
abbrev cc4_stg9_1 : Ref sig .tc := ⟨.vmem, 37, rfl⟩
abbrev cc4_stg10_0 : Ref sig .tc := ⟨.vmem, 38, rfl⟩
abbrev cc4_stg10_1 : Ref sig .tc := ⟨.vmem, 39, rfl⟩
abbrev cc4_stg11_0 : Ref sig .tc := ⟨.vmem, 40, rfl⟩
abbrev cc4_stg11_1 : Ref sig .tc := ⟨.vmem, 41, rfl⟩
abbrev cc4_stg12_0 : Ref sig .tc := ⟨.vmem, 42, rfl⟩
abbrev cc4_stg12_1 : Ref sig .tc := ⟨.vmem, 43, rfl⟩
abbrev cc4_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem2_1 : DmaSem sig := 16
abbrev cc3_sem3_0 : DmaSem sig := 17
abbrev cc3_sem3_1 : DmaSem sig := 18
abbrev cc4_sem0_0 : DmaSem sig := 19
abbrev cc4_sem1_0 : DmaSem sig := 20
abbrev cc4_sem1_1 : DmaSem sig := 21
abbrev cc4_sem2_0 : DmaSem sig := 22
abbrev cc4_sem2_1 : DmaSem sig := 23
abbrev cc4_sem3_0 : DmaSem sig := 24
abbrev cc4_sem3_1 : DmaSem sig := 25
abbrev cc4_sem4_0 : DmaSem sig := 26
abbrev cc4_sem4_1 : DmaSem sig := 27
abbrev cc4_sem5_0 : DmaSem sig := 28
abbrev cc4_sem5_1 : DmaSem sig := 29
abbrev cc4_sem6_0 : DmaSem sig := 30
abbrev cc4_sem6_1 : DmaSem sig := 31
abbrev cc4_sem7_0 : DmaSem sig := 32
abbrev cc4_sem7_1 : DmaSem sig := 33
abbrev cc4_sem8_0 : DmaSem sig := 34
abbrev cc4_sem8_1 : DmaSem sig := 35
abbrev cc4_sem9_0 : DmaSem sig := 36
abbrev cc4_sem9_1 : DmaSem sig := 37
abbrev cc4_sem10_0 : DmaSem sig := 38
abbrev cc4_sem10_1 : DmaSem sig := 39
abbrev cc4_sem11_0 : DmaSem sig := 40
abbrev cc4_sem11_1 : DmaSem sig := 41
abbrev cc4_sem12_0 : DmaSem sig := 42
abbrev cc4_sem12_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S64x4096 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S64x4096 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x64x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![36], ![false]⟩

@[reducible] def k3_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def k3_mult1 (k3_t1 : Fin k3_t1_loop.trips) : BitVec 32 :=
  let c0_i32 : BitVec 32 := 0#32
  let c1_i32 : BitVec 32 := 1#32
  let arg6 : BitVec 32 := Scf.iv c0_i32 c1_i32 k3_t1
  let c64_i32_18 : BitVec 32 := 64#32
  let v59 : BitVec 32 := Scalar.muli arg6 c64_i32_18
  v59
def k3_off1 (k3_t1 : Fin k3_t1_loop.trips) : Fin 2 → Nat :=
  let c0_i32 : BitVec 32 := 0#32
  let c1_i32 : BitVec 32 := 1#32
  let arg6 : BitVec 32 := Scf.iv c0_i32 c1_i32 k3_t1
  let c64_i32_18 : BitVec 32 := 64#32
  let v59 : BitVec 32 := Scalar.muli arg6 c64_i32_18
  let v60 : BitVec 32 := v59
  let v61 : Index := Scalar.indexCast v60
  let c0_19 : Index := 0#32
  ![v61.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![9, 12], ![false, false]⟩

def k4_cond2 (i : grid4.Coords) : BitVec 1 :=
  let arg1 : BitVec 32 := BitVec.ofNat 32 (i 1).val
  let c8_i32 : BitVec 32 := 8#32
  let v4 : BitVec 1 := Scalar.cmpi .slt arg1 c8_i32
  let v5 : BitVec 32 := Scalar.extui v4
  let c0_i32_1 : BitVec 32 := 0#32
  let v6 : BitVec 1 := Scalar.cmpi .ne v5 c0_i32_1
  v6

def k4_cond3 (i : grid4.Coords) : BitVec 1 :=
  let arg1 : BitVec 32 := BitVec.ofNat 32 (i 1).val
  let c8_i32_2 : BitVec 32 := 8#32
  let v7 : BitVec 1 := Scalar.cmpi .sge arg1 c8_i32_2
  let c10_i32 : BitVec 32 := 10#32
  let v8 : BitVec 1 := Scalar.cmpi .slt arg1 c10_i32
  let v9 : BitVec 1 := Scalar.andi v7 v8
  let v10 : BitVec 32 := Scalar.extui v9
  let c0_i32_3 : BitVec 32 := 0#32
  let v11 : BitVec 1 := Scalar.cmpi .ne v10 c0_i32_3
  v11

def k4_cond4 (i : grid4.Coords) : BitVec 1 :=
  let arg1 : BitVec 32 := BitVec.ofNat 32 (i 1).val
  let c10_i32_4 : BitVec 32 := 10#32
  let v12 : BitVec 1 := Scalar.cmpi .sge arg1 c10_i32_4
  let v13 : BitVec 32 := Scalar.extui v12
  let c0_i32_5 : BitVec 32 := 0#32
  let v14 : BitVec 1 := Scalar.cmpi .ne v13 c0_i32_5
  v14

def k4_cond1 (i : grid4.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc4_transform_6 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc4_transform_7 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let c0_i32_1 : BitVec 32 := 0#32
  ![v3.toNat, c0_i32_0.toNat]

def cc4_transform_8 (i : grid4.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc4_transform_9 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc4_transform_10 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  ![arg0.toNat, v3.toNat]

def cc4_transform_11 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  ![arg0.toNat, v3.toNat]

def cc4_transform_12 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 1 → Memref sig .tc .smem S3 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1024x4096 .i8 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1024x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S512x4096 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![false, true]

abbrev stage4_6 : Fin 2 → Memref sig .tc .vmem S512x4096 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![false, true]

abbrev stage4_7 : Fin 2 → Memref sig .tc .vmem S512x4096 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![false, true]

abbrev stage4_8 : Fin 2 → Memref sig .tc .vmem S1024x512 .i8 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S1024x512 .i8 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 2 → Memref sig .tc .vmem S1024x512 .i8 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, true]

abbrev stage4_11 : Fin 2 → Memref sig .tc .vmem S1024x512 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, true]

abbrev stage4_12 : Fin 2 → Memref sig .tc .vmem S1024x128 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true, false]
-- ==== FrontRefIdeal.lean ====
abbrev S3x3072x4096 : Shape := ⟨3, ![3, 3072, 4096]⟩
abbrev S3x3072x64 : Shape := ⟨3, ![3, 3072, 64]⟩
abbrev S4096 : Shape := ⟨1, ![4096]⟩
abbrev S1024x4096 : Shape := ⟨2, ![1024, 4096]⟩
abbrev S256x4096 : Shape := ⟨2, ![256, 4096]⟩
abbrev S_ : Shape := ⟨0, ![]⟩
abbrev S9216x4096 : Shape := ⟨2, ![9216, 4096]⟩
abbrev S9216x64 : Shape := ⟨2, ![9216, 64]⟩
abbrev S1 : Shape := ⟨1, ![1]⟩
abbrev S9216 : Shape := ⟨1, ![9216]⟩
abbrev S9216x32x128 : Shape := ⟨3, ![9216, 32, 128]⟩
abbrev S9216x32 : Shape := ⟨2, ![9216, 32]⟩
abbrev S9216x8x128 : Shape := ⟨3, ![9216, 8, 128]⟩
abbrev S9216x8 : Shape := ⟨2, ![9216, 8]⟩
abbrev S9216x1 : Shape := ⟨2, ![9216, 1]⟩
abbrev S1x4096 : Shape := ⟨2, ![1, 4096]⟩
abbrev S9216x1024 : Shape := ⟨2, ![9216, 1024]⟩
abbrev S9216x256 : Shape := ⟨2, ![9216, 256]⟩
abbrev S9216x32x64 : Shape := ⟨3, ![9216, 32, 64]⟩
abbrev S9216x1x64 : Shape := ⟨3, ![9216, 1, 64]⟩
abbrev S9216x32x1 : Shape := ⟨3, ![9216, 32, 1]⟩
abbrev S9216x8x64 : Shape := ⟨3, ![9216, 8, 64]⟩
abbrev S9216x8x1 : Shape := ⟨3, ![9216, 8, 1]⟩
abbrev S3x3072 : Shape := ⟨2, ![3, 3072]⟩
abbrev S3x3072x32x128 : Shape := ⟨4, ![3, 3072, 32, 128]⟩
abbrev S3x3072x32 : Shape := ⟨3, ![3, 3072, 32]⟩
abbrev S3x3072x8x128 : Shape := ⟨4, ![3, 3072, 8, 128]⟩
abbrev S3x3072x8 : Shape := ⟨3, ![3, 3072, 8]⟩

abbrev nBuf : Space → Nat
  | .hbm => 32
  | .vmem => 15
  | .smem => 3
  | _ => 0

abbrev bufTy : (tb : Table) → Fin (tcTables nBuf tb) → BufTy
  | .hbm, ⟨0, _⟩ => ⟨S3x3072x4096, .bf16⟩
  | .hbm, ⟨1, _⟩ => ⟨S3x3072x64, .f32⟩
  | .hbm, ⟨2, _⟩ => ⟨S3x3072x64, .f32⟩
  | .hbm, ⟨3, _⟩ => ⟨S4096, .f32⟩
  | .hbm, ⟨4, _⟩ => ⟨S1024x4096, .i8⟩
  | .hbm, ⟨5, _⟩ => ⟨S256x4096, .i8⟩
  | .hbm, ⟨6, _⟩ => ⟨S256x4096, .i8⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S9216x4096, .bf16⟩
  | .hbm, ⟨11, _⟩ => ⟨S9216x64, .f32⟩
  | .hbm, ⟨12, _⟩ => ⟨S9216x64, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S9216x4096, .i8⟩
  | .hbm, ⟨17, _⟩ => ⟨S9216, .f32⟩
  | .hbm, ⟨18, _⟩ => ⟨S9216x32x128, .i8⟩
  | .hbm, ⟨19, _⟩ => ⟨S9216x32, .f32⟩
  | .hbm, ⟨20, _⟩ => ⟨S9216x8x128, .i8⟩
  | .hbm, ⟨21, _⟩ => ⟨S9216x8, .f32⟩
  | .hbm, ⟨22, _⟩ => ⟨S9216x8x128, .i8⟩
  | .hbm, ⟨23, _⟩ => ⟨S9216x8, .f32⟩
  | .hbm, ⟨24, _⟩ => ⟨S3x3072x4096, .i8⟩
  | .hbm, ⟨25, _⟩ => ⟨S3x3072, .f32⟩
  | .hbm, ⟨26, _⟩ => ⟨S3x3072x32x128, .i8⟩
  | .hbm, ⟨27, _⟩ => ⟨S3x3072x32, .f32⟩
  | .hbm, ⟨28, _⟩ => ⟨S3x3072x8x128, .i8⟩
  | .hbm, ⟨29, _⟩ => ⟨S3x3072x8, .f32⟩
  | .hbm, ⟨30, _⟩ => ⟨S3x3072x8x128, .i8⟩
  | .hbm, ⟨31, _⟩ => ⟨S3x3072x8, .f32⟩
  | .local _ .vmem, ⟨0, _⟩ => ⟨S9216x4096, .bf16⟩
  | .local _ .vmem, ⟨1, _⟩ => ⟨S9216x64, .f32⟩
  | .local _ .vmem, ⟨2, _⟩ => ⟨S9216x64, .f32⟩
  | .local _ .vmem, ⟨3, _⟩ => ⟨S4096, .f32⟩
  | .local _ .vmem, ⟨4, _⟩ => ⟨S1024x4096, .i8⟩
  | .local _ .vmem, ⟨5, _⟩ => ⟨S256x4096, .i8⟩
  | .local _ .vmem, ⟨6, _⟩ => ⟨S256x4096, .i8⟩
  | .local _ .vmem, ⟨7, _⟩ => ⟨S9216x4096, .i8⟩
  | .local _ .vmem, ⟨8, _⟩ => ⟨S9216, .f32⟩
  | .local _ .vmem, ⟨9, _⟩ => ⟨S9216x32x128, .i8⟩
  | .local _ .vmem, ⟨10, _⟩ => ⟨S9216x32, .f32⟩
  | .local _ .vmem, ⟨11, _⟩ => ⟨S9216x8x128, .i8⟩
  | .local _ .vmem, ⟨12, _⟩ => ⟨S9216x8, .f32⟩
  | .local _ .vmem, ⟨13, _⟩ => ⟨S9216x8x128, .i8⟩
  | .local _ .vmem, ⟨14, _⟩ => ⟨S9216x8, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S3x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg15_0 : Ref sig .tc := ⟨.vmem, 12, rfl⟩
abbrev cc0_stg16_0 : Ref sig .tc := ⟨.vmem, 13, rfl⟩
abbrev cc0_stg17_0 : Ref sig .tc := ⟨.vmem, 14, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S9216x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9216x4096 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S9216 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S9216x32x128 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S9216x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S9216x8x128 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S9216x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S9216x8x128 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S9216x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.Rows.lean ====
/-
  The mathematics of one row, over the extended reals: normalising a row, the scale and the 8-bit codes
  of a row, and the vector operations that compute them, read at an index. Both programs are read in
  these terms.
-/
module

public import Idealize.ShloMosaic.Lib.Pipeline.ValueKit.Point
public import Idealize.ShloMosaic.Lib.Pointwise
public import Idealize.ShloMosaic.Lib.Routing.Ops

@[expose] public section

set_option maxRecDepth 16384

open Idealize.ShloMosaic

namespace Cert.Rows

/-- An `m × d` matrix shape. -/
abbrev Mat (m d : ℕ) : Shape := ⟨2, ![m, d]⟩
/-- A vector shape of length `m`. -/
abbrev Col (m : ℕ) : Shape := ⟨1, ![m]⟩

section Scalars
variable {F : FTy → Type} [FloatOps F]

/-- The 8-bit code of a value `y` at scale `s`: round `y / s` to even, clip to [-127, 127]. -/
noncomputable def codeOf (y s : F .f32) : BitVec 8 :=
  FloatOps.fptosi 8 (FloatOps.minimumf (Scalar.sitofp .f32 127#32)
    (FloatOps.maximumf (Scalar.sitofp .f32 4294967169#32) (FloatOps.roundeven (FloatOps.divf y s))))

/-- The scale of a row whose largest absolute value is `a`: 1 where `a` is 0, else `a / 127`. -/
noncomputable def scaleOf (a : F .f32) : F .f32 :=
  Scalar.select (FloatOps.cmpf .oeq a (Scalar.ofBits .f32 0x00000000#32)) (Scalar.ofBits .f32 0x3F800000#32)
    (FloatOps.divf a (Scalar.ofBits .f32 0x42FE0000#32))

end Scalars

/-- The largest absolute value of a row. -/
noncomputable def rowMax {d : ℕ} (y : Fin d → EReal) : EReal :=
  Finset.univ.fold max (Ideal.ofBits .f32 0xFF800000#32) fun k => FloatOps.absf (F := Ideal) (φ := .f32) (y k)

/-- A row divided by the root of its mean square (over `n` entries, plus a small constant), times the gain. -/
noncomputable def normed (n : EReal) {d : ℕ} (x g : Fin d → EReal) (k : Fin d) : EReal :=
  Ideal.div (x k) (Ideal.sqrt (Ideal.div (∑ j, x j * x j) n + Ideal.ofBits .f32 0x3727C5AC#32)) * g k

/-- The scale of the normalised row. -/
noncomputable def scale (n : EReal) {d : ℕ} (x g : Fin d → EReal) : EReal :=
  scaleOf (F := Ideal) (rowMax (normed n x g))

/-- The codes of the normalised row. -/
noncomputable def code (n : EReal) {d : ℕ} (x g : Fin d → EReal) (k : Fin d) : BitVec 8 :=
  codeOf (F := Ideal) (normed n x g k) (scale n x g)

/-- Row `r` of a matrix. -/
abbrev row {α : Type} {m d : ℕ} (x : (Mat m d).Idx → α) (r : Fin m) (k : Fin d) : α := x (ix2 r k)
/-- A vector as a function of its position. -/
abbrev vec {α : Type} {d : ℕ} (x : (Col d).Idx → α) (k : Fin d) : α := x (ix1 k)

/-- The codes of a matrix, row by row. -/
noncomputable def codeMat (n : EReal) {m d : ℕ} (x : (Mat m d).Idx → EReal) (g : Fin d → EReal) : (Mat m d).Idx → BitVec 8 :=
  fun i => code n (row x (i 0)) g (i 1)

/-- The scales of a matrix, one per row. -/
noncomputable def scaleVec (n : EReal) {m d : ℕ} (x : (Mat m d).Idx → EReal) (g : Fin d → EReal) : (Col m).Idx → EReal :=
  fun i => scale n (row x (i 0)) g

/-- The scales of a matrix, repeated over the lanes of each row. -/
noncomputable def laneMat (n : EReal) {m d : ℕ} (x : (Mat m d).Idx → EReal) (g : Fin d → EReal) (l : ℕ) : (Mat m l).Idx → EReal :=
  fun i => scale n (row x (i 0)) g

/-- The inner product of a row of codes with a row of weights. -/
noncomputable def dot {d : ℕ} (c : Fin d → BitVec 8) (w : Fin d → EReal) : EReal :=
  ∑ x, FloatOps.sitofp (F := Ideal) .bf16 (c x) * w x

/-- The quantised product: codes times weights, times the row's scale, times the weights' scale. -/
noncomputable def lin {d : ℕ} (c : Fin d → BitVec 8) (w : Fin d → EReal) (s ws : EReal) : EReal := dot c w * s * ws

/-- The feed-forward hidden value: the square of the rectified gate, times the up projection. -/
noncomputable def hiddenOf (g u : EReal) : EReal := max g 0 * max g 0 * u

/-- A residual plus a quantised product, for every row of codes and every row of weights. -/
noncomputable def resLin {m n d : ℕ} (x : (Mat m n).Idx → EReal) (c : (Mat m d).Idx → BitVec 8) (s : Fin m → EReal)
    (w : Fin n → Fin d → EReal) (ws : EReal) : (Mat m n).Idx → EReal :=
  fun i => x i + lin (row c (i 0)) (w (i 1)) (s (i 0)) ws

/-- The feed-forward hidden rows: gate and up are two quantised products of the same codes. -/
noncomputable def hidMat {m n d : ℕ} (c : (Mat m d).Idx → BitVec 8) (s : Fin m → EReal)
    (wg wu : Fin n → Fin d → EReal) (wsg wsu : EReal) : (Mat m n).Idx → EReal :=
  fun i => hiddenOf (lin (row c (i 0)) (wg (i 1)) (s (i 0)) wsg) (lin (row c (i 0)) (wu (i 1)) (s (i 0)) wsu)

/-- A weight packed as field `j` of a byte: the two bits there, minus 1. -/
noncomputable def wt (p : BitVec 8) (j : ℕ) : EReal :=
  FloatOps.sitofp (F := Ideal) .bf16
    (IntOp.subi (IntOp.andi (IntOp.shrsi ArithUnit.vector (p.setWidth 32) (BitVec.ofNat 32 (2 * j))) 3#32) 1#32)

/-- All fields of the packed weights: field `j` of packed row `a` at index `(j, a, l)`. -/
noncomputable def unpackMat {R d : ℕ} (w : (Mat R d).Idx → BitVec 8) : (⟨3, ![4, R, d]⟩ : Shape).Idx → EReal :=
  fun i => wt (w (ix2 (i 1) (i 2))) (i 0).val

/-- Row `n` of the unpacked weights: field `n / R` of packed row `n % R`. -/
noncomputable def wrow {R d : ℕ} (hR : 0 < R) (w : (Mat R d).Idx → BitVec 8) (n : ℕ) (x : Fin d) : EReal :=
  wt (w (ix2 ⟨n % R, Nat.mod_lt _ hR⟩ x)) (n / R)

/-! ## Vector operations at an index -/

theorem castCol {α : Type} {m : ℕ} (z : (Col m).Idx → α) (h : (Col m).ShapeCasts (Mat m 1)) (r : Fin m) (k : Fin 1) :
    shapeCast (Mat m 1) z h (ix2 r k) = z (ix1 r) := by
  rw [ix2_eq_valueIdx, ix1_eq_valueIdx]
  exact Routing.cast12 z h r k r (by simp)

theorem bcCol {α : Type} {m d : ℕ} (z : (Mat m 1).Idx → α) (h : (Mat m 1).Broadcasts (Mat m d)) (r : Fin m) (k : Fin d) :
    broadcastTo (Mat m d) z h (ix2 r k) = z (ix2 r 0) := by
  pointwise
  refine congrArg z (funext fun a => ?_)
  match a with
  | ⟨0, _⟩ =>
    by_cases h1 : m = 1
    · subst h1; exact Subsingleton.elim (α := Fin 1) _ _
    · simp only [Shape.Idx.norm, ix2]; rw [dif_neg (by simpa using h1)]; rfl
  | ⟨1, _⟩ => exact Subsingleton.elim (α := Fin 1) _ _

theorem maxRed {m d : ℕ} (z : FVec Ideal (Mat m d) .f32) (h : (Mat m d).Reduces [1] (Col m)) (hφ) (hacc) (r : Fin m) :
    multiReduction (F := Ideal) .maximumf [1] (Col m) z 0xFF800000#32 h hφ hacc (ix1 r)
      = Finset.univ.fold max (Ideal.ofBits .f32 0xFF800000#32) fun x : Fin d => z (ix2 r x) := by
  rw [Ideal.multiReduction_maximumf_single]
  refine congrArg (Finset.fold max _ · Finset.univ) (funext fun x => congrArg z ?_)
  funext a; fin_cases a <;> rfl

end Cert.Rows
-- ==== Proof.Back.lean ====
/-
  The back half of the layer as mathematics over the extended reals, row by row: normalise and quantise
  the attention output, project it and add the residual, normalise and quantise that, gate and up
  projections with the squared rectifier, normalise and quantise the hidden rows, project down and add
  the residual. Both programs are shown to compute these matrices.
-/
module

public import proofs.«01_k».proof.Proof.Rows

@[expose] public section

noncomputable section

namespace Cert

open Idealize.ShloMosaic Cert.Rows

/-- The length of a model row, as the divisor of its mean square. -/
abbrev nModel : EReal := Ideal.ofBits .f32 0x45800000#32
/-- The length of a hidden row, as the divisor of its mean square. -/
abbrev nHidden : EReal := Ideal.ofBits .f32 0x462C0000#32

/-- The inputs: the attention output and the residual, one row per token; the three gains; the four
    packed weight matrices; their scales. -/
structure Back where
  attn : (Mat 9216 4096).Idx → EReal
  x : (Mat 9216 4096).Idx → EReal
  gAttn : Fin 4096 → EReal
  gPost : Fin 4096 → EReal
  gHidden : Fin 11008 → EReal
  wOut : (Mat 1024 4096).Idx → BitVec 8
  wGate : (Mat 2752 4096).Idx → BitVec 8
  wUp : (Mat 2752 4096).Idx → BitVec 8
  wDown : (Mat 1024 11008).Idx → BitVec 8
  sOut : EReal
  sGate : EReal
  sUp : EReal
  sDown : EReal

namespace Back
variable (b : Back)

/-- Codes and scales of the attention output. -/
def attnCodes : (Mat 9216 4096).Idx → BitVec 8 := codeMat nModel b.attn b.gAttn
def attnScales : (Col 9216).Idx → EReal := scaleVec nModel b.attn b.gAttn
/-- The residual stream after the output projection. -/
def h1 : (Mat 9216 4096).Idx → EReal :=
  resLin b.x b.attnCodes (vec b.attnScales) (fun n => wrow (by decide) b.wOut n.val) b.sOut
/-- Codes and scales of the residual stream. -/
def postCodes : (Mat 9216 4096).Idx → BitVec 8 := codeMat nModel b.h1 b.gPost
def postScales : (Col 9216).Idx → EReal := scaleVec nModel b.h1 b.gPost
/-- The feed-forward hidden rows. -/
def hid : (Mat 9216 11008).Idx → EReal :=
  hidMat b.postCodes (vec b.postScales) (fun n => wrow (by decide) b.wGate n.val) (fun n => wrow (by decide) b.wUp n.val) b.sGate b.sUp
/-- Codes and scales of the hidden rows. -/
def hidCodes : (Mat 9216 11008).Idx → BitVec 8 := codeMat nHidden b.hid b.gHidden
def hidScales : (Col 9216).Idx → EReal := scaleVec nHidden b.hid b.gHidden
/-- The layer's output. -/
def out : (Mat 9216 4096).Idx → EReal :=
  resLin b.h1 b.hidCodes (vec b.hidScales) (fun n => wrow (by decide) b.wDown n.val) b.sDown

end Back
end Cert
-- ==== Proof.Layout.lean ====
/-
  Layout operations of the host between the calls, read at an index, and the congruences of the row mathematics.
-/
module

public import proofs.«01_k».proof.Proof.Back

@[expose] public section

set_option maxRecDepth 16384

noncomputable section

namespace Cert.Layout

open Idealize.ShloMosaic Idealize.ShloMosaic.TcCoe Idealize.ShloMosaic.Pipeline Cert.Rows

/-- The unpacked weights with the fields laid out as rows. -/
theorem row_unpack {R d N : ℕ} (hR : 0 < R) (w : (Mat R d).Idx → BitVec 8) (h : (⟨3, ![4, R, d]⟩ : Shape).ShapeCasts (Mat N d))
    (hN : N = 4 * R) (n : Fin N) (x : Fin d) : shapeCast (Mat N d) (unpackMat w) h (ix2 n x) = wrow hR w n.val x := by
  have hq : n.val / R < 4 := (Nat.div_lt_iff_lt_mul hR).mpr (by have := n.isLt; omega)
  refine (shapeCast_apply (unpackMat w) h (ix2 n x) (ix3 ⟨n.val / R, hq⟩ ⟨n.val % R, Nat.mod_lt _ hR⟩ x) ?_).trans rfl
  rw [Shape.rowMajor_val_two, Shape.rowMajor_val_three]
  show (n.val / R * R + n.val % R) * d + x.val = n.val * d + x.val
  rw [Nat.div_add_mod']

/-- A vector stored as a matrix of one row. -/
theorem row_one {d : ℕ} {α : Type} (g : (Col d).Idx → α) (h : (Col d).ShapeCasts (Mat 1 d)) :
    row (shapeCast (Mat 1 d) g h) 0 = vec g := funext fun k => by
  refine shapeCast_apply g h (ix2 0 k) (ix1 k) ?_
  rw [Shape.rowMajor_val_one, Shape.rowMajor_val_two]
  show k.val = 0 * d + k.val
  omega

/-- The first lane of the repeated scales. -/
theorem lane_vec (n : EReal) {m d l : ℕ} (x : (Mat m d).Idx → EReal) (g : Fin d → EReal) (hl : 0 < l)
    (h : (Mat m l).Slices ![0, 0] (Mat m 1)) (h' : (Mat m 1).ShapeCasts (Col m)) :
    shapeCast (Col m) (extractStridedSlice (Mat m 1) ![0, 0] (laneMat n x g l) h) h' = scaleVec n x g := funext fun i => by
  obtain ⟨r, rfl⟩ : ∃ r : Fin m, i = ix1 r := ⟨i 0, eq_ix1 i⟩
  rw [ix1_eq_valueIdx]
  refine (Routing.cast21 _ h' r 0 r (by simp)).trans ?_
  exact Routing.slice_col0 (laneMat n x g l) h r hl

theorem resLin_congr {m n d : ℕ} {x x' : (Mat m n).Idx → EReal} {c c' : (Mat m d).Idx → BitVec 8} {s s' : Fin m → EReal}
    {w w' : Fin n → Fin d → EReal} {ws ws' : EReal} (hx : x = x') (hc : c = c') (hs : s = s') (hw : w = w') (hws : ws = ws') :
    resLin x c s w ws = resLin x' c' s' w' ws' := by subst hx hc hs hw hws; rfl

theorem hidMat_congr {m n d : ℕ} {c c' : (Mat m d).Idx → BitVec 8} {s s' : Fin m → EReal}
    {w w' u u' : Fin n → Fin d → EReal} {ws ws' us us' : EReal} (hc : c = c') (hs : s = s') (hw : w = w') (hu : u = u')
    (hws : ws = ws') (hus : us = us') :
    hidMat c s w u ws us = hidMat c' s' w' u' ws' us' := by subst hc hs hw hu hws hus; rfl

theorem codeMat_congr (n : EReal) {m d : ℕ} {x x' : (Mat m d).Idx → EReal} {g g' : Fin d → EReal} (hx : x = x') (hg : g = g') :
    codeMat n x g = codeMat n x' g' := by subst hx hg; rfl

theorem laneMat_congr (n : EReal) {m d : ℕ} {x x' : (Mat m d).Idx → EReal} {g g' : Fin d → EReal} (l : ℕ) (hx : x = x') (hg : g = g') :
    laneMat n x g l = laneMat n x' g' l := by subst hx hg; rfl

end Cert.Layout
-- ==== Proof.Unpack.lean ====
/-
  The four 2-bit fields of a byte: reading four bytes as one word, shifting and masking the word and reading
  it as bytes again takes the same field of each byte; converted to a float, minus 1, that is the weight.
-/
module

public import proofs.«01_k».proof.Proof.Rows
public import Idealize.ShloMosaic.Lib.BitcastFour
public import Idealize.ShloMosaic.Lib.IdealHost

@[expose] public section

set_option maxRecDepth 16384

open Idealize.ShloMosaic

namespace Cert.Rows

variable {R r n : ℕ}

/-- A word read as bytes: bit `i` of byte row `a` is bit `8 (a % 4) + i` of word row `a / 4`. -/
theorem byte_of_word (y : (Mat r n).Idx → BitVec 32) (h : (Mat r n).Bitcasts 32 (Mat R n) 8) (a : Fin R) (l : Fin n)
    (i : ℕ) (hi : i < 8) (p : Fin r) (hp : p.val = a.val / 4) :
    (bitcast (Mat R n) 8 y h (ix2 a l)).getLsbD i = (y (ix2 p l)).getLsbD (8 * (a.val % 4) + i) := by
  rw [bitcast_getLsbD y h _ i hi (by decide)]
  have hrow : (Mat R n).row (ix2 a l) = a.val := rfl
  have e1 : ((Mat R n).row (ix2 a l) * 8 + i) / 32 = a.val / 4 := by rw [hrow]; omega
  have e2 : ((Mat R n).row (ix2 a l) * 8 + i) % 32 = 8 * (a.val % 4) + i := by rw [hrow]; omega
  rw [e2]
  congr 2
  funext c
  match c with
  | ⟨0, _⟩ => exact Fin.ext ((h.srcIdx_row _ _ _ ⟨0, Nat.zero_lt_two⟩ rfl).trans (e1.trans hp.symm))
  | ⟨1, _⟩ => exact Fin.ext (h.srcIdx_other _ _ _ ⟨1, Nat.one_lt_two⟩ (by show ¬ 1 + 2 = 2; omega))

theorem mask_getLsbD : ∀ q : Fin 32, (50529027#32 : BitVec 32).getLsbD q.val = decide (q.val % 8 < 2) := by decide

theorem three_getLsbD : ∀ q : Fin 8, (3#8 : BitVec 8).getLsbD q.val = decide (q.val < 2) := by decide

/-- Shifting and masking the word takes field `j` of each of its bytes. -/
theorem field_of_byte (x : (Mat R n).Idx → BitVec 8) (h : (Mat R n).Bitcasts 8 (Mat r n) 32)
    (h' : (Mat r n).Bitcasts 32 (Mat R n) 8) (hR : R = 4 * r) (c : BitVec 32) (j : ℕ) (hj : j < 4) (hc : c = BitVec.ofNat 32 (2 * j))
    (a : Fin R) (l : Fin n) :
    bitcast (Mat R n) 8 (andi (shrsi (bitcast (Mat r n) 32 x h) (broadcast (Mat r n) c)) (broadcast (Mat r n) 50529027#32)) h' (ix2 a l)
      = (x (ix2 a l) >>> (2 * j)) &&& 3#8 := by
  apply BitVec.eq_of_getLsbD_eq
  intro i hi
  have ha := a.isLt
  rw [byte_of_word _ h' a l i hi ⟨a.val / 4, by omega⟩ rfl]
  have hcn : c.toNat = 2 * j := by rw [hc, BitVec.toNat_ofNat]; exact Nat.mod_eq_of_lt (by omega)
  show (IntOp.andi (IntOp.shrsi .vector (bitcast (Mat r n) 32 x h (ix2 _ l)) c) 50529027#32).getLsbD _ = _
  unfold IntOp.andi IntOp.shrsi
  rw [if_pos (by rw [hcn]; omega), BitVec.getLsbD_and, BitVec.getLsbD_and, BitVec.sshiftRight_eq', hcn, BitVec.getLsbD_sshiftRight,
    mask_getLsbD ⟨8 * (a.val % 4) + i, by omega⟩, three_getLsbD ⟨i, hi⟩, BitVec.getLsbD_ushiftRight]
  have e8 : (8 * (a.val % 4) + i) % 8 = i := by omega
  simp only [e8]
  by_cases h2 : i < 2
  · have hq : 2 * j + (8 * (a.val % 4) + i) < 32 := by omega
    have hlt : ¬ (32 ≤ 8 * (a.val % 4) + i) := by omega
    rw [ix2_eq_valueIdx, bitcast_8_32_getLsbD_ix2 x h _ l _ hq a (by show a.val = 4 * (a.val / 4) + _; omega)]
    have e3 : (2 * j + (8 * (a.val % 4) + i)) % 8 = 2 * j + i := by omega
    simp [h2, hq, e3, ix2_eq_valueIdx, hlt]
  · simp [h2]

theorem wt_toInt : ∀ p : BitVec 8, ∀ j : Fin 4,
    ((p >>> (2 * j.val)) &&& 3#8).toInt - 1
      = (IntOp.subi (IntOp.andi (IntOp.shrsi ArithUnit.vector (p.setWidth 32) (BitVec.ofNat 32 (2 * j.val))) 3#32) 1#32).toInt := by
  decide +kernel

/-- The field as a float, minus 1, is the weight. -/
theorem wt_of_field (p : BitVec 8) (j : ℕ) (hj : j < 4) :
    FloatOps.subf (F := Ideal) (φ := .bf16) (FloatOps.sitofp .bf16 ((p >>> (2 * j)) &&& 3#8)) (Scalar.ofBits .bf16 0x3F80#16) = wt p j := by
  have h := wt_toInt p ⟨j, hj⟩
  show (((_ : ℤ) : ℝ) : EReal) - Ideal.ofBits .bf16 0x3F80#16 = (((IntOp.subi _ _ : BitVec 32).toInt : ℝ) : EReal)
  rw [Ideal.ofBits_one_bf16, ← h, Int.cast_sub, EReal.coe_sub, Int.cast_one, EReal.coe_one]

end Cert.Rows
-- ==== Proof.UnpackK.lean ====
/-
  The payloads of the weight-unpacking kernels, read at an index: each stores one field of the packed bytes.
-/
module

public import proofs.«01_k».proof.Proof.Unpack
public import proofs.«01_k».proof.Proof.Gen.BackIdeal.Skeleton

@[expose] public section

set_option maxRecDepth 16384

namespace Cert.UnpackK

open Idealize.ShloMosaic Idealize.ShloMosaic.TcCoe Idealize.ShloMosaic.Pipeline Cert.Rows
open Cert.BackIdeal Cert.BackIdeal.Gen

/-- Field 0 of the packed bytes. -/
theorem field0_0 (v0 : Vec Ideal S64x4096 .i8) (a : Fin 64) (l : Fin 4096) :
    k0_pay3 v0 (ix3 0 a l) = wt (v0 (ix2 a l)) 0 := by
  have e := field_of_byte (R := 64) (r := 16) (n := 4096) v0 bitcasts_S64x4096_w8_S16x4096_w32 bitcasts_S16x4096_w32_S64x4096_w8 rfl 0#32 0 (by decide) rfl a l
  rw [← wt_of_field _ 0 (by decide), ← e]
  unfold k0_pay3 k0_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 1 of the packed bytes. -/
theorem field0_1 (v0 : Vec Ideal S64x4096 .i8) (a : Fin 64) (l : Fin 4096) :
    k0_pay4 v0 (ix3 0 a l) = wt (v0 (ix2 a l)) 1 := by
  have e := field_of_byte (R := 64) (r := 16) (n := 4096) v0 bitcasts_S64x4096_w8_S16x4096_w32 bitcasts_S16x4096_w32_S64x4096_w8 rfl 2#32 1 (by decide) rfl a l
  rw [← wt_of_field _ 1 (by decide), ← e]
  unfold k0_pay4 k0_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 2 of the packed bytes. -/
theorem field0_2 (v0 : Vec Ideal S64x4096 .i8) (a : Fin 64) (l : Fin 4096) :
    k0_pay5 v0 (ix3 0 a l) = wt (v0 (ix2 a l)) 2 := by
  have e := field_of_byte (R := 64) (r := 16) (n := 4096) v0 bitcasts_S64x4096_w8_S16x4096_w32 bitcasts_S16x4096_w32_S64x4096_w8 rfl 4#32 2 (by decide) rfl a l
  rw [← wt_of_field _ 2 (by decide), ← e]
  unfold k0_pay5 k0_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 3 of the packed bytes. -/
theorem field0_3 (v0 : Vec Ideal S64x4096 .i8) (a : Fin 64) (l : Fin 4096) :
    k0_pay1 (F := Ideal) (k0_pay2 v0) 6#32 (ix3 0 a l) = wt (v0 (ix2 a l)) 3 := by
  have e := field_of_byte (R := 64) (r := 16) (n := 4096) v0 bitcasts_S64x4096_w8_S16x4096_w32 bitcasts_S16x4096_w32_S64x4096_w8 rfl 6#32 3 (by decide) rfl a l
  rw [← wt_of_field _ 3 (by decide), ← e]
  unfold k0_pay1 k0_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 0 of the packed bytes. -/
theorem field1_0 (v0 : Vec Ideal S64x4096 .i8) (a : Fin 64) (l : Fin 4096) :
    k1_pay3 v0 (ix3 0 a l) = wt (v0 (ix2 a l)) 0 := by
  have e := field_of_byte (R := 64) (r := 16) (n := 4096) v0 bitcasts_S64x4096_w8_S16x4096_w32 bitcasts_S16x4096_w32_S64x4096_w8 rfl 0#32 0 (by decide) rfl a l
  rw [← wt_of_field _ 0 (by decide), ← e]
  unfold k1_pay3 k1_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 1 of the packed bytes. -/
theorem field1_1 (v0 : Vec Ideal S64x4096 .i8) (a : Fin 64) (l : Fin 4096) :
    k1_pay4 v0 (ix3 0 a l) = wt (v0 (ix2 a l)) 1 := by
  have e := field_of_byte (R := 64) (r := 16) (n := 4096) v0 bitcasts_S64x4096_w8_S16x4096_w32 bitcasts_S16x4096_w32_S64x4096_w8 rfl 2#32 1 (by decide) rfl a l
  rw [← wt_of_field _ 1 (by decide), ← e]
  unfold k1_pay4 k1_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 2 of the packed bytes. -/
theorem field1_2 (v0 : Vec Ideal S64x4096 .i8) (a : Fin 64) (l : Fin 4096) :
    k1_pay5 v0 (ix3 0 a l) = wt (v0 (ix2 a l)) 2 := by
  have e := field_of_byte (R := 64) (r := 16) (n := 4096) v0 bitcasts_S64x4096_w8_S16x4096_w32 bitcasts_S16x4096_w32_S64x4096_w8 rfl 4#32 2 (by decide) rfl a l
  rw [← wt_of_field _ 2 (by decide), ← e]
  unfold k1_pay5 k1_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 3 of the packed bytes. -/
theorem field1_3 (v0 : Vec Ideal S64x4096 .i8) (a : Fin 64) (l : Fin 4096) :
    k1_pay1 (F := Ideal) (k1_pay2 v0) 6#32 (ix3 0 a l) = wt (v0 (ix2 a l)) 3 := by
  have e := field_of_byte (R := 64) (r := 16) (n := 4096) v0 bitcasts_S64x4096_w8_S16x4096_w32 bitcasts_S16x4096_w32_S64x4096_w8 rfl 6#32 3 (by decide) rfl a l
  rw [← wt_of_field _ 3 (by decide), ← e]
  unfold k1_pay1 k1_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 0 of the packed bytes. -/
theorem field2_0 (v0 : Vec Ideal S64x4096 .i8) (a : Fin 64) (l : Fin 4096) :
    k2_pay3 v0 (ix3 0 a l) = wt (v0 (ix2 a l)) 0 := by
  have e := field_of_byte (R := 64) (r := 16) (n := 4096) v0 bitcasts_S64x4096_w8_S16x4096_w32 bitcasts_S16x4096_w32_S64x4096_w8 rfl 0#32 0 (by decide) rfl a l
  rw [← wt_of_field _ 0 (by decide), ← e]
  unfold k2_pay3 k2_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 1 of the packed bytes. -/
theorem field2_1 (v0 : Vec Ideal S64x4096 .i8) (a : Fin 64) (l : Fin 4096) :
    k2_pay4 v0 (ix3 0 a l) = wt (v0 (ix2 a l)) 1 := by
  have e := field_of_byte (R := 64) (r := 16) (n := 4096) v0 bitcasts_S64x4096_w8_S16x4096_w32 bitcasts_S16x4096_w32_S64x4096_w8 rfl 2#32 1 (by decide) rfl a l
  rw [← wt_of_field _ 1 (by decide), ← e]
  unfold k2_pay4 k2_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 2 of the packed bytes. -/
theorem field2_2 (v0 : Vec Ideal S64x4096 .i8) (a : Fin 64) (l : Fin 4096) :
    k2_pay5 v0 (ix3 0 a l) = wt (v0 (ix2 a l)) 2 := by
  have e := field_of_byte (R := 64) (r := 16) (n := 4096) v0 bitcasts_S64x4096_w8_S16x4096_w32 bitcasts_S16x4096_w32_S64x4096_w8 rfl 4#32 2 (by decide) rfl a l
  rw [← wt_of_field _ 2 (by decide), ← e]
  unfold k2_pay5 k2_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 3 of the packed bytes. -/
theorem field2_3 (v0 : Vec Ideal S64x4096 .i8) (a : Fin 64) (l : Fin 4096) :
    k2_pay1 (F := Ideal) (k2_pay2 v0) 6#32 (ix3 0 a l) = wt (v0 (ix2 a l)) 3 := by
  have e := field_of_byte (R := 64) (r := 16) (n := 4096) v0 bitcasts_S64x4096_w8_S16x4096_w32 bitcasts_S16x4096_w32_S64x4096_w8 rfl 6#32 3 (by decide) rfl a l
  rw [← wt_of_field _ 3 (by decide), ← e]
  unfold k2_pay1 k2_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 0 of the packed bytes. -/
theorem field3_0 (v0 : Vec Ideal S64x11008 .i8) (a : Fin 64) (l : Fin 11008) :
    k3_pay3 v0 (ix3 0 a l) = wt (v0 (ix2 a l)) 0 := by
  have e := field_of_byte (R := 64) (r := 16) (n := 11008) v0 bitcasts_S64x11008_w8_S16x11008_w32 bitcasts_S16x11008_w32_S64x11008_w8 rfl 0#32 0 (by decide) rfl a l
  rw [← wt_of_field _ 0 (by decide), ← e]
  unfold k3_pay3 k3_pay2
  generalize bitcast S64x11008 8 _ bitcasts_S16x11008_w32_S64x11008_w8 = z
  have es : ∀ q : FVec Ideal S64x11008 .bf16, shapeCast S1x64x11008 q shapeCasts_S64x11008_S1x64x11008 (ix3 0 a l) = q (ix2 a l) := by
    intro q; pointwise
  exact es _

/-- Field 1 of the packed bytes. -/
theorem field3_1 (v0 : Vec Ideal S64x11008 .i8) (a : Fin 64) (l : Fin 11008) :
    k3_pay4 v0 (ix3 0 a l) = wt (v0 (ix2 a l)) 1 := by
  have e := field_of_byte (R := 64) (r := 16) (n := 11008) v0 bitcasts_S64x11008_w8_S16x11008_w32 bitcasts_S16x11008_w32_S64x11008_w8 rfl 2#32 1 (by decide) rfl a l
  rw [← wt_of_field _ 1 (by decide), ← e]
  unfold k3_pay4 k3_pay2
  generalize bitcast S64x11008 8 _ bitcasts_S16x11008_w32_S64x11008_w8 = z
  have es : ∀ q : FVec Ideal S64x11008 .bf16, shapeCast S1x64x11008 q shapeCasts_S64x11008_S1x64x11008 (ix3 0 a l) = q (ix2 a l) := by
    intro q; pointwise
  exact es _

/-- Field 2 of the packed bytes. -/
theorem field3_2 (v0 : Vec Ideal S64x11008 .i8) (a : Fin 64) (l : Fin 11008) :
    k3_pay5 v0 (ix3 0 a l) = wt (v0 (ix2 a l)) 2 := by
  have e := field_of_byte (R := 64) (r := 16) (n := 11008) v0 bitcasts_S64x11008_w8_S16x11008_w32 bitcasts_S16x11008_w32_S64x11008_w8 rfl 4#32 2 (by decide) rfl a l
  rw [← wt_of_field _ 2 (by decide), ← e]
  unfold k3_pay5 k3_pay2
  generalize bitcast S64x11008 8 _ bitcasts_S16x11008_w32_S64x11008_w8 = z
  have es : ∀ q : FVec Ideal S64x11008 .bf16, shapeCast S1x64x11008 q shapeCasts_S64x11008_S1x64x11008 (ix3 0 a l) = q (ix2 a l) := by
    intro q; pointwise
  exact es _

/-- Field 3 of the packed bytes. -/
theorem field3_3 (v0 : Vec Ideal S64x11008 .i8) (a : Fin 64) (l : Fin 11008) :
    k3_pay1 (F := Ideal) (k3_pay2 v0) 6#32 (ix3 0 a l) = wt (v0 (ix2 a l)) 3 := by
  have e := field_of_byte (R := 64) (r := 16) (n := 11008) v0 bitcasts_S64x11008_w8_S16x11008_w32 bitcasts_S16x11008_w32_S64x11008_w8 rfl 6#32 3 (by decide) rfl a l
  rw [← wt_of_field _ 3 (by decide), ← e]
  unfold k3_pay1 k3_pay2
  generalize bitcast S64x11008 8 _ bitcasts_S16x11008_w32_S64x11008_w8 = z
  have es : ∀ q : FVec Ideal S64x11008 .bf16, shapeCast S1x64x11008 q shapeCasts_S64x11008_S1x64x11008 (ix3 0 a l) = q (ix2 a l) := by
    intro q; pointwise
  exact es _

end Cert.UnpackK
-- ==== Proof.Val0.lean ====
/-
  What the region that unpacks the output projection weights leaves in its array: every field of every packed byte.
-/
module

public import proofs.«01_k».proof.Proof.UnpackK
public import proofs.«01_k».proof.Proof.Gen.BackIdeal.Frame.Region0

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.UnpackK

variable (V : (c : Dev nD) → (b : Ref sig .tc) → Buf (Elt Ideal) ((c : Thread nD τ).loc b))

theorem idx0_0 : ∀ t : Fin cfg0.N, win0_0.index t = ![(grid0.coords t 0).val, 0] := (by decide +kernel : ∀ t : Fin grid0.N, _)
theorem idx0_1 : ∀ t : Fin cfg0.N, win0_1.index t = ![0, (grid0.coords t 0).val, 0] := (by decide +kernel : ∀ t : Fin grid0.N, _)

/-- The block's four fields. -/
theorem block0 (x0 : Vec Ideal S64x4096 .i8) (j : Fin 4) (a : Fin 64) (l : Fin 4096) :
    out0_1 (F := Ideal) x0 (ix3 j a l) = wt (x0 (ix2 a l)) j.val := by
  unfold out0_1
  canon_tiles x h using Gen.cover0_1 ..
  all_goals
    change (j : ℕ) = _ at h0
    change (a : ℕ) = _ at h1
    change (l : ℕ) = _ at h2
    obtain rfl : x = ix3 0 a l := by
      refine (eq_ix3 x).trans ?_
      refine congr (congr (congrArg ix3 (Fin.ext ?_)) (Fin.ext h1.symm)) (Fin.ext h2.symm)
      exact Nat.lt_one_iff.mp x0_lt
    rw [show (j : ℕ) = _ from h0]
  · exact (field0_3 _ a l).trans (congrArg (wt · 3) (congrFun (View.ld_unit_zero (by funext a; fin_cases a <;> rfl) _ x0) _))
  · exact (field0_2 _ a l).trans (congrArg (wt · 2) (congrFun (View.ld_unit_zero (by funext a; fin_cases a <;> rfl) _ x0) _))
  · exact (field0_1 _ a l).trans (congrArg (wt · 1) (congrFun (View.ld_unit_zero (by funext a; fin_cases a <;> rfl) _ x0) _))
  · exact (field0_0 _ a l).trans (congrArg (wt · 0) (congrFun (View.ld_unit_zero (by funext a; fin_cases a <;> rfl) _ x0) _))

/-- The unpacked weights: field `j` of packed row `a` at index `(j, a, l)`. -/
theorem final0_1 (c : Dev nD) : (dat0 V c).arrAt 1 cfg0.N
    = unpackMat (R := 1024) (d := 4096) (V c main_arg5) := by
  refine (dat0 V c).arrAt_eq_of_covers 1 _ (by decide +kernel) fun t hf y => ?_
  blk_simp
  rw [after0_1]
  obtain ⟨j, a, l, rfl⟩ : ∃ j : Fin 4, ∃ a : Fin 64, ∃ l : Fin 4096, y = ix3 j a l := ⟨y 0, y 1, y 2, eq_ix3 y⟩
  refine (block0 _ j a l).trans ?_
  refine congr (congrArg wt ?_) ?_
  · blk_ext! [iblk0, idx0_0 t, idx0_1 t]
  · blk_simp [idx0_1 t]

end Cert.Val
-- ==== Proof.Val1.lean ====
/-
  What the region that unpacks the gate weights leaves in its array: every field of every packed byte.
-/
module

public import proofs.«01_k».proof.Proof.UnpackK
public import proofs.«01_k».proof.Proof.Gen.BackIdeal.Frame.Region1

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.UnpackK

variable (V : (c : Dev nD) → (b : Ref sig .tc) → Buf (Elt Ideal) ((c : Thread nD τ).loc b))

theorem idx1_0 : ∀ t : Fin cfg1.N, win1_0.index t = ![(grid1.coords t 0).val, 0] := (by decide +kernel : ∀ t : Fin grid1.N, _)
theorem idx1_1 : ∀ t : Fin cfg1.N, win1_1.index t = ![0, (grid1.coords t 0).val, 0] := (by decide +kernel : ∀ t : Fin grid1.N, _)

/-- The block's four fields. -/
theorem block1 (x0 : Vec Ideal S64x4096 .i8) (j : Fin 4) (a : Fin 64) (l : Fin 4096) :
    out1_1 (F := Ideal) x0 (ix3 j a l) = wt (x0 (ix2 a l)) j.val := by
  unfold out1_1
  canon_tiles x h using Gen.cover1_1 ..
  all_goals
    change (j : ℕ) = _ at h0
    change (a : ℕ) = _ at h1
    change (l : ℕ) = _ at h2
    obtain rfl : x = ix3 0 a l := by
      refine (eq_ix3 x).trans ?_
      refine congr (congr (congrArg ix3 (Fin.ext ?_)) (Fin.ext h1.symm)) (Fin.ext h2.symm)
      exact Nat.lt_one_iff.mp x0_lt
    rw [show (j : ℕ) = _ from h0]
  · exact (field1_3 _ a l).trans (congrArg (wt · 3) (congrFun (View.ld_unit_zero (by funext a; fin_cases a <;> rfl) _ x0) _))
  · exact (field1_2 _ a l).trans (congrArg (wt · 2) (congrFun (View.ld_unit_zero (by funext a; fin_cases a <;> rfl) _ x0) _))
  · exact (field1_1 _ a l).trans (congrArg (wt · 1) (congrFun (View.ld_unit_zero (by funext a; fin_cases a <;> rfl) _ x0) _))
  · exact (field1_0 _ a l).trans (congrArg (wt · 0) (congrFun (View.ld_unit_zero (by funext a; fin_cases a <;> rfl) _ x0) _))

/-- The unpacked weights: field `j` of packed row `a` at index `(j, a, l)`. -/
theorem final1_1 (c : Dev nD) : (dat1 V c).arrAt 1 cfg1.N
    = unpackMat (R := 2752) (d := 4096) (V c main_arg6) := by
  refine (dat1 V c).arrAt_eq_of_covers 1 _ (by decide +kernel) fun t hf y => ?_
  blk_simp
  rw [after1_1]
  obtain ⟨j, a, l, rfl⟩ : ∃ j : Fin 4, ∃ a : Fin 64, ∃ l : Fin 4096, y = ix3 j a l := ⟨y 0, y 1, y 2, eq_ix3 y⟩
  refine (block1 _ j a l).trans ?_
  refine congr (congrArg wt ?_) ?_
  · blk_ext! [iblk1, idx1_0 t, idx1_1 t]
  · blk_simp [idx1_1 t]

end Cert.Val
-- ==== Proof.Val2.lean ====
/-
  What the region that unpacks the up weights leaves in its array: every field of every packed byte.
-/
module

public import proofs.«01_k».proof.Proof.UnpackK
public import proofs.«01_k».proof.Proof.Gen.BackIdeal.Frame.Region2

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.UnpackK

variable (V : (c : Dev nD) → (b : Ref sig .tc) → Buf (Elt Ideal) ((c : Thread nD τ).loc b))

theorem idx2_0 : ∀ t : Fin cfg2.N, win2_0.index t = ![(grid2.coords t 0).val, 0] := (by decide +kernel : ∀ t : Fin grid2.N, _)
theorem idx2_1 : ∀ t : Fin cfg2.N, win2_1.index t = ![0, (grid2.coords t 0).val, 0] := (by decide +kernel : ∀ t : Fin grid2.N, _)

/-- The block's four fields. -/
theorem block2 (x0 : Vec Ideal S64x4096 .i8) (j : Fin 4) (a : Fin 64) (l : Fin 4096) :
    out2_1 (F := Ideal) x0 (ix3 j a l) = wt (x0 (ix2 a l)) j.val := by
  unfold out2_1
  canon_tiles x h using Gen.cover2_1 ..
  all_goals
    change (j : ℕ) = _ at h0
    change (a : ℕ) = _ at h1
    change (l : ℕ) = _ at h2
    obtain rfl : x = ix3 0 a l := by
      refine (eq_ix3 x).trans ?_
      refine congr (congr (congrArg ix3 (Fin.ext ?_)) (Fin.ext h1.symm)) (Fin.ext h2.symm)
      exact Nat.lt_one_iff.mp x0_lt
    rw [show (j : ℕ) = _ from h0]
  · exact (field2_3 _ a l).trans (congrArg (wt · 3) (congrFun (View.ld_unit_zero (by funext a; fin_cases a <;> rfl) _ x0) _))
  · exact (field2_2 _ a l).trans (congrArg (wt · 2) (congrFun (View.ld_unit_zero (by funext a; fin_cases a <;> rfl) _ x0) _))
  · exact (field2_1 _ a l).trans (congrArg (wt · 1) (congrFun (View.ld_unit_zero (by funext a; fin_cases a <;> rfl) _ x0) _))
  · exact (field2_0 _ a l).trans (congrArg (wt · 0) (congrFun (View.ld_unit_zero (by funext a; fin_cases a <;> rfl) _ x0) _))

/-- The unpacked weights: field `j` of packed row `a` at index `(j, a, l)`. -/
theorem final2_1 (c : Dev nD) : (dat2 V c).arrAt 1 cfg2.N
    = unpackMat (R := 2752) (d := 4096) (V c main_arg7) := by
  refine (dat2 V c).arrAt_eq_of_covers 1 _ (by decide +kernel) fun t hf y => ?_
  blk_simp
  rw [after2_1]
  obtain ⟨j, a, l, rfl⟩ : ∃ j : Fin 4, ∃ a : Fin 64, ∃ l : Fin 4096, y = ix3 j a l := ⟨y 0, y 1, y 2, eq_ix3 y⟩
  refine (block2 _ j a l).trans ?_
  refine congr (congrArg wt ?_) ?_
  · blk_ext! [iblk2, idx2_0 t, idx2_1 t]
  · blk_simp [idx2_1 t]

end Cert.Val
-- ==== Proof.Val3.lean ====
/-
  What the region that unpacks the down weights leaves in its array: every field of every packed byte.
-/
module

public import proofs.«01_k».proof.Proof.UnpackK
public import proofs.«01_k».proof.Proof.Gen.BackIdeal.Frame.Region3

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.UnpackK

variable (V : (c : Dev nD) → (b : Ref sig .tc) → Buf (Elt Ideal) ((c : Thread nD τ).loc b))

theorem idx3_0 : ∀ t : Fin cfg3.N, win3_0.index t = ![(grid3.coords t 0).val, 0] := (by decide +kernel : ∀ t : Fin grid3.N, _)
theorem idx3_1 : ∀ t : Fin cfg3.N, win3_1.index t = ![0, (grid3.coords t 0).val, 0] := (by decide +kernel : ∀ t : Fin grid3.N, _)

/-- The block's four fields. -/
theorem block3 (x0 : Vec Ideal S64x11008 .i8) (j : Fin 4) (a : Fin 64) (l : Fin 11008) :
    out3_1 (F := Ideal) x0 (ix3 j a l) = wt (x0 (ix2 a l)) j.val := by
  unfold out3_1
  canon_tiles x h using Gen.cover3_1 ..
  all_goals
    change (j : ℕ) = _ at h0
    change (a : ℕ) = _ at h1
    change (l : ℕ) = _ at h2
    obtain rfl : x = ix3 0 a l := by
      refine (eq_ix3 x).trans ?_
      refine congr (congr (congrArg ix3 (Fin.ext ?_)) (Fin.ext h1.symm)) (Fin.ext h2.symm)
      exact Nat.lt_one_iff.mp x0_lt
    rw [show (j : ℕ) = _ from h0]
  · exact (field3_3 _ a l).trans (congrArg (wt · 3) (congrFun (View.ld_unit_zero (by funext a; fin_cases a <;> rfl) _ x0) _))
  · exact (field3_2 _ a l).trans (congrArg (wt · 2) (congrFun (View.ld_unit_zero (by funext a; fin_cases a <;> rfl) _ x0) _))
  · exact (field3_1 _ a l).trans (congrArg (wt · 1) (congrFun (View.ld_unit_zero (by funext a; fin_cases a <;> rfl) _ x0) _))
  · exact (field3_0 _ a l).trans (congrArg (wt · 0) (congrFun (View.ld_unit_zero (by funext a; fin_cases a <;> rfl) _ x0) _))

/-- The unpacked weights: field `j` of packed row `a` at index `(j, a, l)`. -/
theorem final3_1 (c : Dev nD) : (dat3 V c).arrAt 1 cfg3.N
    = unpackMat (R := 1024) (d := 11008) (V c main_arg8) := by
  refine (dat3 V c).arrAt_eq_of_covers 1 _ (by decide +kernel) fun t hf y => ?_
  blk_simp
  rw [after3_1]
  obtain ⟨j, a, l, rfl⟩ : ∃ j : Fin 4, ∃ a : Fin 64, ∃ l : Fin 11008, y = ix3 j a l := ⟨y 0, y 1, y 2, eq_ix3 y⟩
  refine (block3 _ j a l).trans ?_
  refine congr (congrArg wt ?_) ?_
  · blk_ext! [iblk3, idx3_0 t, idx3_1 t]
  · blk_simp [idx3_1 t]

end Cert.Val
-- ==== Proof.NormK.lean ====
/-
  The kernel's normalise-and-quantise payloads, read at an index.
-/
module

public import proofs.«01_k».proof.Proof.Rows
public import proofs.«01_k».proof.Proof.Gen.BackIdeal.Skeleton

@[expose] public section

set_option maxRecDepth 16384

open Idealize.ShloMosaic Cert.Rows

namespace Cert.NormK

open Cert.BackIdeal Cert.BackIdeal.Gen

section
variable {F : FTy → Type} [FloatOps F]

theorem pay2_scale4 (v0 : Vec F S256x4096 .f32) (v12 : Vec F S1x4096 .f32) (r : Fin 256) (q : Fin 1) :
    k4_pay2 v0 v12 (ix2 r q) = scaleOf (multiReduction .maximumf [1] S256 (absf (k4_pay1 v0 v12)) 0xFF800000#32
      reduces_S256x4096_S256 (.inl rfl) rfl (ix1 r)) := by
  unfold k4_pay2
  generalize k4_pay1 v0 v12 = y
  rw [← castCol (multiReduction .maximumf [1] S256 (absf y) 0xFF800000#32 reduces_S256x4096_S256 (.inl rfl) rfl) shapeCasts_S256_S256x1 r q]
  rfl

theorem pay3_code4 (v0 : Vec F S256x4096 .f32) (v12 : Vec F S1x4096 .f32) (r : Fin 256) (k : Fin 4096) :
    k4_pay3 v0 v12 (ix2 r k) = codeOf (k4_pay1 v0 v12 (ix2 r k)) (k4_pay2 v0 v12 (ix2 r 0)) := by
  unfold k4_pay3
  generalize k4_pay1 v0 v12 = y
  generalize k4_pay2 v0 v12 = s
  rw [← bcCol s broadcasts_S256x1_S256x4096 r k]
  rfl

theorem pay4_scale4 (v0 : Vec F S256x4096 .f32) (v12 : Vec F S1x4096 .f32) (r : Fin 256) (k : Fin 128) :
    k4_pay4 v0 v12 (ix2 r k) = k4_pay2 v0 v12 (ix2 r 0) := by
  unfold k4_pay4
  generalize k4_pay2 v0 v12 = s
  pointwise

theorem pay2_scale6 (v0 : Vec F S256x4096 .f32) (v12 : Vec F S1x4096 .f32) (r : Fin 256) (q : Fin 1) :
    k6_pay2 v0 v12 (ix2 r q) = scaleOf (multiReduction .maximumf [1] S256 (absf (k6_pay1 v0 v12)) 0xFF800000#32
      reduces_S256x4096_S256 (.inl rfl) rfl (ix1 r)) := by
  unfold k6_pay2
  generalize k6_pay1 v0 v12 = y
  rw [← castCol (multiReduction .maximumf [1] S256 (absf y) 0xFF800000#32 reduces_S256x4096_S256 (.inl rfl) rfl) shapeCasts_S256_S256x1 r q]
  rfl

theorem pay3_code6 (v0 : Vec F S256x4096 .f32) (v12 : Vec F S1x4096 .f32) (r : Fin 256) (k : Fin 4096) :
    k6_pay3 v0 v12 (ix2 r k) = codeOf (k6_pay1 v0 v12 (ix2 r k)) (k6_pay2 v0 v12 (ix2 r 0)) := by
  unfold k6_pay3
  generalize k6_pay1 v0 v12 = y
  generalize k6_pay2 v0 v12 = s
  rw [← bcCol s broadcasts_S256x1_S256x4096 r k]
  rfl

theorem pay4_scale6 (v0 : Vec F S256x4096 .f32) (v12 : Vec F S1x4096 .f32) (r : Fin 256) (k : Fin 128) :
    k6_pay4 v0 v12 (ix2 r k) = k6_pay2 v0 v12 (ix2 r 0) := by
  unfold k6_pay4
  generalize k6_pay2 v0 v12 = s
  pointwise

theorem pay2_scale8 (v0 : Vec F S128x11008 .f32) (v12 : Vec F S1x11008 .f32) (r : Fin 128) (q : Fin 1) :
    k8_pay2 v0 v12 (ix2 r q) = scaleOf (multiReduction .maximumf [1] S128 (absf (k8_pay1 v0 v12)) 0xFF800000#32
      reduces_S128x11008_S128 (.inl rfl) rfl (ix1 r)) := by
  unfold k8_pay2
  generalize k8_pay1 v0 v12 = y
  rw [← castCol (multiReduction .maximumf [1] S128 (absf y) 0xFF800000#32 reduces_S128x11008_S128 (.inl rfl) rfl) shapeCasts_S128_S128x1 r q]
  rfl

theorem pay3_code8 (v0 : Vec F S128x11008 .f32) (v12 : Vec F S1x11008 .f32) (r : Fin 128) (k : Fin 11008) :
    k8_pay3 v0 v12 (ix2 r k) = codeOf (k8_pay1 v0 v12 (ix2 r k)) (k8_pay2 v0 v12 (ix2 r 0)) := by
  unfold k8_pay3
  generalize k8_pay1 v0 v12 = y
  generalize k8_pay2 v0 v12 = s
  rw [← bcCol s broadcasts_S128x1_S128x11008 r k]
  rfl

theorem pay4_scale8 (v0 : Vec F S128x11008 .f32) (v12 : Vec F S1x11008 .f32) (r : Fin 128) (k : Fin 128) :
    k8_pay4 v0 v12 (ix2 r k) = k8_pay2 v0 v12 (ix2 r 0) := by
  unfold k8_pay4
  generalize k8_pay2 v0 v12 = s
  pointwise

end

/-- The normalised rows of the block. -/
theorem norm4 (v0 : Vec Ideal S256x4096 .f32) (v12 : Vec Ideal S1x4096 .f32) (r : Fin 256) (k : Fin 4096) :
    k4_pay1 v0 v12 (ix2 r k) = normed (Ideal.ofBits .f32 0x45800000#32) (row v0 r) (row v12 0) k := by
  unfold normed row
  pointwise [k4_pay1]

/-- The scale of each row of the block. -/
theorem scale4 (v0 : Vec Ideal S256x4096 .f32) (v12 : Vec Ideal S1x4096 .f32) (r : Fin 256) (q : Fin 1) :
    k4_pay2 v0 v12 (ix2 r q) = scale (Ideal.ofBits .f32 0x45800000#32) (row v0 r) (row v12 0) := by
  rw [pay2_scale4]
  refine (congrArg (scaleOf (F := Ideal)) (maxRed _ _ _ _ r)).trans ?_
  refine congrArg (scaleOf (F := Ideal)) (congrArg (Finset.fold max _ · Finset.univ) (funext fun x => ?_))
  exact congrArg (FloatOps.absf (F := Ideal)) (norm4 v0 v12 r x)

/-- The codes of each row of the block. -/
theorem code4 (v0 : Vec Ideal S256x4096 .f32) (v12 : Vec Ideal S1x4096 .f32) (r : Fin 256) (k : Fin 4096) :
    k4_pay3 v0 v12 (ix2 r k) = code (Ideal.ofBits .f32 0x45800000#32) (row v0 r) (row v12 0) k := by
  rw [pay3_code4, norm4, scale4]
  rfl

/-- The scales the block stores, the same in every lane. -/
theorem lanes4 (v0 : Vec Ideal S256x4096 .f32) (v12 : Vec Ideal S1x4096 .f32) (r : Fin 256) (k : Fin 128) :
    k4_pay4 v0 v12 (ix2 r k) = scale (Ideal.ofBits .f32 0x45800000#32) (row v0 r) (row v12 0) := by
  rw [pay4_scale4, scale4]

/-- The normalised rows of the block. -/
theorem norm6 (v0 : Vec Ideal S256x4096 .f32) (v12 : Vec Ideal S1x4096 .f32) (r : Fin 256) (k : Fin 4096) :
    k6_pay1 v0 v12 (ix2 r k) = normed (Ideal.ofBits .f32 0x45800000#32) (row v0 r) (row v12 0) k := by
  unfold normed row
  pointwise [k6_pay1]

/-- The scale of each row of the block. -/
theorem scale6 (v0 : Vec Ideal S256x4096 .f32) (v12 : Vec Ideal S1x4096 .f32) (r : Fin 256) (q : Fin 1) :
    k6_pay2 v0 v12 (ix2 r q) = scale (Ideal.ofBits .f32 0x45800000#32) (row v0 r) (row v12 0) := by
  rw [pay2_scale6]
  refine (congrArg (scaleOf (F := Ideal)) (maxRed _ _ _ _ r)).trans ?_
  refine congrArg (scaleOf (F := Ideal)) (congrArg (Finset.fold max _ · Finset.univ) (funext fun x => ?_))
  exact congrArg (FloatOps.absf (F := Ideal)) (norm6 v0 v12 r x)

/-- The codes of each row of the block. -/
theorem code6 (v0 : Vec Ideal S256x4096 .f32) (v12 : Vec Ideal S1x4096 .f32) (r : Fin 256) (k : Fin 4096) :
    k6_pay3 v0 v12 (ix2 r k) = code (Ideal.ofBits .f32 0x45800000#32) (row v0 r) (row v12 0) k := by
  rw [pay3_code6, norm6, scale6]
  rfl

/-- The scales the block stores, the same in every lane. -/
theorem lanes6 (v0 : Vec Ideal S256x4096 .f32) (v12 : Vec Ideal S1x4096 .f32) (r : Fin 256) (k : Fin 128) :
    k6_pay4 v0 v12 (ix2 r k) = scale (Ideal.ofBits .f32 0x45800000#32) (row v0 r) (row v12 0) := by
  rw [pay4_scale6, scale6]

/-- The normalised rows of the block. -/
theorem norm8 (v0 : Vec Ideal S128x11008 .f32) (v12 : Vec Ideal S1x11008 .f32) (r : Fin 128) (k : Fin 11008) :
    k8_pay1 v0 v12 (ix2 r k) = normed (Ideal.ofBits .f32 0x462C0000#32) (row v0 r) (row v12 0) k := by
  unfold normed row
  pointwise [k8_pay1]

/-- The scale of each row of the block. -/
theorem scale8 (v0 : Vec Ideal S128x11008 .f32) (v12 : Vec Ideal S1x11008 .f32) (r : Fin 128) (q : Fin 1) :
    k8_pay2 v0 v12 (ix2 r q) = scale (Ideal.ofBits .f32 0x462C0000#32) (row v0 r) (row v12 0) := by
  rw [pay2_scale8]
  refine (congrArg (scaleOf (F := Ideal)) (maxRed _ _ _ _ r)).trans ?_
  refine congrArg (scaleOf (F := Ideal)) (congrArg (Finset.fold max _ · Finset.univ) (funext fun x => ?_))
  exact congrArg (FloatOps.absf (F := Ideal)) (norm8 v0 v12 r x)

/-- The codes of each row of the block. -/
theorem code8 (v0 : Vec Ideal S128x11008 .f32) (v12 : Vec Ideal S1x11008 .f32) (r : Fin 128) (k : Fin 11008) :
    k8_pay3 v0 v12 (ix2 r k) = code (Ideal.ofBits .f32 0x462C0000#32) (row v0 r) (row v12 0) k := by
  rw [pay3_code8, norm8, scale8]
  rfl

/-- The scales the block stores, the same in every lane. -/
theorem lanes8 (v0 : Vec Ideal S128x11008 .f32) (v12 : Vec Ideal S1x11008 .f32) (r : Fin 128) (k : Fin 128) :
    k8_pay4 v0 v12 (ix2 r k) = scale (Ideal.ofBits .f32 0x462C0000#32) (row v0 r) (row v12 0) := by
  rw [pay4_scale8, scale8]

end Cert.NormK
-- ==== Proof.Val4.lean ====
/-
  What the region that normalises and quantises the attention output leaves in its two arrays.
-/
module

public import proofs.«01_k».proof.Proof.NormK
public import proofs.«01_k».proof.Proof.Gen.BackIdeal.Frame.Region4

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.NormK

variable (V : (c : Dev nD) → (b : Ref sig .tc) → Buf (Elt Ideal) ((c : Thread nD τ).loc b))

theorem idx4_0 : ∀ t : Fin cfg4.N, win4_0.index t = ![(grid4.coords t 0).val, 0] := (by decide +kernel : ∀ t : Fin grid4.N, _)
theorem idx4_1 : ∀ t : Fin cfg4.N, win4_1.index t = ![0, 0] := (by decide +kernel : ∀ t : Fin grid4.N, _)
theorem idx4_2 : ∀ t : Fin cfg4.N, win4_2.index t = ![(grid4.coords t 0).val, 0] := (by decide +kernel : ∀ t : Fin grid4.N, _)
theorem idx4_3 : ∀ t : Fin cfg4.N, win4_3.index t = ![(grid4.coords t 0).val, 0] := (by decide +kernel : ∀ t : Fin grid4.N, _)

/-- The codes: each row normalised and quantised. -/
theorem final4_2 (c : Dev nD) : (dat4 V c).arrAt 2 cfg4.N
    = codeMat (m := 9216) (d := 4096) (Ideal.ofBits .f32 0x45800000#32) (V c main_v9) (row (m := 1) (d := 4096) (V c main_v10) 0) := by
  refine (dat4 V c).arrAt_eq_of_covers 2 _ (by decide +kernel) fun t hf y => ?_
  blk_simp
  rw [after4_2]
  frame_out
  obtain ⟨r, k, rfl⟩ : ∃ r : Fin 256, ∃ k : Fin 4096, y = ix2 r k := ⟨y 0, y 1, eq_ix2 y⟩
  refine (code4 _ _ r k).trans ?_
  refine congr (congr (congrArg (code _) (funext fun x => ?_)) (funext fun x => ?_)) (Fin.ext ?_)
  · blk_ext! [iblk4, row, idx4_0 t, idx4_2 t]
  · blk_ext! [iblk4, row, idx4_1 t]
  · blk_simp [idx4_2 t]

/-- The scales, the same in every lane of a row. -/
theorem final4_3 (c : Dev nD) : (dat4 V c).arrAt 3 cfg4.N
    = laneMat (m := 9216) (d := 4096) (Ideal.ofBits .f32 0x45800000#32) (V c main_v9) (row (m := 1) (d := 4096) (V c main_v10) 0) 128 := by
  refine (dat4 V c).arrAt_eq_of_covers 3 _ (by decide +kernel) fun t hf y => ?_
  blk_simp
  rw [after4_3]
  frame_out
  obtain ⟨r, k, rfl⟩ : ∃ r : Fin 256, ∃ k : Fin 128, y = ix2 r k := ⟨y 0, y 1, eq_ix2 y⟩
  refine (lanes4 _ _ r k).trans ?_
  refine congr (congrArg (scale _) (funext fun x => ?_)) (funext fun x => ?_)
  · blk_ext! [iblk4, row, idx4_0 t, idx4_3 t]
  · blk_ext! [iblk4, row, idx4_1 t]

end Cert.Val
-- ==== Proof.LinK.lean ====
/-
  The payloads of the quantised products of the kernel, read at an index.
-/
module

public import proofs.«01_k».proof.Proof.Rows
public import proofs.«01_k».proof.Proof.Gen.BackIdeal.Skeleton

@[expose] public section

set_option maxRecDepth 16384

noncomputable section

namespace Cert.LinK

open Idealize.ShloMosaic Idealize.ShloMosaic.TcCoe Idealize.ShloMosaic.Pipeline Cert.Rows
open Cert.BackIdeal Cert.BackIdeal.Gen

/-- Residual plus quantised product, of region 5. -/
theorem res5 (v0 : Vec Ideal S1024x4096 .i8) (v3 : Vec Ideal S512x4096 .bf16) (v6 : Vec Ideal S1024x512 .bf16) (v9 : Vec Ideal S1024x1 .f32)
    (v13 : Elt Ideal .f32) (r : Fin 1024) (k : Fin 512) :
    k5_pay1 v0 v3 v6 v9 v13 (ix2 r k) = v6 (ix2 r k) + lin (row v0 r) (row v3 k) (v9 (ix2 r 0)) v13 := by
  unfold lin dot row
  pointwise [k5_pay1]

/-- Residual plus quantised product, of region 9. -/
theorem res9 (v0 : Vec Ideal S512x11008 .i8) (v3 : Vec Ideal S256x11008 .bf16) (v6 : Vec Ideal S512x256 .f32) (v9 : Vec Ideal S512x1 .f32)
    (v13 : Elt Ideal .f32) (r : Fin 512) (k : Fin 256) :
    k9_pay1 v0 v3 v6 v9 v13 (ix2 r k) = v6 (ix2 r k) + lin (row v0 r) (row v3 k) (v9 (ix2 r 0)) v13 := by
  unfold lin dot row
  pointwise [k9_pay1]

/-- The hidden rows, of region 7. -/
theorem hid7 (v0 : Vec Ideal S1024x4096 .i8) (v3 : Vec Ideal S1024x1 .f32) (v5 : Vec Ideal S256x4096 .bf16) (v10 : Elt Ideal .f32) (v13 : Vec Ideal S256x4096 .bf16) (v18 : Elt Ideal .f32) (r : Fin 1024) (k : Fin 256) :
    k7_pay1 v0 v3 v5 v10 v13 v18 (ix2 r k)
      = hiddenOf (lin (row v0 r) (row v5 k) (v3 (ix2 r 0)) v10) (lin (row v0 r) (row v13 k) (v3 (ix2 r 0)) v18) := by
  unfold hiddenOf lin dot row
  pointwise [k7_pay1]

/-- The same rows as stored at the narrower format: no rounding over the extended reals. -/
theorem hid7b (v0 : Vec Ideal S1024x4096 .i8) (v3 : Vec Ideal S1024x1 .f32) (v5 : Vec Ideal S256x4096 .bf16) (v10 : Elt Ideal .f32) (v13 : Vec Ideal S256x4096 .bf16) (v18 : Elt Ideal .f32) (r : Fin 1024) (k : Fin 256) :
    k7_pay2 v0 v3 v5 v10 v13 v18 (ix2 r k) = k7_pay1 v0 v3 v5 v10 v13 v18 (ix2 r k) := by
  unfold k7_pay2
  generalize k7_pay1 v0 v3 v5 v10 v13 v18 = z
  rfl

end Cert.LinK
-- ==== Proof.Val5.lean ====
/-
  What the region of the output projection leaves in its array: the residual plus the quantised product.
-/
module

public import proofs.«01_k».proof.Proof.LinK
public import proofs.«01_k».proof.Proof.Gen.BackIdeal.Frame.Region5

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.LinK

variable (V : (c : Dev nD) → (b : Ref sig .tc) → Buf (Elt Ideal) ((c : Thread nD τ).loc b))

theorem idx5_0 : ∀ t : Fin cfg5.N, win5_0.index t = ![0] := (by decide +kernel : ∀ t : Fin grid5.N, _)
theorem idx5_1 : ∀ t : Fin cfg5.N, win5_1.index t = ![(grid5.coords t 0).val, 0] := (by decide +kernel : ∀ t : Fin grid5.N, _)
theorem idx5_2 : ∀ t : Fin cfg5.N, win5_2.index t = ![(grid5.coords t 0).val, 0] := (by decide +kernel : ∀ t : Fin grid5.N, _)
theorem idx5_3 : ∀ t : Fin cfg5.N, win5_3.index t = ![(grid5.coords t 1).val, 0] := (by decide +kernel : ∀ t : Fin grid5.N, _)
theorem idx5_4 : ∀ t : Fin cfg5.N, win5_4.index t = ![(grid5.coords t 0).val, (grid5.coords t 1).val] := (by decide +kernel : ∀ t : Fin grid5.N, _)
theorem idx5_5 : ∀ t : Fin cfg5.N, win5_5.index t = ![(grid5.coords t 0).val, (grid5.coords t 1).val] := (by decide +kernel : ∀ t : Fin grid5.N, _)

/-- The residual plus the quantised product, block by block. -/
theorem final5_5 (c : Dev nD) : (dat5 V c).arrAt 5 cfg5.N
    = resLin (m := 9216) (n := 4096) (d := 4096) (V c main_v8) (V c main_v11_0) (fun r => row (m := 9216) (d := 128) (V c main_v11_1) r 0)
        (row (m := 4096) (d := 4096) (V c main_v1)) ((V c main_v12 : S1.Idx → EReal) (ix1 0)) := by
  refine (dat5 V c).arrAt_eq_of_covers 5 _ (by decide +kernel) fun t hf y => ?_
  blk_simp
  rw [after5_5]
  unfold outsAt5 out5_A_5
  frame_out
  obtain ⟨r, k, rfl⟩ : ∃ r : Fin 1024, ∃ k : Fin 512, y = ix2 r k := ⟨y 0, y 1, eq_ix2 y⟩
  refine (res5 _ _ _ _ _ r k).trans ?_
  refine congr (congrArg HAdd.hAdd ?_) (congr (congr (congr (congrArg lin (funext fun x => ?_)) (funext fun x => ?_)) ?_) ?_)
  · blk_ext! [iblk5, idx5_4 t, idx5_5 t]
  · blk_ext! [iblk5, row, idx5_1 t, idx5_5 t]
  · blk_ext! [iblk5, row, idx5_3 t, idx5_5 t]
  · pointwise
    blk_ext! [iblk5, row, idx5_2 t, idx5_5 t]
  · pointwise
    blk_ext! [iblk5, idx5_0 t]

end Cert.Val
-- ==== Proof.Val6.lean ====
/-
  What the region that normalises and quantises the residual stream leaves in its two arrays.
-/
module

public import proofs.«01_k».proof.Proof.NormK
public import proofs.«01_k».proof.Proof.Gen.BackIdeal.Frame.Region6

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.NormK

variable (V : (c : Dev nD) → (b : Ref sig .tc) → Buf (Elt Ideal) ((c : Thread nD τ).loc b))

theorem idx6_0 : ∀ t : Fin cfg6.N, win6_0.index t = ![(grid6.coords t 0).val, 0] := (by decide +kernel : ∀ t : Fin grid6.N, _)
theorem idx6_1 : ∀ t : Fin cfg6.N, win6_1.index t = ![0, 0] := (by decide +kernel : ∀ t : Fin grid6.N, _)
theorem idx6_2 : ∀ t : Fin cfg6.N, win6_2.index t = ![(grid6.coords t 0).val, 0] := (by decide +kernel : ∀ t : Fin grid6.N, _)
theorem idx6_3 : ∀ t : Fin cfg6.N, win6_3.index t = ![(grid6.coords t 0).val, 0] := (by decide +kernel : ∀ t : Fin grid6.N, _)

/-- The codes: each row normalised and quantised. -/
theorem final6_2 (c : Dev nD) : (dat6 V c).arrAt 2 cfg6.N
    = codeMat (m := 9216) (d := 4096) (Ideal.ofBits .f32 0x45800000#32) (V c main_v13) (row (m := 1) (d := 4096) (V c main_v14) 0) := by
  refine (dat6 V c).arrAt_eq_of_covers 2 _ (by decide +kernel) fun t hf y => ?_
  blk_simp
  rw [after6_2]
  frame_out
  obtain ⟨r, k, rfl⟩ : ∃ r : Fin 256, ∃ k : Fin 4096, y = ix2 r k := ⟨y 0, y 1, eq_ix2 y⟩
  refine (code6 _ _ r k).trans ?_
  refine congr (congr (congrArg (code _) (funext fun x => ?_)) (funext fun x => ?_)) (Fin.ext ?_)
  · blk_ext! [iblk6, row, idx6_0 t, idx6_2 t]
  · blk_ext! [iblk6, row, idx6_1 t]
  · blk_simp [idx6_2 t]

/-- The scales, the same in every lane of a row. -/
theorem final6_3 (c : Dev nD) : (dat6 V c).arrAt 3 cfg6.N
    = laneMat (m := 9216) (d := 4096) (Ideal.ofBits .f32 0x45800000#32) (V c main_v13) (row (m := 1) (d := 4096) (V c main_v14) 0) 128 := by
  refine (dat6 V c).arrAt_eq_of_covers 3 _ (by decide +kernel) fun t hf y => ?_
  blk_simp
  rw [after6_3]
  frame_out
  obtain ⟨r, k, rfl⟩ : ∃ r : Fin 256, ∃ k : Fin 128, y = ix2 r k := ⟨y 0, y 1, eq_ix2 y⟩
  refine (lanes6 _ _ r k).trans ?_
  refine congr (congrArg (scale _) (funext fun x => ?_)) (funext fun x => ?_)
  · blk_ext! [iblk6, row, idx6_0 t, idx6_3 t]
  · blk_ext! [iblk6, row, idx6_1 t]

end Cert.Val
-- ==== Proof.Val7.lean ====
/-
  What the gate-and-up region leaves in its two arrays: the hidden rows, at both formats.
-/
module

public import proofs.«01_k».proof.Proof.LinK
public import proofs.«01_k».proof.Proof.Gen.BackIdeal.Frame.Region7

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.LinK

variable (V : (c : Dev nD) → (b : Ref sig .tc) → Buf (Elt Ideal) ((c : Thread nD τ).loc b))

theorem idx7_0 : ∀ t : Fin cfg7.N, win7_0.index t = ![0] := (by decide +kernel : ∀ t : Fin grid7.N, _)
theorem idx7_1 : ∀ t : Fin cfg7.N, win7_1.index t = ![(grid7.coords t 0).val, 0] := (by decide +kernel : ∀ t : Fin grid7.N, _)
theorem idx7_2 : ∀ t : Fin cfg7.N, win7_2.index t = ![(grid7.coords t 0).val, 0] := (by decide +kernel : ∀ t : Fin grid7.N, _)
theorem idx7_3 : ∀ t : Fin cfg7.N, win7_3.index t = ![(grid7.coords t 1).val, 0] := (by decide +kernel : ∀ t : Fin grid7.N, _)
theorem idx7_4 : ∀ t : Fin cfg7.N, win7_4.index t = ![(grid7.coords t 1).val, 0] := (by decide +kernel : ∀ t : Fin grid7.N, _)
theorem idx7_5 : ∀ t : Fin cfg7.N, win7_5.index t = ![(grid7.coords t 0).val, (grid7.coords t 1).val] := (by decide +kernel : ∀ t : Fin grid7.N, _)
theorem idx7_6 : ∀ t : Fin cfg7.N, win7_6.index t = ![(grid7.coords t 0).val, (grid7.coords t 1).val] := (by decide +kernel : ∀ t : Fin grid7.N, _)

set_option maxHeartbeats 2000000 in
/-- The hidden rows, block by block. -/
theorem final7_5 (c : Dev nD) : (dat7 V c).arrAt 5 cfg7.N
    = hidMat (m := 9216) (n := 11008) (d := 4096) (V c main_v15_0) (fun r => row (m := 9216) (d := 128) (V c main_v15_1) r 0)
        (row (m := 11008) (d := 4096) (V c main_v3)) (row (m := 11008) (d := 4096) (V c main_v5))
        ((V c main_v18 : S2.Idx → EReal) (ix1 0)) ((V c main_v18 : S2.Idx → EReal) (ix1 1)) := by
  refine (dat7 V c).arrAt_eq_of_covers 5 _ (by decide +kernel) fun t hf y => ?_
  blk_simp
  rw [after7_5]
  unfold outsAt7 out7_A_5
  frame_out
  obtain ⟨r, k, rfl⟩ : ∃ r : Fin 1024, ∃ k : Fin 256, y = ix2 r k := ⟨y 0, y 1, eq_ix2 y⟩
  refine ((hid7 _ _ _ _ _ _ r k)).trans ?_
  refine congr (congrArg hiddenOf (congr (congr (congr (congrArg lin (funext fun x => ?_)) (funext fun x => ?_)) ?_) ?_))
    (congr (congr (congr (congrArg lin (funext fun x => ?_)) (funext fun x => ?_)) ?_) ?_)
  · blk_ext! [iblk7, row, idx7_1 t, idx7_5 t]
  · blk_ext! [iblk7, row, idx7_3 t, idx7_5 t]
  · pointwise
    blk_ext! [iblk7, row, idx7_2 t, idx7_5 t]
  · pointwise
    blk_ext! [iblk7, idx7_0 t]
  · blk_ext! [iblk7, row, idx7_1 t, idx7_5 t]
  · blk_ext! [iblk7, row, idx7_4 t, idx7_5 t]
  · pointwise
    blk_ext! [iblk7, row, idx7_2 t, idx7_5 t]
  · pointwise
    blk_ext! [iblk7, idx7_0 t]

set_option maxHeartbeats 2000000 in
/-- The hidden rows at the narrower format, block by block. -/
theorem final7_6 (c : Dev nD) : (dat7 V c).arrAt 6 cfg7.N
    = hidMat (m := 9216) (n := 11008) (d := 4096) (V c main_v15_0) (fun r => row (m := 9216) (d := 128) (V c main_v15_1) r 0)
        (row (m := 11008) (d := 4096) (V c main_v3)) (row (m := 11008) (d := 4096) (V c main_v5))
        ((V c main_v18 : S2.Idx → EReal) (ix1 0)) ((V c main_v18 : S2.Idx → EReal) (ix1 1)) := by
  refine (dat7 V c).arrAt_eq_of_covers 6 _ (by decide +kernel) fun t hf y => ?_
  blk_simp
  rw [after7_6]
  unfold outsAt7 out7_A_6
  frame_out
  obtain ⟨r, k, rfl⟩ : ∃ r : Fin 1024, ∃ k : Fin 256, y = ix2 r k := ⟨y 0, y 1, eq_ix2 y⟩
  refine ((hid7b _ _ _ _ _ _ r k).trans (hid7 _ _ _ _ _ _ r k)).trans ?_
  refine congr (congrArg hiddenOf (congr (congr (congr (congrArg lin (funext fun x => ?_)) (funext fun x => ?_)) ?_) ?_))
    (congr (congr (congr (congrArg lin (funext fun x => ?_)) (funext fun x => ?_)) ?_) ?_)
  · blk_ext! [iblk7, row, idx7_1 t, idx7_6 t]
  · blk_ext! [iblk7, row, idx7_3 t, idx7_6 t]
  · pointwise
    blk_ext! [iblk7, row, idx7_2 t, idx7_6 t]
  · pointwise
    blk_ext! [iblk7, idx7_0 t]
  · blk_ext! [iblk7, row, idx7_1 t, idx7_6 t]
  · blk_ext! [iblk7, row, idx7_4 t, idx7_6 t]
  · pointwise
    blk_ext! [iblk7, row, idx7_2 t, idx7_6 t]
  · pointwise
    blk_ext! [iblk7, idx7_0 t]

end Cert.Val
-- ==== Proof.Val8.lean ====
/-
  What the region that normalises and quantises the feed-forward hidden rows leaves in its two arrays.
-/
module

public import proofs.«01_k».proof.Proof.NormK
public import proofs.«01_k».proof.Proof.Gen.BackIdeal.Frame.Region8

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.NormK

variable (V : (c : Dev nD) → (b : Ref sig .tc) → Buf (Elt Ideal) ((c : Thread nD τ).loc b))

theorem idx8_0 : ∀ t : Fin cfg8.N, win8_0.index t = ![(grid8.coords t 0).val, 0] := (by decide +kernel : ∀ t : Fin grid8.N, _)
theorem idx8_1 : ∀ t : Fin cfg8.N, win8_1.index t = ![0, 0] := (by decide +kernel : ∀ t : Fin grid8.N, _)
theorem idx8_2 : ∀ t : Fin cfg8.N, win8_2.index t = ![(grid8.coords t 0).val, 0] := (by decide +kernel : ∀ t : Fin grid8.N, _)
theorem idx8_3 : ∀ t : Fin cfg8.N, win8_3.index t = ![(grid8.coords t 0).val, 0] := (by decide +kernel : ∀ t : Fin grid8.N, _)

/-- The codes: each row normalised and quantised. -/
theorem final8_2 (c : Dev nD) : (dat8 V c).arrAt 2 cfg8.N
    = codeMat (m := 9216) (d := 11008) (Ideal.ofBits .f32 0x462C0000#32) (V c main_v19_0) (row (m := 1) (d := 11008) (V c main_v20) 0) := by
  refine (dat8 V c).arrAt_eq_of_covers 2 _ (by decide +kernel) fun t hf y => ?_
  blk_simp
  rw [after8_2]
  frame_out
  obtain ⟨r, k, rfl⟩ : ∃ r : Fin 128, ∃ k : Fin 11008, y = ix2 r k := ⟨y 0, y 1, eq_ix2 y⟩
  refine (code8 _ _ r k).trans ?_
  refine congr (congr (congrArg (code _) (funext fun x => ?_)) (funext fun x => ?_)) (Fin.ext ?_)
  · blk_ext! [iblk8, row, idx8_0 t, idx8_2 t]
  · blk_ext! [iblk8, row, idx8_1 t]
  · blk_simp [idx8_2 t]

/-- The scales, the same in every lane of a row. -/
theorem final8_3 (c : Dev nD) : (dat8 V c).arrAt 3 cfg8.N
    = laneMat (m := 9216) (d := 11008) (Ideal.ofBits .f32 0x462C0000#32) (V c main_v19_0) (row (m := 1) (d := 11008) (V c main_v20) 0) 128 := by
  refine (dat8 V c).arrAt_eq_of_covers 3 _ (by decide +kernel) fun t hf y => ?_
  blk_simp
  rw [after8_3]
  frame_out
  obtain ⟨r, k, rfl⟩ : ∃ r : Fin 128, ∃ k : Fin 128, y = ix2 r k := ⟨y 0, y 1, eq_ix2 y⟩
  refine (lanes8 _ _ r k).trans ?_
  refine congr (congrArg (scale _) (funext fun x => ?_)) (funext fun x => ?_)
  · blk_ext! [iblk8, row, idx8_0 t, idx8_3 t]
  · blk_ext! [iblk8, row, idx8_1 t]

end Cert.Val
-- ==== Proof.Val9.lean ====
/-
  What the region of the down projection leaves in its array: the residual plus the quantised product.
-/
module

public import proofs.«01_k».proof.Proof.LinK
public import proofs.«01_k».proof.Proof.Gen.BackIdeal.Frame.Region9

@[expose] public section

set_option maxRecDepth 16384

noncomputable section

namespace Cert.Val

open Idealize.ShloMosaic Idealize.ShloMosaic.TcCoe Idealize.ShloMosaic.Pipeline Cert.Rows
open Cert.BackIdeal Cert.BackIdeal.Gen
open Cert.LinK

variable (V : (c : Dev nD) → (b : Ref sig .tc) → Buf (Elt Ideal) ((c : Thread nD τ).loc b))

theorem idx9_0 : ∀ t : Fin cfg9.N, win9_0.index t = ![0] := (by decide +kernel : ∀ t : Fin grid9.N, _)
theorem idx9_1 : ∀ t : Fin cfg9.N, win9_1.index t = ![(grid9.coords t 0).val, 0] := (by decide +kernel : ∀ t : Fin grid9.N, _)
theorem idx9_2 : ∀ t : Fin cfg9.N, win9_2.index t = ![(grid9.coords t 0).val, 0] := (by decide +kernel : ∀ t : Fin grid9.N, _)
theorem idx9_3 : ∀ t : Fin cfg9.N, win9_3.index t = ![(grid9.coords t 1).val, 0] := (by decide +kernel : ∀ t : Fin grid9.N, _)
theorem idx9_4 : ∀ t : Fin cfg9.N, win9_4.index t = ![(grid9.coords t 0).val, (grid9.coords t 1).val] := (by decide +kernel : ∀ t : Fin grid9.N, _)
theorem idx9_5 : ∀ t : Fin cfg9.N, win9_5.index t = ![(grid9.coords t 0).val, (grid9.coords t 1).val] := (by decide +kernel : ∀ t : Fin grid9.N, _)

/-- The residual plus the quantised product, block by block. -/
theorem final9_5 (c : Dev nD) : (dat9 V c).arrAt 5 cfg9.N
    = resLin (m := 9216) (n := 4096) (d := 11008) (V c main_v13) (V c main_v21_0) (fun r => row (m := 9216) (d := 128) (V c main_v21_1) r 0)
        (row (m := 4096) (d := 11008) (V c main_v7)) ((V c main_v22 : S1.Idx → EReal) (ix1 0)) := by
  refine (dat9 V c).arrAt_eq_of_covers 5 _ (by decide +kernel) fun t hf y => ?_
  blk_simp
  rw [after9_5]
  unfold outsAt9 out9_A_5
  frame_out
  obtain ⟨r, k, rfl⟩ : ∃ r : Fin 512, ∃ k : Fin 256, y = ix2 r k := ⟨y 0, y 1, eq_ix2 y⟩
  refine (res9 _ _ _ _ _ r k).trans ?_
  refine congr (congrArg HAdd.hAdd ?_) (congr (congr (congr (congrArg lin (funext fun x => ?_)) (funext fun x => ?_)) ?_) ?_)
  · blk_ext! [iblk9, idx9_4 t, idx9_5 t]
  · blk_ext! [iblk9, row, idx9_1 t, idx9_5 t]
  · blk_ext! [iblk9, row, idx9_3 t, idx9_5 t]
  · pointwise
    blk_ext! [iblk9, row, idx9_2 t, idx9_5 t]
  · pointwise
    blk_ext! [iblk9, idx9_0 t]

end Cert.Val
-- ==== Proof.Chain.lean ====
/-
  What every buffer between the calls of the kernel's program holds, from the arguments to the last call.
-/
module

public import proofs.«01_k».proof.Proof.Layout
public import proofs.«01_k».proof.Proof.Val0
public import proofs.«01_k».proof.Proof.Val1
public import proofs.«01_k».proof.Proof.Val2
public import proofs.«01_k».proof.Proof.Val3
public import proofs.«01_k».proof.Proof.Val4
public import proofs.«01_k».proof.Proof.Val5
public import proofs.«01_k».proof.Proof.Val6
public import proofs.«01_k».proof.Proof.Val7
public import proofs.«01_k».proof.Proof.Val8
public import proofs.«01_k».proof.Proof.Val9
public import proofs.«01_k».proof.Proof.Gen.BackIdeal.Frame

@[expose] public section

set_option maxRecDepth 16384

noncomputable section

namespace Cert.Chain

open Idealize.ShloMosaic Idealize.ShloMosaic.TcCoe Idealize.ShloMosaic.Pipeline Cert.Rows
open Cert.BackIdeal Cert.BackIdeal.Gen
open Cert.Val Cert.Layout Idealize.ShloMosaic.StableHlo

variable (m : (ℓ : Loc nD τ sig) → Buf (Elt Ideal) ℓ) (ρ : Dev nD → PrngReg)

/-- The layer's inputs, from the program's arguments. -/
abbrev kin (c : Dev nD) : Back :=
  ⟨shapeCast S9216x4096 (m ((c : Thread nD τ).loc main_arg1) : S3x3072x4096.Idx → EReal) shapeCasts_S3x3072x4096_S9216x4096,
   shapeCast S9216x4096 (m ((c : Thread nD τ).loc main_arg0) : S3x3072x4096.Idx → EReal) shapeCasts_S3x3072x4096_S9216x4096,
   vec (d := 4096) (m ((c : Thread nD τ).loc main_arg2)), vec (d := 4096) (m ((c : Thread nD τ).loc main_arg3)), vec (d := 11008) (m ((c : Thread nD τ).loc main_arg4)),
   m ((c : Thread nD τ).loc main_arg5), m ((c : Thread nD τ).loc main_arg6), m ((c : Thread nD τ).loc main_arg7), m ((c : Thread nD τ).loc main_arg8),
   (m ((c : Thread nD τ).loc main_arg9) : S_.Idx → EReal) ix0, (m ((c : Thread nD τ).loc main_arg10) : S_.Idx → EReal) ix0,
   (m ((c : Thread nD τ).loc main_arg11) : S_.Idx → EReal) ix0, (m ((c : Thread nD τ).loc main_arg12) : S_.Idx → EReal) ix0⟩

theorem tail_main_v1 (V : Valuation τ sig (Elt Ideal)) : StableHlo.after hostOps1 V (Proc.devRef .tc main_v1) = shapeCast _ (V (Proc.devRef .tc main_v0)) shapeCasts_S4x1024x4096_S4096x4096 := by
  simp only [hostOps1]
  after_results <;> rfl
theorem tail_main_v3 (V : Valuation τ sig (Elt Ideal)) : StableHlo.after hostOps2 V (Proc.devRef .tc main_v3) = shapeCast _ (V (Proc.devRef .tc main_v2)) shapeCasts_S4x2752x4096_S11008x4096 := by
  simp only [hostOps2]
  after_results <;> rfl
theorem tail_main_v5 (V : Valuation τ sig (Elt Ideal)) : StableHlo.after hostOps3 V (Proc.devRef .tc main_v5) = shapeCast _ (V (Proc.devRef .tc main_v4)) shapeCasts_S4x2752x4096_S11008x4096 := by
  simp only [hostOps3]
  after_results <;> rfl
theorem tail_main_v7 (V : Valuation τ sig (Elt Ideal)) : StableHlo.after hostOps4 V (Proc.devRef .tc main_v7) = shapeCast _ (V (Proc.devRef .tc main_v6)) shapeCasts_S4x1024x11008_S4096x11008 := by
  simp only [hostOps4]
  after_results <;> rfl
theorem tail_main_v8 (V : Valuation τ sig (Elt Ideal)) : StableHlo.after hostOps4 V (Proc.devRef .tc main_v8) = shapeCast _ (V (Proc.devRef .tc main_arg0)) shapeCasts_S3x3072x4096_S9216x4096 := by
  simp only [hostOps4]
  after_results <;> rfl
theorem tail_main_v9 (V : Valuation τ sig (Elt Ideal)) : StableHlo.after hostOps4 V (Proc.devRef .tc main_v9) = shapeCast _ (V (Proc.devRef .tc main_arg1)) shapeCasts_S3x3072x4096_S9216x4096 := by
  simp only [hostOps4]
  after_results <;> rfl
theorem tail_main_v10 (V : Valuation τ sig (Elt Ideal)) : StableHlo.after hostOps4 V (Proc.devRef .tc main_v10) = shapeCast _ (V (Proc.devRef .tc main_arg2)) shapeCasts_S4096_S1x4096 := by
  simp only [hostOps4]
  after_results <;> rfl
theorem tail_main_v12 (V : Valuation τ sig (Elt Ideal)) : StableHlo.after hostOps5 V (Proc.devRef .tc main_v12) = shapeCast _ (V (Proc.devRef .tc main_arg9)) shapeCasts_S_S1 := by
  simp only [hostOps5]
  after_results <;> rfl
theorem tail_main_v14 (V : Valuation τ sig (Elt Ideal)) : StableHlo.after hostOps6 V (Proc.devRef .tc main_v14) = shapeCast _ (V (Proc.devRef .tc main_arg3)) shapeCasts_S4096_S1x4096 := by
  simp only [hostOps6]
  after_results <;> rfl
theorem tail_main_v20 (V : Valuation τ sig (Elt Ideal)) : StableHlo.after hostOps8 V (Proc.devRef .tc main_v20) = shapeCast _ (V (Proc.devRef .tc main_arg4)) shapeCasts_S11008_S1x11008 := by
  simp only [hostOps8]
  after_results <;> rfl
theorem tail_main_v22 (V : Valuation τ sig (Elt Ideal)) : StableHlo.after hostOps9 V (Proc.devRef .tc main_v22) = shapeCast _ (V (Proc.devRef .tc main_arg12)) shapeCasts_S_S1 := by
  simp only [hostOps9]
  after_results <;> rfl
theorem tail_main_v18 (V : Valuation τ sig (Elt Ideal)) : StableHlo.after hostOps7 V (Proc.devRef .tc main_v18) = concatenate S2 0 [⟨S1, broadcastInDim S1 ![] bcast_S_S1 (V (Proc.devRef .tc main_arg10) : S_.Idx → EReal)⟩, ⟨S1, broadcastInDim S1 ![] bcast_S_S1 (V (Proc.devRef .tc main_arg11) : S_.Idx → EReal)⟩] concatenates_S1_S1_S2_d0 := by
  simp only [hostOps7]
  after_results <;> rfl

/-! ## Buffers that later steps leave as they are -/

theorem carry_main_v1_10 (c : Dev nD) : W10 m ρ c (Proc.devRef .tc main_v1) = W2 m ρ c (Proc.devRef .tc main_v1) :=
  (W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)))))))))
theorem carry_main_v11_0_10 (c : Dev nD) : W10 m ρ c (Proc.devRef .tc main_v11_0) = W9 m ρ c (Proc.devRef .tc main_v11_0) :=
  (W10_of m ρ c main_v11_0 (by decide))
theorem carry_main_v11_0_19 (c : Dev nD) : W19 m ρ c (Proc.devRef .tc main_v11_0) = W9 m ρ c (Proc.devRef .tc main_v11_0) :=
  (W19_of m ρ c main_v11_0 (by decide)).trans ((W18_of m ρ c main_v11_0 (by decide)).trans ((W17_of m ρ c main_v11_0 (by decide)).trans ((W16_of m ρ c main_v11_0 (by decide)).trans ((W15_of m ρ c main_v11_0 (by decide)).trans ((W14_of m ρ c main_v11_0 (by decide)).trans ((W13_of m ρ c main_v11_0 (by decide)).trans ((W12_of m ρ c main_v11_0 (by decide)).trans ((W11_of m ρ c main_v11_0 (by decide)).trans ((W10_of m ρ c main_v11_0 (by decide)))))))))))
theorem carry_main_v11_1_10 (c : Dev nD) : W10 m ρ c (Proc.devRef .tc main_v11_1) = W9 m ρ c (Proc.devRef .tc main_v11_1) :=
  (W10_of m ρ c main_v11_1 (by decide))
theorem carry_main_v11_1_19 (c : Dev nD) : W19 m ρ c (Proc.devRef .tc main_v11_1) = W9 m ρ c (Proc.devRef .tc main_v11_1) :=
  (W19_of m ρ c main_v11_1 (by decide)).trans ((W18_of m ρ c main_v11_1 (by decide)).trans ((W17_of m ρ c main_v11_1 (by decide)).trans ((W16_of m ρ c main_v11_1 (by decide)).trans ((W15_of m ρ c main_v11_1 (by decide)).trans ((W14_of m ρ c main_v11_1 (by decide)).trans ((W13_of m ρ c main_v11_1 (by decide)).trans ((W12_of m ρ c main_v11_1 (by decide)).trans ((W11_of m ρ c main_v11_1 (by decide)).trans ((W10_of m ρ c main_v11_1 (by decide)))))))))))
theorem carry_main_v13_12 (c : Dev nD) : W12 m ρ c (Proc.devRef .tc main_v13) = W11 m ρ c (Proc.devRef .tc main_v13) :=
  (W12_of m ρ c main_v13 (by decide))
theorem carry_main_v13_18 (c : Dev nD) : W18 m ρ c (Proc.devRef .tc main_v13) = W11 m ρ c (Proc.devRef .tc main_v13) :=
  (W18_of m ρ c main_v13 (by decide)).trans ((W17_of m ρ c main_v13 (by decide)).trans ((W16_of m ρ c main_v13 (by decide)).trans ((W15_of m ρ c main_v13 (by decide)).trans ((W14_of m ρ c main_v13 (by decide)).trans ((W13_of m ρ c main_v13 (by decide)).trans ((W12_of m ρ c main_v13 (by decide))))))))
theorem carry_main_v15_0_14 (c : Dev nD) : W14 m ρ c (Proc.devRef .tc main_v15_0) = W13 m ρ c (Proc.devRef .tc main_v15_0) :=
  (W14_of m ρ c main_v15_0 (by decide))
theorem carry_main_v15_0_19 (c : Dev nD) : W19 m ρ c (Proc.devRef .tc main_v15_0) = W13 m ρ c (Proc.devRef .tc main_v15_0) :=
  (W19_of m ρ c main_v15_0 (by decide)).trans ((W18_of m ρ c main_v15_0 (by decide)).trans ((W17_of m ρ c main_v15_0 (by decide)).trans ((W16_of m ρ c main_v15_0 (by decide)).trans ((W15_of m ρ c main_v15_0 (by decide)).trans ((W14_of m ρ c main_v15_0 (by decide)))))))
theorem carry_main_v15_1_14 (c : Dev nD) : W14 m ρ c (Proc.devRef .tc main_v15_1) = W13 m ρ c (Proc.devRef .tc main_v15_1) :=
  (W14_of m ρ c main_v15_1 (by decide))
theorem carry_main_v15_1_19 (c : Dev nD) : W19 m ρ c (Proc.devRef .tc main_v15_1) = W13 m ρ c (Proc.devRef .tc main_v15_1) :=
  (W19_of m ρ c main_v15_1 (by decide)).trans ((W18_of m ρ c main_v15_1 (by decide)).trans ((W17_of m ρ c main_v15_1 (by decide)).trans ((W16_of m ρ c main_v15_1 (by decide)).trans ((W15_of m ρ c main_v15_1 (by decide)).trans ((W14_of m ρ c main_v15_1 (by decide)))))))
theorem carry_main_v19_0_16 (c : Dev nD) : W16 m ρ c (Proc.devRef .tc main_v19_0) = W15 m ρ c (Proc.devRef .tc main_v19_0) :=
  (W16_of m ρ c main_v19_0 (by decide))
theorem carry_main_v19_1_19 (c : Dev nD) : W19 m ρ c (Proc.devRef .tc main_v19_1) = W15 m ρ c (Proc.devRef .tc main_v19_1) :=
  (W19_of m ρ c main_v19_1 (by decide)).trans ((W18_of m ρ c main_v19_1 (by decide)).trans ((W17_of m ρ c main_v19_1 (by decide)).trans ((W16_of m ρ c main_v19_1 (by decide)))))
theorem carry_main_v21_0_18 (c : Dev nD) : W18 m ρ c (Proc.devRef .tc main_v21_0) = W17 m ρ c (Proc.devRef .tc main_v21_0) :=
  (W18_of m ρ c main_v21_0 (by decide))
theorem carry_main_v21_0_19 (c : Dev nD) : W19 m ρ c (Proc.devRef .tc main_v21_0) = W17 m ρ c (Proc.devRef .tc main_v21_0) :=
  (W19_of m ρ c main_v21_0 (by decide)).trans ((W18_of m ρ c main_v21_0 (by decide)))
theorem carry_main_v21_1_18 (c : Dev nD) : W18 m ρ c (Proc.devRef .tc main_v21_1) = W17 m ρ c (Proc.devRef .tc main_v21_1) :=
  (W18_of m ρ c main_v21_1 (by decide))
theorem carry_main_v21_1_19 (c : Dev nD) : W19 m ρ c (Proc.devRef .tc main_v21_1) = W17 m ρ c (Proc.devRef .tc main_v21_1) :=
  (W19_of m ρ c main_v21_1 (by decide)).trans ((W18_of m ρ c main_v21_1 (by decide)))
theorem carry_main_v3_14 (c : Dev nD) : W14 m ρ c (Proc.devRef .tc main_v3) = W4 m ρ c (Proc.devRef .tc main_v3) :=
  (W14_of m ρ c main_v3 (by decide)).trans ((W13_of m ρ c main_v3 (by decide)).trans ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)))))))))))
theorem carry_main_v5_14 (c : Dev nD) : W14 m ρ c (Proc.devRef .tc main_v5) = W6 m ρ c (Proc.devRef .tc main_v5) :=
  (W14_of m ρ c main_v5 (by decide)).trans ((W13_of m ρ c main_v5 (by decide)).trans ((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)))))))))
theorem carry_main_v7_18 (c : Dev nD) : W18 m ρ c (Proc.devRef .tc main_v7) = W8 m ρ c (Proc.devRef .tc main_v7) :=
  (W18_of m ρ c main_v7 (by decide)).trans ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)))))))))))
theorem carry_main_v8_10 (c : Dev nD) : W10 m ρ c (Proc.devRef .tc main_v8) = W8 m ρ c (Proc.devRef .tc main_v8) :=
  (W10_of m ρ c main_v8 (by decide)).trans ((W9_of m ρ c main_v8 (by decide)))

/-! ## The contents, step by step -/

theorem at_main_v0 (c : Dev nD) : (W1 m ρ c (Proc.devRef .tc main_v0) : S4x1024x4096.Idx → EReal) = unpackMat (R := 1024) (d := 4096) (m ((c : Thread nD τ).loc main_arg5)) :=
  (W1_arr m ρ c 1).trans ((final0_1 (V0 m ρ) c).trans (congrArg (unpackMat (R := 1024) (d := 4096)) (W0_args m ρ c main_arg5 (by decide))))
theorem at_main_v1 (c : Dev nD) : row (m := 4096) (d := 4096) (W2 m ρ c (Proc.devRef .tc main_v1)) = fun n => wrow (R := 1024) (by decide) (m ((c : Thread nD τ).loc main_arg5)) n.val := by
  refine funext fun n => funext fun x => ?_
  refine (congrFun (tail_main_v1 (W1 m ρ c)) _).trans ?_
  rw [at_main_v0 m ρ c]
  exact row_unpack (by decide) _ _ (by decide) n x

theorem at_main_v2 (c : Dev nD) : (W3 m ρ c (Proc.devRef .tc main_v2) : S4x2752x4096.Idx → EReal) = unpackMat (R := 2752) (d := 4096) (m ((c : Thread nD τ).loc main_arg6)) :=
  (W3_arr m ρ c 1).trans ((final1_1 (V2 m ρ) c).trans (congrArg (unpackMat (R := 2752) (d := 4096)) (W2_args m ρ c main_arg6 (by decide))))
theorem at_main_v3 (c : Dev nD) : row (m := 11008) (d := 4096) (W4 m ρ c (Proc.devRef .tc main_v3)) = fun n => wrow (R := 2752) (by decide) (m ((c : Thread nD τ).loc main_arg6)) n.val := by
  refine funext fun n => funext fun x => ?_
  refine (congrFun (tail_main_v3 (W3 m ρ c)) _).trans ?_
  rw [at_main_v2 m ρ c]
  exact row_unpack (by decide) _ _ (by decide) n x

theorem at_main_v4 (c : Dev nD) : (W5 m ρ c (Proc.devRef .tc main_v4) : S4x2752x4096.Idx → EReal) = unpackMat (R := 2752) (d := 4096) (m ((c : Thread nD τ).loc main_arg7)) :=
  (W5_arr m ρ c 1).trans ((final2_1 (V4 m ρ) c).trans (congrArg (unpackMat (R := 2752) (d := 4096)) (W4_args m ρ c main_arg7 (by decide))))
theorem at_main_v5 (c : Dev nD) : row (m := 11008) (d := 4096) (W6 m ρ c (Proc.devRef .tc main_v5)) = fun n => wrow (R := 2752) (by decide) (m ((c : Thread nD τ).loc main_arg7)) n.val := by
  refine funext fun n => funext fun x => ?_
  refine (congrFun (tail_main_v5 (W5 m ρ c)) _).trans ?_
  rw [at_main_v4 m ρ c]
  exact row_unpack (by decide) _ _ (by decide) n x

theorem at_main_v6 (c : Dev nD) : (W7 m ρ c (Proc.devRef .tc main_v6) : S4x1024x11008.Idx → EReal) = unpackMat (R := 1024) (d := 11008) (m ((c : Thread nD τ).loc main_arg8)) :=
  (W7_arr m ρ c 1).trans ((final3_1 (V6 m ρ) c).trans (congrArg (unpackMat (R := 1024) (d := 11008)) (W6_args m ρ c main_arg8 (by decide))))
theorem at_main_v7 (c : Dev nD) : row (m := 4096) (d := 11008) (W8 m ρ c (Proc.devRef .tc main_v7)) = fun n => wrow (R := 1024) (by decide) (m ((c : Thread nD τ).loc main_arg8)) n.val := by
  refine funext fun n => funext fun x => ?_
  refine (congrFun (tail_main_v7 (W7 m ρ c)) _).trans ?_
  rw [at_main_v6 m ρ c]
  exact row_unpack (by decide) _ _ (by decide) n x

theorem at_main_v8 (c : Dev nD) : (W8 m ρ c (Proc.devRef .tc main_v8) : S9216x4096.Idx → EReal) = (kin m c).x := by
  rw [show W8 m ρ c (Proc.devRef .tc main_v8) = _ from tail_main_v8 (W7 m ρ c), W7_args m ρ c main_arg0 (by decide)]

theorem at_main_v9 (c : Dev nD) : (W8 m ρ c (Proc.devRef .tc main_v9) : S9216x4096.Idx → EReal) = (kin m c).attn := by
  rw [show W8 m ρ c (Proc.devRef .tc main_v9) = _ from tail_main_v9 (W7 m ρ c), W7_args m ρ c main_arg1 (by decide)]

theorem at_main_v10 (c : Dev nD) : row (m := 1) (d := 4096) (W8 m ρ c (Proc.devRef .tc main_v10)) 0 = vec (d := 4096) (m ((c : Thread nD τ).loc main_arg2)) := by
  rw [show W8 m ρ c (Proc.devRef .tc main_v10) = _ from tail_main_v10 (W7 m ρ c), W7_args m ρ c main_arg2 (by decide)]
  exact row_one _ _

theorem at_main_v12 (c : Dev nD) : (W10 m ρ c (Proc.devRef .tc main_v12) : S1.Idx → EReal) (ix1 0) = (kin m c).sOut := by
  rw [show W10 m ρ c (Proc.devRef .tc main_v12) = _ from tail_main_v12 (W9 m ρ c), W9_args m ρ c main_arg9 (by decide)]
  refine shapeCast_apply _ shapeCasts_S_S1 (ix1 0) ix0 ?_
  rfl

theorem at_main_v14 (c : Dev nD) : row (m := 1) (d := 4096) (W12 m ρ c (Proc.devRef .tc main_v14)) 0 = vec (d := 4096) (m ((c : Thread nD τ).loc main_arg3)) := by
  rw [show W12 m ρ c (Proc.devRef .tc main_v14) = _ from tail_main_v14 (W11 m ρ c), W11_args m ρ c main_arg3 (by decide)]
  exact row_one _ _

theorem at_main_v20 (c : Dev nD) : row (m := 1) (d := 11008) (W16 m ρ c (Proc.devRef .tc main_v20)) 0 = vec (d := 11008) (m ((c : Thread nD τ).loc main_arg4)) := by
  rw [show W16 m ρ c (Proc.devRef .tc main_v20) = _ from tail_main_v20 (W15 m ρ c), W15_args m ρ c main_arg4 (by decide)]
  exact row_one _ _

theorem at_main_v22 (c : Dev nD) : (W18 m ρ c (Proc.devRef .tc main_v22) : S1.Idx → EReal) (ix1 0) = (kin m c).sDown := by
  rw [show W18 m ρ c (Proc.devRef .tc main_v22) = _ from tail_main_v22 (W17 m ρ c), W17_args m ρ c main_arg12 (by decide)]
  refine shapeCast_apply _ shapeCasts_S_S1 (ix1 0) ix0 ?_
  rfl

theorem at_main_v18_0 (c : Dev nD) : (W14 m ρ c (Proc.devRef .tc main_v18) : S2.Idx → EReal) (ix1 0) = (kin m c).sGate := by
  rw [show W14 m ρ c (Proc.devRef .tc main_v18) = _ from tail_main_v18 (W13 m ρ c), W13_args m ρ c main_arg10 (by decide), W13_args m ρ c main_arg11 (by decide)]
  pointwise

theorem at_main_v18_1 (c : Dev nD) : (W14 m ρ c (Proc.devRef .tc main_v18) : S2.Idx → EReal) (ix1 1) = (kin m c).sUp := by
  rw [show W14 m ρ c (Proc.devRef .tc main_v18) = _ from tail_main_v18 (W13 m ρ c), W13_args m ρ c main_arg10 (by decide), W13_args m ρ c main_arg11 (by decide)]
  pointwise

theorem at_main_v11_0 (c : Dev nD) : (W9 m ρ c (Proc.devRef .tc main_v11_0) : S9216x4096.Idx → BitVec 8) = (kin m c).attnCodes :=
  (W9_arr m ρ c 2).trans ((final4_2 (V8 m ρ) c).trans (codeMat_congr nModel (at_main_v9 m ρ c) (at_main_v10 m ρ c)))
theorem at_main_v11_1 (c : Dev nD) : (W9 m ρ c (Proc.devRef .tc main_v11_1) : S9216x128.Idx → EReal) = laneMat nModel (kin m c).attn (kin m c).gAttn 128 :=
  (W9_arr m ρ c 3).trans ((final4_3 (V8 m ρ) c).trans (laneMat_congr nModel 128 (at_main_v9 m ρ c) (at_main_v10 m ρ c)))

theorem at_main_v13 (c : Dev nD) : (W11 m ρ c (Proc.devRef .tc main_v13) : S9216x4096.Idx → EReal) = (kin m c).h1 :=
  (W11_arr m ρ c 5).trans ((final5_5 (V10 m ρ) c).trans (resLin_congr ((carry_main_v8_10 m ρ c).trans (at_main_v8 m ρ c)) ((carry_main_v11_0_10 m ρ c).trans (at_main_v11_0 m ρ c))
    (congrArg (fun z : S9216x128.Idx → EReal => fun r : Fin 9216 => z (ix2 r 0)) ((carry_main_v11_1_10 m ρ c).trans (at_main_v11_1 m ρ c))) ((congrArg (row (m := 4096) (d := 4096)) (carry_main_v1_10 m ρ c)).trans (at_main_v1 m ρ c)) (at_main_v12 m ρ c)))

theorem at_main_v15_0 (c : Dev nD) : (W13 m ρ c (Proc.devRef .tc main_v15_0) : S9216x4096.Idx → BitVec 8) = (kin m c).postCodes :=
  (W13_arr m ρ c 2).trans ((final6_2 (V12 m ρ) c).trans (codeMat_congr nModel ((carry_main_v13_12 m ρ c).trans (at_main_v13 m ρ c)) (at_main_v14 m ρ c)))
theorem at_main_v15_1 (c : Dev nD) : (W13 m ρ c (Proc.devRef .tc main_v15_1) : S9216x128.Idx → EReal) = laneMat nModel (kin m c).h1 (kin m c).gPost 128 :=
  (W13_arr m ρ c 3).trans ((final6_3 (V12 m ρ) c).trans (laneMat_congr nModel 128 ((carry_main_v13_12 m ρ c).trans (at_main_v13 m ρ c)) (at_main_v14 m ρ c)))

theorem at_main_v19_0 (c : Dev nD) : (W15 m ρ c (Proc.devRef .tc main_v19_0) : S9216x11008.Idx → EReal) = (kin m c).hid :=
  (W15_arr m ρ c 5).trans ((final7_5 (V14 m ρ) c).trans (hidMat_congr ((carry_main_v15_0_14 m ρ c).trans (at_main_v15_0 m ρ c)) (congrArg (fun z : S9216x128.Idx → EReal => fun r : Fin 9216 => z (ix2 r 0)) ((carry_main_v15_1_14 m ρ c).trans (at_main_v15_1 m ρ c)))
    ((congrArg (row (m := 11008) (d := 4096)) (carry_main_v3_14 m ρ c)).trans (at_main_v3 m ρ c)) ((congrArg (row (m := 11008) (d := 4096)) (carry_main_v5_14 m ρ c)).trans (at_main_v5 m ρ c)) (at_main_v18_0 m ρ c) (at_main_v18_1 m ρ c)))

theorem at_main_v19_1 (c : Dev nD) : (W15 m ρ c (Proc.devRef .tc main_v19_1) : S9216x11008.Idx → EReal) = (kin m c).hid :=
  (W15_arr m ρ c 6).trans ((final7_6 (V14 m ρ) c).trans (hidMat_congr ((carry_main_v15_0_14 m ρ c).trans (at_main_v15_0 m ρ c)) (congrArg (fun z : S9216x128.Idx → EReal => fun r : Fin 9216 => z (ix2 r 0)) ((carry_main_v15_1_14 m ρ c).trans (at_main_v15_1 m ρ c)))
    ((congrArg (row (m := 11008) (d := 4096)) (carry_main_v3_14 m ρ c)).trans (at_main_v3 m ρ c)) ((congrArg (row (m := 11008) (d := 4096)) (carry_main_v5_14 m ρ c)).trans (at_main_v5 m ρ c)) (at_main_v18_0 m ρ c) (at_main_v18_1 m ρ c)))

theorem at_main_v21_0 (c : Dev nD) : (W17 m ρ c (Proc.devRef .tc main_v21_0) : S9216x11008.Idx → BitVec 8) = (kin m c).hidCodes :=
  (W17_arr m ρ c 2).trans ((final8_2 (V16 m ρ) c).trans (codeMat_congr nHidden ((carry_main_v19_0_16 m ρ c).trans (at_main_v19_0 m ρ c)) (at_main_v20 m ρ c)))
theorem at_main_v21_1 (c : Dev nD) : (W17 m ρ c (Proc.devRef .tc main_v21_1) : S9216x128.Idx → EReal) = laneMat nHidden (kin m c).hid (kin m c).gHidden 128 :=
  (W17_arr m ρ c 3).trans ((final8_3 (V16 m ρ) c).trans (laneMat_congr nHidden 128 ((carry_main_v19_0_16 m ρ c).trans (at_main_v19_0 m ρ c)) (at_main_v20 m ρ c)))

theorem at_main_v23 (c : Dev nD) : (W19 m ρ c (Proc.devRef .tc main_v23) : S9216x4096.Idx → EReal) = (kin m c).out :=
  (W19_arr m ρ c 5).trans ((final9_5 (V18 m ρ) c).trans (resLin_congr ((carry_main_v13_18 m ρ c).trans (at_main_v13 m ρ c)) ((carry_main_v21_0_18 m ρ c).trans (at_main_v21_0 m ρ c))
    (congrArg (fun z : S9216x128.Idx → EReal => fun r : Fin 9216 => z (ix2 r 0)) ((carry_main_v21_1_18 m ρ c).trans (at_main_v21_1 m ρ c))) ((congrArg (row (m := 4096) (d := 11008)) (carry_main_v7_18 m ρ c)).trans (at_main_v7 m ρ c)) (at_main_v22 m ρ c)))

/-! ## The results -/

theorem tail_main_v24 (V : Valuation τ sig (Elt Ideal)) : StableHlo.after hostOps10 V (Proc.devRef .tc main_v24) = shapeCast _ (V (Proc.devRef .tc main_v23)) shapeCasts_S9216x4096_S3x3072x4096 := by
  simp only [hostOps10]
  after_results <;> rfl

theorem res_main_v24 (c : Dev nD) : (W20 m ρ c (Proc.devRef .tc main_v24) : S3x3072x4096.Idx → EReal) = shapeCast S3x3072x4096 ((kin m c).out : S9216x4096.Idx → EReal) shapeCasts_S9216x4096_S3x3072x4096 :=
  (tail_main_v24 (W19 m ρ c)).trans (congrArg (fun z : S9216x4096.Idx → EReal => shapeCast S3x3072x4096 z shapeCasts_S9216x4096_S3x3072x4096) (at_main_v23 m ρ c))
theorem tail_main_v25 (V : Valuation τ sig (Elt Ideal)) : StableHlo.after hostOps10 V (Proc.devRef .tc main_v25) = shapeCast _ (V (Proc.devRef .tc main_v19_1)) shapeCasts_S9216x11008_S3x3072x11008 := by
  simp only [hostOps10]
  after_results <;> rfl

theorem res_main_v25 (c : Dev nD) : (W20 m ρ c (Proc.devRef .tc main_v25) : S3x3072x11008.Idx → EReal) = shapeCast S3x3072x11008 ((kin m c).hid : S9216x11008.Idx → EReal) shapeCasts_S9216x11008_S3x3072x11008 :=
  (tail_main_v25 (W19 m ρ c)).trans (congrArg (fun z : S9216x11008.Idx → EReal => shapeCast S3x3072x11008 z shapeCasts_S9216x11008_S3x3072x11008) ((carry_main_v19_1_19 m ρ c).trans (at_main_v19_1 m ρ c)))
theorem tail_main_v26 (V : Valuation τ sig (Elt Ideal)) : StableHlo.after hostOps10 V (Proc.devRef .tc main_v26) = shapeCast _ (V (Proc.devRef .tc main_v11_0)) shapeCasts_S9216x4096_S3x3072x4096 := by
  simp only [hostOps10]
  after_results <;> rfl

theorem res_main_v26 (c : Dev nD) : (W20 m ρ c (Proc.devRef .tc main_v26) : S3x3072x4096.Idx → BitVec 8) = shapeCast S3x3072x4096 ((kin m c).attnCodes : S9216x4096.Idx → BitVec 8) shapeCasts_S9216x4096_S3x3072x4096 :=
  (tail_main_v26 (W19 m ρ c)).trans (congrArg (fun z : S9216x4096.Idx → BitVec 8 => shapeCast S3x3072x4096 z shapeCasts_S9216x4096_S3x3072x4096) ((carry_main_v11_0_19 m ρ c).trans (at_main_v11_0 m ρ c)))
theorem tail_main_v29 (V : Valuation τ sig (Elt Ideal)) : StableHlo.after hostOps10 V (Proc.devRef .tc main_v29) = shapeCast S3x3072 (shapeCast S9216 (extractStridedSlice S9216x1 ![0, 0] (V (Proc.devRef .tc main_v11_1) : S9216x128.Idx → EReal) slices_S9216x128_S9216x1_0_0) shapeCasts_S9216x1_S9216) shapeCasts_S9216_S3x3072 := by
  simp only [hostOps10]
  after_results <;> rfl

theorem res_main_v29 (c : Dev nD) : (W20 m ρ c (Proc.devRef .tc main_v29) : S3x3072.Idx → EReal) = shapeCast S3x3072 ((kin m c).attnScales : S9216.Idx → EReal) shapeCasts_S9216_S3x3072 := by
  have e : (W19 m ρ c (Proc.devRef .tc main_v11_1) : S9216x128.Idx → EReal) = laneMat nModel (kin m c).attn (kin m c).gAttn 128 := ((carry_main_v11_1_19 m ρ c).trans (at_main_v11_1 m ρ c))
  have l := lane_vec nModel (m := 9216) (l := 128) (kin m c).attn (kin m c).gAttn (by decide) slices_S9216x128_S9216x1_0_0 shapeCasts_S9216x1_S9216
  have f : (kin m c).attnScales = scaleVec nModel (kin m c).attn (kin m c).gAttn := rfl
  refine (tail_main_v29 (W19 m ρ c)).trans ?_
  rw [e, f, ← l]
theorem tail_main_v30 (V : Valuation τ sig (Elt Ideal)) : StableHlo.after hostOps10 V (Proc.devRef .tc main_v30) = shapeCast _ (V (Proc.devRef .tc main_v15_0)) shapeCasts_S9216x4096_S3x3072x4096 := by
  simp only [hostOps10]
  after_results <;> rfl

theorem res_main_v30 (c : Dev nD) : (W20 m ρ c (Proc.devRef .tc main_v30) : S3x3072x4096.Idx → BitVec 8) = shapeCast S3x3072x4096 ((kin m c).postCodes : S9216x4096.Idx → BitVec 8) shapeCasts_S9216x4096_S3x3072x4096 :=
  (tail_main_v30 (W19 m ρ c)).trans (congrArg (fun z : S9216x4096.Idx → BitVec 8 => shapeCast S3x3072x4096 z shapeCasts_S9216x4096_S3x3072x4096) ((carry_main_v15_0_19 m ρ c).trans (at_main_v15_0 m ρ c)))
theorem tail_main_v33 (V : Valuation τ sig (Elt Ideal)) : StableHlo.after hostOps10 V (Proc.devRef .tc main_v33) = shapeCast S3x3072 (shapeCast S9216 (extractStridedSlice S9216x1 ![0, 0] (V (Proc.devRef .tc main_v15_1) : S9216x128.Idx → EReal) slices_S9216x128_S9216x1_0_0) shapeCasts_S9216x1_S9216) shapeCasts_S9216_S3x3072 := by
  simp only [hostOps10]
  after_results <;> rfl

theorem res_main_v33 (c : Dev nD) : (W20 m ρ c (Proc.devRef .tc main_v33) : S3x3072.Idx → EReal) = shapeCast S3x3072 ((kin m c).postScales : S9216.Idx → EReal) shapeCasts_S9216_S3x3072 := by
  have e : (W19 m ρ c (Proc.devRef .tc main_v15_1) : S9216x128.Idx → EReal) = laneMat nModel (kin m c).h1 (kin m c).gPost 128 := ((carry_main_v15_1_19 m ρ c).trans (at_main_v15_1 m ρ c))
  have l := lane_vec nModel (m := 9216) (l := 128) (kin m c).h1 (kin m c).gPost (by decide) slices_S9216x128_S9216x1_0_0 shapeCasts_S9216x1_S9216
  have f : (kin m c).postScales = scaleVec nModel (kin m c).h1 (kin m c).gPost := rfl
  refine (tail_main_v33 (W19 m ρ c)).trans ?_
  rw [e, f, ← l]
theorem tail_main_v34 (V : Valuation τ sig (Elt Ideal)) : StableHlo.after hostOps10 V (Proc.devRef .tc main_v34) = shapeCast _ (V (Proc.devRef .tc main_v21_0)) shapeCasts_S9216x11008_S3x3072x11008 := by
  simp only [hostOps10]
  after_results <;> rfl

theorem res_main_v34 (c : Dev nD) : (W20 m ρ c (Proc.devRef .tc main_v34) : S3x3072x11008.Idx → BitVec 8) = shapeCast S3x3072x11008 ((kin m c).hidCodes : S9216x11008.Idx → BitVec 8) shapeCasts_S9216x11008_S3x3072x11008 :=
  (tail_main_v34 (W19 m ρ c)).trans (congrArg (fun z : S9216x11008.Idx → BitVec 8 => shapeCast S3x3072x11008 z shapeCasts_S9216x11008_S3x3072x11008) ((carry_main_v21_0_19 m ρ c).trans (at_main_v21_0 m ρ c)))
theorem tail_main_v37 (V : Valuation τ sig (Elt Ideal)) : StableHlo.after hostOps10 V (Proc.devRef .tc main_v37) = shapeCast S3x3072 (shapeCast S9216 (extractStridedSlice S9216x1 ![0, 0] (V (Proc.devRef .tc main_v21_1) : S9216x128.Idx → EReal) slices_S9216x128_S9216x1_0_0) shapeCasts_S9216x1_S9216) shapeCasts_S9216_S3x3072 := by
  simp only [hostOps10]
  after_results <;> rfl

theorem res_main_v37 (c : Dev nD) : (W20 m ρ c (Proc.devRef .tc main_v37) : S3x3072.Idx → EReal) = shapeCast S3x3072 ((kin m c).hidScales : S9216.Idx → EReal) shapeCasts_S9216_S3x3072 := by
  have e : (W19 m ρ c (Proc.devRef .tc main_v21_1) : S9216x128.Idx → EReal) = laneMat nHidden (kin m c).hid (kin m c).gHidden 128 := ((carry_main_v21_1_19 m ρ c).trans (at_main_v21_1 m ρ c))
  have l := lane_vec nHidden (m := 9216) (l := 128) (kin m c).hid (kin m c).gHidden (by decide) slices_S9216x128_S9216x1_0_0 shapeCasts_S9216x1_S9216
  have f : (kin m c).hidScales = scaleVec nHidden (kin m c).hid (kin m c).gHidden := rfl
  refine (tail_main_v37 (W19 m ρ c)).trans ?_
  rw [e, f, ← l]

end Cert.Chain
-- ==== Proof.KernelRun.lean ====
/-
  The kernel's program run to its end: the generated frame's proof, read also at the eight result buffers.
-/
module

public import proofs.«01_k».proof.Proof.Gen.BackIdeal.Frame

@[expose] public section

set_option maxRecDepth 16384

noncomputable section

namespace Cert.KernelRun

open Cert.BackIdeal Cert.BackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each result buffer at the contents after the last host step and the arguments as launched. -/
theorem run : θ_run defs (onTc (τ := τ) (main (F := F))) ⟨m, fun _ => 0, ρ⟩ (fun r => (∀ c : Dev nD,
      r.2.mem ((c.tc : Thread nD τ).loc main_v24) = W20 m ρ c (Proc.devRef .tc main_v24)
      ∧ r.2.mem ((c.tc : Thread nD τ).loc main_v25) = W20 m ρ c (Proc.devRef .tc main_v25)
      ∧ r.2.mem ((c.tc : Thread nD τ).loc main_v26) = W20 m ρ c (Proc.devRef .tc main_v26)
      ∧ r.2.mem ((c.tc : Thread nD τ).loc main_v29) = W20 m ρ c (Proc.devRef .tc main_v29)
      ∧ r.2.mem ((c.tc : Thread nD τ).loc main_v30) = W20 m ρ c (Proc.devRef .tc main_v30)
      ∧ r.2.mem ((c.tc : Thread nD τ).loc main_v33) = W20 m ρ c (Proc.devRef .tc main_v33)
      ∧ r.2.mem ((c.tc : Thread nD τ).loc main_v34) = W20 m ρ c (Proc.devRef .tc main_v34)
      ∧ r.2.mem ((c.tc : Thread nD τ).loc main_v37) = W20 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => ⟨(fun c =>
      ⟨h c _ (mem_uc main_v24 (by decide)),
       h c _ (mem_uc main_v25 (by decide)),
       h c _ (mem_uc main_v26 (by decide)),
       h c _ (mem_uc main_v29 (by decide)),
       h c _ (mem_uc main_v30 (by decide)),
       h c _ (mem_uc main_v33 (by decide)),
       h c _ (mem_uc main_v34 (by decide)),
       h c _ (mem_uc main_v37 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c)⟩), funext fun g => hz g (.inr (no_unscoped g.2))⟩)

end Cert.KernelRun
-- ==== Proof.NormR.lean ====
/-
  The reference's normalise-and-quantise payloads, read at an index.
-/
module

public import proofs.«01_k».proof.Proof.Rows
public import proofs.«01_k».proof.Proof.Gen.BackRefIdeal.Skeleton

@[expose] public section

set_option maxRecDepth 16384

open Idealize.ShloMosaic Cert.Rows

namespace Cert.NormR

open Cert.BackRefIdeal Cert.BackRefIdeal.Gen

section
variable {F : FTy → Type} [FloatOps F]

theorem pay_scale3 (v3 : Vec F S9216x4096 .f32) (v5 : Vec F S4096 .f32) (r : Fin 9216) :
    k0_pay3 v3 v5 (ix1 r) = scaleOf (multiReduction .maximumf [1] S9216 (absf (k0_pay2 v3 v5)) 0xFF800000#32
      reduces_S9216x4096_S9216 (.inl rfl) rfl (ix1 r)) := by
  unfold k0_pay3
  generalize k0_pay2 v3 v5 = y
  rfl

theorem pay_code4 (v3 : Vec F S9216x4096 .f32) (v5 : Vec F S4096 .f32) (r : Fin 9216) (k : Fin 4096) :
    k0_pay4 v3 v5 (ix2 r k) = codeOf (k0_pay2 v3 v5 (ix2 r k)) (k0_pay3 v3 v5 (ix1 r)) := by
  unfold k0_pay4
  generalize k0_pay2 v3 v5 = y
  generalize k0_pay3 v3 v5 = s
  rw [← castCol s shapeCasts_S9216_S9216x1 r 0, ← bcCol (shapeCast S9216x1 s shapeCasts_S9216_S9216x1) broadcasts_S9216x1_S9216x4096 r k]
  rfl

theorem pay_scale10 (v83 : FVec F S9216x4096 .f32) (v84 : Vec F S4096 .f32) (v85 : FVec F S9216x4096 .f32) (r : Fin 9216) :
    k0_pay10 v83 v84 v85 (ix1 r) = scaleOf (multiReduction .maximumf [1] S9216 (absf (k0_pay9 v83 v84 v85)) 0xFF800000#32
      reduces_S9216x4096_S9216 (.inl rfl) rfl (ix1 r)) := by
  unfold k0_pay10
  generalize k0_pay9 v83 v84 v85 = y
  rfl

theorem pay_code11 (v83 : FVec F S9216x4096 .f32) (v84 : Vec F S4096 .f32) (v85 : FVec F S9216x4096 .f32) (r : Fin 9216) (k : Fin 4096) :
    k0_pay11 v83 v84 v85 (ix2 r k) = codeOf (k0_pay9 v83 v84 v85 (ix2 r k)) (k0_pay10 v83 v84 v85 (ix1 r)) := by
  unfold k0_pay11
  generalize k0_pay9 v83 v84 v85 = y
  generalize k0_pay10 v83 v84 v85 = s
  rw [← castCol s shapeCasts_S9216_S9216x1 r 0, ← bcCol (shapeCast S9216x1 s shapeCasts_S9216_S9216x1) broadcasts_S9216x1_S9216x4096 r k]
  rfl

theorem pay_scale21 (v210 : FVec F S9216x11008 .f32) (v211 : Vec F S11008 .f32) (v214 : FVec F S9216x1 .f32) (cst : F .f32) (r : Fin 9216) :
    k0_pay21 v210 v211 v214 cst (ix1 r) = scaleOf (multiReduction .maximumf [1] S9216 (absf (k0_pay20 v210 v211 v214 cst)) 0xFF800000#32
      reduces_S9216x11008_S9216 (.inl rfl) rfl (ix1 r)) := by
  unfold k0_pay21
  generalize k0_pay20 v210 v211 v214 cst = y
  rfl

theorem pay_code22 (v210 : FVec F S9216x11008 .f32) (v211 : Vec F S11008 .f32) (v214 : FVec F S9216x1 .f32) (cst : F .f32) (r : Fin 9216) (k : Fin 11008) :
    k0_pay22 v210 v211 v214 cst (ix2 r k) = codeOf (k0_pay20 v210 v211 v214 cst (ix2 r k)) (k0_pay21 v210 v211 v214 cst (ix1 r)) := by
  unfold k0_pay22
  generalize k0_pay20 v210 v211 v214 cst = y
  generalize k0_pay21 v210 v211 v214 cst = s
  rw [← castCol s shapeCasts_S9216_S9216x1 r 0, ← bcCol (shapeCast S9216x1 s shapeCasts_S9216_S9216x1) broadcasts_S9216x1_S9216x11008 r k]
  rfl

end

/-- The normalised rows. -/
theorem norm2 (v3 : Vec Ideal S9216x4096 .f32) (v5 : Vec Ideal S4096 .f32) (r : Fin 9216) (k : Fin 4096) :
    k0_pay2 v3 v5 (ix2 r k) = normed (Ideal.ofBits .f32 0x45800000#32) (row v3 r) (vec v5) k := by
  unfold normed row vec
  pointwise [k0_pay2]

/-- The scale of each row. -/
theorem scale3 (v3 : Vec Ideal S9216x4096 .f32) (v5 : Vec Ideal S4096 .f32) (r : Fin 9216) :
    k0_pay3 v3 v5 (ix1 r) = scale (Ideal.ofBits .f32 0x45800000#32) (row v3 r) (vec v5) := by
  rw [pay_scale3]
  refine (congrArg (scaleOf (F := Ideal)) (maxRed _ _ _ _ r)).trans ?_
  refine congrArg (scaleOf (F := Ideal)) (congrArg (Finset.fold max _ · Finset.univ) (funext fun x => ?_))
  exact congrArg (FloatOps.absf (F := Ideal)) (norm2 _ _  r x)

/-- The codes of each row. -/
theorem code4 (v3 : Vec Ideal S9216x4096 .f32) (v5 : Vec Ideal S4096 .f32) (r : Fin 9216) (k : Fin 4096) :
    k0_pay4 v3 v5 (ix2 r k) = code (Ideal.ofBits .f32 0x45800000#32) (row v3 r) (vec v5) k := by
  rw [pay_code4, norm2 _ _ , scale3 _ _ ]
  rfl

/-- The normalised rows. -/
theorem norm9 (v83 : FVec Ideal S9216x4096 .f32) (v84 : Vec Ideal S4096 .f32) (v85 : FVec Ideal S9216x4096 .f32) (h85 : v85 = mulf v83 v83) (r : Fin 9216) (k : Fin 4096) :
    k0_pay9 v83 v84 v85 (ix2 r k) = normed (Ideal.ofBits .f32 0x45800000#32) (row v83 r) (vec v84) k := by
  unfold normed row vec
  subst h85
  pointwise [k0_pay9]

/-- The scale of each row. -/
theorem scale10 (v83 : FVec Ideal S9216x4096 .f32) (v84 : Vec Ideal S4096 .f32) (v85 : FVec Ideal S9216x4096 .f32) (h85 : v85 = mulf v83 v83) (r : Fin 9216) :
    k0_pay10 v83 v84 v85 (ix1 r) = scale (Ideal.ofBits .f32 0x45800000#32) (row v83 r) (vec v84) := by
  rw [pay_scale10]
  refine (congrArg (scaleOf (F := Ideal)) (maxRed _ _ _ _ r)).trans ?_
  refine congrArg (scaleOf (F := Ideal)) (congrArg (Finset.fold max _ · Finset.univ) (funext fun x => ?_))
  exact congrArg (FloatOps.absf (F := Ideal)) (norm9 _ _ _ h85 r x)

/-- The codes of each row. -/
theorem code11 (v83 : FVec Ideal S9216x4096 .f32) (v84 : Vec Ideal S4096 .f32) (v85 : FVec Ideal S9216x4096 .f32) (h85 : v85 = mulf v83 v83) (r : Fin 9216) (k : Fin 4096) :
    k0_pay11 v83 v84 v85 (ix2 r k) = code (Ideal.ofBits .f32 0x45800000#32) (row v83 r) (vec v84) k := by
  rw [pay_code11, norm9 _ _ _ h85, scale10 _ _ _ h85]
  rfl

/-- The normalised rows. -/
theorem norm20 (v210 : FVec Ideal S9216x11008 .f32) (v211 : Vec Ideal S11008 .f32) (v214 : FVec Ideal S9216x1 .f32) (h214 : ∀ r : Fin 9216, v214 (ix2 r 0) = ∑ k : Fin 11008, v210 (ix2 r k) * v210 (ix2 r k)) (r : Fin 9216) (k : Fin 11008) :
    k0_pay20 v210 v211 v214 (Ideal.ofBits .f32 0x462C0000#32) (ix2 r k) = normed (Ideal.ofBits .f32 0x462C0000#32) (row v210 r) (vec v211) k := by
  unfold normed row vec
  rw [← h214]
  pointwise [k0_pay20]

/-- The scale of each row. -/
theorem scale21 (v210 : FVec Ideal S9216x11008 .f32) (v211 : Vec Ideal S11008 .f32) (v214 : FVec Ideal S9216x1 .f32) (h214 : ∀ r : Fin 9216, v214 (ix2 r 0) = ∑ k : Fin 11008, v210 (ix2 r k) * v210 (ix2 r k)) (r : Fin 9216) :
    k0_pay21 v210 v211 v214 (Ideal.ofBits .f32 0x462C0000#32) (ix1 r) = scale (Ideal.ofBits .f32 0x462C0000#32) (row v210 r) (vec v211) := by
  rw [pay_scale21]
  refine (congrArg (scaleOf (F := Ideal)) (maxRed _ _ _ _ r)).trans ?_
  refine congrArg (scaleOf (F := Ideal)) (congrArg (Finset.fold max _ · Finset.univ) (funext fun x => ?_))
  exact congrArg (FloatOps.absf (F := Ideal)) (norm20 _ _ _ h214 r x)

/-- The codes of each row. -/
theorem code22 (v210 : FVec Ideal S9216x11008 .f32) (v211 : Vec Ideal S11008 .f32) (v214 : FVec Ideal S9216x1 .f32) (h214 : ∀ r : Fin 9216, v214 (ix2 r 0) = ∑ k : Fin 11008, v210 (ix2 r k) * v210 (ix2 r k)) (r : Fin 9216) (k : Fin 11008) :
    k0_pay22 v210 v211 v214 (Ideal.ofBits .f32 0x462C0000#32) (ix2 r k) = code (Ideal.ofBits .f32 0x462C0000#32) (row v210 r) (vec v211) k := by
  rw [pay_code22, norm20 _ _ _ h214, scale21 _ _ _ h214]
  rfl

end Cert.NormR
-- ==== Proof.LinR.lean ====
/-
  The payloads of the quantised products of the reference, read at an index.
-/
module

public import proofs.«01_k».proof.Proof.Rows
public import proofs.«01_k».proof.Proof.Gen.BackRefIdeal.Skeleton

@[expose] public section

set_option maxRecDepth 16384

noncomputable section

namespace Cert.LinR

open Idealize.ShloMosaic Idealize.ShloMosaic.TcCoe Idealize.ShloMosaic.Pipeline Cert.Rows
open Cert.BackRefIdeal Cert.BackRefIdeal.Gen

/-- A row of the unpacked weights, from its field and its packed row. -/
theorem wrow_at {R d : ℕ} (hR : 0 < R) (w : (Mat R d).Idx → BitVec 8) (n j a : ℕ) (ha : a < R) (h : n = j * R + a)
    (x : Fin d) : wrow hR w n x = wt (w (ix2 ⟨a, ha⟩ x)) j := by
  subst h
  have e1 : (j * R + a) / R = j := by rw [Nat.mul_comm, Nat.mul_add_div hR, Nat.div_eq_of_lt ha, Nat.add_zero]
  have e2 : (j * R + a) % R = a := by rw [Nat.mul_comm, Nat.mul_add_mod, Nat.mod_eq_of_lt ha]
  unfold wrow
  rw [e1]
  congr 2
  exact congrArg (ix2 · x) (Fin.ext e2)

/-- The four fields side by side are the rows of the unpacked weights. -/
theorem ladder {R d : ℕ} (hR : 0 < R) (w : (Mat R d).Idx → BitVec 8) (f : Fin d → EReal) (n : ℕ)
    (h3 : ¬ n < R → ¬ n - R < R → ¬ n - R - R < R → n - R - R - R < R) :
    (if h : n < R then ∑ x, f x * wt (w (ix2 ⟨n, h⟩ x)) 0
      else if h' : n - R < R then ∑ x, f x * wt (w (ix2 ⟨n - R, h'⟩ x)) 1
      else if h'' : n - R - R < R then ∑ x, f x * wt (w (ix2 ⟨n - R - R, h''⟩ x)) 2
      else ∑ x, f x * wt (w (ix2 ⟨n - R - R - R, h3 h h' h''⟩ x)) 3) = ∑ x, f x * wrow hR w n x := by
  split_ifs with h h' h''
  · exact Finset.sum_congr rfl fun x _ => congrArg (f x * ·) (wrow_at hR w n 0 _ h (by omega) x).symm
  · exact Finset.sum_congr rfl fun x _ => congrArg (f x * ·) (wrow_at hR w n 1 _ h' (by omega) x).symm
  · exact Finset.sum_congr rfl fun x _ => congrArg (f x * ·) (wrow_at hR w n 2 _ h'' (by omega) x).symm
  · exact Finset.sum_congr rfl fun x _ => congrArg (f x * ·) (wrow_at hR w n 3 _ (h3 h h' h'') (by omega) x).symm

/-- The output projection added to the residual. -/
theorem res7 (v2 : FVec Ideal S9216x4096 .f32) (v26 : FVec Ideal S9216 .f32) (v38 : Vec Ideal S1024x4096 .i8) (v39 : Elt Ideal .f32)
    (v40 : FVec Ideal S9216x4096 .bf16) (c : IVec S9216x4096 8) (hv : v40 = sitofp .bf16 c) (r : Fin 9216) (k : Fin 4096) :
    k0_pay7 v2 v26 v38 v39 v40 (k0_pay6 (F := Ideal) v38) 0#32 (ix2 r k)
      = v2 (ix2 r k) + lin (row c r) (wrow (R := 1024) (by decide) v38 k) (v26 (ix1 r)) v39 := by
  unfold lin dot row
  pointwise [k0_pay7, k0_pay6]
  subst hv
  exact congrArg (v2 (ix2 r k) + · * v26 (ix1 r) * v39)
    (ladder (R := 1024) (by decide) v38 (fun x => FloatOps.sitofp (F := Ideal) .bf16 (c (ix2 r x))) k (by omega))

/-- The squares of the residual. -/
theorem sq8 (v2 : FVec Ideal S9216x4096 .f32) (v26 : FVec Ideal S9216 .f32) (v38 : Vec Ideal S1024x4096 .i8) (v39 : Elt Ideal .f32)
    (v40 : FVec Ideal S9216x4096 .bf16) (v41 : IVec S1024x4096 32) (z : BitVec 32) :
    k0_pay8 v2 v26 v38 v39 v40 v41 z = mulf (k0_pay7 v2 v26 v38 v39 v40 v41 z) (k0_pay7 v2 v26 v38 v39 v40 v41 z) := by
  unfold k0_pay8
  generalize k0_pay7 v2 v26 v38 v39 v40 v41 z = q
  rfl

/-- The first field of the gate product. -/
theorem gate13 (v83 : FVec Ideal S9216x4096 .f32) (v84 : Vec Ideal S4096 .f32) (v85 : FVec Ideal S9216x4096 .f32)
    (v117 : Vec Ideal S2752x4096 .i8) (r : Fin 9216) (k : Fin 2752) :
    k0_pay13 v83 v84 v85 v117 (ix2 r k) = ∑ x, k0_pay12 v83 v84 v85 (ix2 r x) * wt (v117 (ix2 k x)) 0 := by
  unfold k0_pay13
  generalize k0_pay12 v83 v84 v85 = z
  pointwise
  rfl

/-- The gate product. -/
theorem gate15 (v105 : FVec Ideal S9216 .f32) (v117 : Vec Ideal S2752x4096 .i8) (v118 : Elt Ideal .f32) (v119 : FVec Ideal S9216x4096 .bf16)
    (v128 : FVec Ideal S9216x2752 .f32) (h128 : ∀ r k, v128 (ix2 r k) = ∑ x, v119 (ix2 r x) * wt (v117 (ix2 k x)) 0)
    (c : IVec S9216x4096 8) (hv : v119 = sitofp .bf16 c) (r : Fin 9216) (k : Fin 11008) :
    k0_pay15 v105 v117 v118 v119 v128 (k0_pay14 (F := Ideal) v117) (ix2 r k)
      = lin (row c r) (wrow (R := 2752) (by decide) v117 k) (v105 (ix1 r)) v118 := by
  unfold lin dot row
  pointwise [k0_pay15, k0_pay14]
  subst hv
  simp only [h128]
  exact congrArg (· * v105 (ix1 r) * v118)
    (ladder (R := 2752) (by decide) v117 (fun x => FloatOps.sitofp (F := Ideal) .bf16 (c (ix2 r x))) k (by omega))

/-- The feed-forward hidden value. -/
theorem hid18 (v105 : FVec Ideal S9216 .f32) (v161 : FVec Ideal S9216x11008 .f32) (v162 : Vec Ideal S2752x4096 .i8) (v163 : Elt Ideal .f32)
    (c : IVec S9216x4096 8) (r : Fin 9216) (k : Fin 11008) :
    k0_pay18 v105 v161 v162 v163 (k0_pay16 c) (k0_pay17 (F := Ideal) v162) (ix2 r k)
      = hiddenOf (v161 (ix2 r k)) (lin (row c r) (wrow (R := 2752) (by decide) v162 k) (v105 (ix1 r)) v163) := by
  unfold hiddenOf lin dot row
  pointwise [k0_pay18, k0_pay16, k0_pay17]
  exact congrArg (max (v161 (ix2 r k)) 0 * max (v161 (ix2 r k)) 0 * ·) (congrArg (· * v105 (ix1 r) * v163)
    (ladder (R := 2752) (by decide) v162 (fun x => FloatOps.sitofp (F := Ideal) .bf16 (c (ix2 r x))) k (by omega)))

/-- The sum of squares of a hidden row. -/
theorem sum19 (v105 : FVec Ideal S9216 .f32) (v161 : FVec Ideal S9216x11008 .f32) (v162 : Vec Ideal S2752x4096 .i8) (v163 : Elt Ideal .f32)
    (v164 : FVec Ideal S9216x4096 .bf16) (v171 : IVec S2752x4096 32) (r : Fin 9216) :
    k0_pay19 v105 v161 v162 v163 v164 v171 (ix2 r 0)
      = ∑ k, k0_pay18 v105 v161 v162 v163 v164 v171 (ix2 r k) * k0_pay18 v105 v161 v162 v163 v164 v171 (ix2 r k) := by
  unfold k0_pay19
  generalize k0_pay18 v105 v161 v162 v163 v164 v171 = q
  pointwise

/-- The first field of the down product. -/
theorem down24 (v210 : FVec Ideal S9216x11008 .f32) (v211 : Vec Ideal S11008 .f32) (v214 : FVec Ideal S9216x1 .f32) (cst : Ideal .f32)
    (v244 : Vec Ideal S1024x11008 .i8) (r : Fin 9216) (k : Fin 1024) :
    k0_pay24 v210 v211 v214 cst v244 (ix2 r k) = ∑ x, k0_pay23 v210 v211 v214 cst (ix2 r x) * wt (v244 (ix2 k x)) 0 := by
  unfold k0_pay24
  generalize k0_pay23 v210 v211 v214 cst = z
  pointwise
  rfl

/-- The down product added to the residual. -/
theorem res26 (v83 : FVec Ideal S9216x4096 .f32) (v232 : FVec Ideal S9216 .f32) (v244 : Vec Ideal S1024x11008 .i8) (v245 : Elt Ideal .f32)
    (v246 : FVec Ideal S9216x11008 .bf16) (v255 : FVec Ideal S9216x1024 .f32)
    (h255 : ∀ r k, v255 (ix2 r k) = ∑ x, v246 (ix2 r x) * wt (v244 (ix2 k x)) 0)
    (c : IVec S9216x11008 8) (hv : v246 = sitofp .bf16 c) (r : Fin 9216) (k : Fin 4096) :
    k0_pay26 v83 v232 v244 v245 v246 v255 (k0_pay25 (F := Ideal) v244) 3#32 (ix2 r k)
      = v83 (ix2 r k) + lin (row c r) (wrow (R := 1024) (by decide) v244 k) (v232 (ix1 r)) v245 := by
  unfold lin dot row
  pointwise [k0_pay26, k0_pay25]
  subst hv
  simp only [h255]
  exact congrArg (v83 (ix2 r k) + · * v232 (ix1 r) * v245)
    (ladder (R := 1024) (by decide) v244 (fun x => FloatOps.sitofp (F := Ideal) .bf16 (c (ix2 r x))) k (by omega))

/-- The hidden rows at the narrower format: no rounding over the extended reals. -/
theorem hid27 (v210 : FVec Ideal S9216x11008 .f32) : k0_pay27 v210 = v210 := rfl

end Cert.LinR
-- ==== Proof.RefPay.lean ====
/-
  The values the reference stores, as functions of the whole arrays it reads: they are the matrices of the layer's back half.
-/
module

public import proofs.«01_k».proof.Proof.Back
public import proofs.«01_k».proof.Proof.NormR
public import proofs.«01_k».proof.Proof.LinR

@[expose] public section

set_option maxRecDepth 16384

noncomputable section

namespace Cert.RefPay

open Idealize.ShloMosaic Idealize.ShloMosaic.TcCoe Idealize.ShloMosaic.Pipeline Cert.Rows
open Cert.BackRefIdeal Cert.BackRefIdeal.Gen
open Cert.NormR Cert.LinR

variable (x0 : Vec Ideal S9216x4096 .bf16) (x1 : Vec Ideal S9216x4096 .f32)
  (x2 : Vec Ideal S4096 .f32) (x3 : Vec Ideal S4096 .f32) (x4 : Vec Ideal S11008 .f32)
  (x5 : Vec Ideal S1024x4096 .i8) (x6 : Vec Ideal S2752x4096 .i8) (x7 : Vec Ideal S2752x4096 .i8) (x8 : Vec Ideal S1024x11008 .i8)
  (s9 s10 s11 s12 : Elt Ideal .f32)

/-- The layer's inputs, from the arrays. -/
abbrev inp : Back := ⟨x1, x0, vec x2, vec x3, vec x4, x5, x6, x7, x8, s9, s10, s11, s12⟩

theorem e1 : k0_pay1 x0 = x0 := funext fun i => by
  obtain ⟨r, k, rfl⟩ : ∃ r : Fin 9216, ∃ k : Fin 4096, i = ix2 r k := ⟨i 0, i 1, eq_ix2 i⟩
  pointwise [k0_pay1]
theorem e3 : k0_pay3 x1 x2 = (inp x0 x1 x2 x3 x4 x5 x6 x7 x8 s9 s10 s11 s12).attnScales := funext fun i => by
  obtain ⟨r, rfl⟩ : ∃ r : Fin 9216, i = ix1 r := ⟨i 0, eq_ix1 i⟩
  exact scale3 x1 x2 r
theorem e4 : k0_pay4 x1 x2 = (inp x0 x1 x2 x3 x4 x5 x6 x7 x8 s9 s10 s11 s12).attnCodes := funext fun i => by
  obtain ⟨r, k, rfl⟩ : ∃ r : Fin 9216, ∃ k : Fin 4096, i = ix2 r k := ⟨i 0, i 1, eq_ix2 i⟩
  exact code4 x1 x2 r k
theorem e5 : k0_pay5 x1 x2 = sitofp .bf16 (k0_pay4 x1 x2) := by
  unfold k0_pay5
  generalize k0_pay4 x1 x2 = z
  rfl
/-- The residual stream after the output projection. -/
abbrev H : FVec Ideal S9216x4096 .f32 :=
  k0_pay7 (k0_pay1 x0) (k0_pay3 x1 x2) x5 s9 (k0_pay5 x1 x2) (k0_pay6 (F := Ideal) x5) 0#32
theorem e7 : (H x0 x1 x2 x5 s9) = (inp x0 x1 x2 x3 x4 x5 x6 x7 x8 s9 s10 s11 s12).h1 := funext fun i => by
  obtain ⟨r, k, rfl⟩ : ∃ r : Fin 9216, ∃ k : Fin 4096, i = ix2 r k := ⟨i 0, i 1, eq_ix2 i⟩
  unfold H
  rw [res7 _ _ _ _ _ _ (e5 x1 x2), e4 x0 x1 x2 x3 x4 x5 x6 x7 x8 s9 s10 s11 s12, e3 x0 x1 x2 x3 x4 x5 x6 x7 x8 s9 s10 s11 s12, e1]
  rfl
/-- The squares of the residual stream. -/
abbrev Q : FVec Ideal S9216x4096 .f32 :=
  k0_pay8 (k0_pay1 x0) (k0_pay3 x1 x2) x5 s9 (k0_pay5 x1 x2) (k0_pay6 (F := Ideal) x5) 0#32
theorem e8 : (Q x0 x1 x2 x5 s9) = mulf (H x0 x1 x2 x5 s9) (H x0 x1 x2 x5 s9) := sq8 _ _ _ _ _ _ _
theorem e10 : k0_pay10 (H x0 x1 x2 x5 s9) x3 (Q x0 x1 x2 x5 s9) = (inp x0 x1 x2 x3 x4 x5 x6 x7 x8 s9 s10 s11 s12).postScales := funext fun i => by
  obtain ⟨r, rfl⟩ : ∃ r : Fin 9216, i = ix1 r := ⟨i 0, eq_ix1 i⟩
  rw [scale10 _ _ _ (e8 x0 x1 x2 x5 s9), e7 x0 x1 x2 x3 x4 x5 x6 x7 x8 s9 s10 s11 s12]
  rfl
theorem e11 : k0_pay11 (H x0 x1 x2 x5 s9) x3 (Q x0 x1 x2 x5 s9) = (inp x0 x1 x2 x3 x4 x5 x6 x7 x8 s9 s10 s11 s12).postCodes := funext fun i => by
  obtain ⟨r, k, rfl⟩ : ∃ r : Fin 9216, ∃ k : Fin 4096, i = ix2 r k := ⟨i 0, i 1, eq_ix2 i⟩
  rw [code11 _ _ _ (e8 x0 x1 x2 x5 s9), e7 x0 x1 x2 x3 x4 x5 x6 x7 x8 s9 s10 s11 s12]
  rfl
theorem e12 (u : FVec Ideal S9216x4096 .f32) (v : Vec Ideal S4096 .f32) (w : FVec Ideal S9216x4096 .f32) :
    k0_pay12 u v w = sitofp .bf16 (k0_pay11 u v w) := by
  unfold k0_pay12
  generalize k0_pay11 u v w = z
  rfl
/-- The gate product. -/
abbrev G : FVec Ideal S9216x11008 .f32 :=
  k0_pay15 (k0_pay10 (H x0 x1 x2 x5 s9) x3 (Q x0 x1 x2 x5 s9)) x6 s10 (k0_pay12 (H x0 x1 x2 x5 s9) x3 (Q x0 x1 x2 x5 s9)) (k0_pay13 (H x0 x1 x2 x5 s9) x3 (Q x0 x1 x2 x5 s9) x6) (k0_pay14 (F := Ideal) x6)
/-- The hidden rows. -/
abbrev Fh : FVec Ideal S9216x11008 .f32 :=
  k0_pay18 (k0_pay10 (H x0 x1 x2 x5 s9) x3 (Q x0 x1 x2 x5 s9)) (G x0 x1 x2 x3 x5 x6 s9 s10) x7 s11 (k0_pay16 (k0_pay11 (H x0 x1 x2 x5 s9) x3 (Q x0 x1 x2 x5 s9))) (k0_pay17 (F := Ideal) x7)
theorem e18 : (Fh x0 x1 x2 x3 x5 x6 x7 s9 s10 s11) = (inp x0 x1 x2 x3 x4 x5 x6 x7 x8 s9 s10 s11 s12).hid := funext fun i => by
  obtain ⟨r, k, rfl⟩ : ∃ r : Fin 9216, ∃ k : Fin 11008, i = ix2 r k := ⟨i 0, i 1, eq_ix2 i⟩
  unfold Fh G
  rw [hid18, gate15 _ _ _ _ _ (gate13 _ _ _ _) _ (e12 _ _ _), e10 x0 x1 x2 x3 x4 x5 x6 x7 x8 s9 s10 s11 s12, e11 x0 x1 x2 x3 x4 x5 x6 x7 x8 s9 s10 s11 s12]
  rfl
/-- The sums of squares of the hidden rows. -/
abbrev S : FVec Ideal S9216x1 .f32 :=
  k0_pay19 (k0_pay10 (H x0 x1 x2 x5 s9) x3 (Q x0 x1 x2 x5 s9)) (G x0 x1 x2 x3 x5 x6 s9 s10) x7 s11 (k0_pay16 (k0_pay11 (H x0 x1 x2 x5 s9) x3 (Q x0 x1 x2 x5 s9))) (k0_pay17 (F := Ideal) x7)
theorem e19 (r : Fin 9216) : (S x0 x1 x2 x3 x5 x6 x7 s9 s10 s11) (ix2 r 0) = ∑ k, (Fh x0 x1 x2 x3 x5 x6 x7 s9 s10 s11) (ix2 r k) * (Fh x0 x1 x2 x3 x5 x6 x7 s9 s10 s11) (ix2 r k) := sum19 _ _ _ _ _ _ r
theorem e21 : k0_pay21 (Fh x0 x1 x2 x3 x5 x6 x7 s9 s10 s11) x4 (S x0 x1 x2 x3 x5 x6 x7 s9 s10 s11) nHidden = (inp x0 x1 x2 x3 x4 x5 x6 x7 x8 s9 s10 s11 s12).hidScales := funext fun i => by
  obtain ⟨r, rfl⟩ : ∃ r : Fin 9216, i = ix1 r := ⟨i 0, eq_ix1 i⟩
  rw [scale21 _ _ _ (e19 x0 x1 x2 x3 x5 x6 x7 s9 s10 s11), e18 x0 x1 x2 x3 x4 x5 x6 x7 x8 s9 s10 s11 s12]
  rfl
theorem e22 : k0_pay22 (Fh x0 x1 x2 x3 x5 x6 x7 s9 s10 s11) x4 (S x0 x1 x2 x3 x5 x6 x7 s9 s10 s11) nHidden = (inp x0 x1 x2 x3 x4 x5 x6 x7 x8 s9 s10 s11 s12).hidCodes := funext fun i => by
  obtain ⟨r, k, rfl⟩ : ∃ r : Fin 9216, ∃ k : Fin 11008, i = ix2 r k := ⟨i 0, i 1, eq_ix2 i⟩
  rw [code22 _ _ _ (e19 x0 x1 x2 x3 x5 x6 x7 s9 s10 s11), e18 x0 x1 x2 x3 x4 x5 x6 x7 x8 s9 s10 s11 s12]
  rfl
theorem e23 (u : FVec Ideal S9216x11008 .f32) (v : Vec Ideal S11008 .f32) (w : FVec Ideal S9216x1 .f32) (n : EReal) :
    k0_pay23 u v w n = sitofp .bf16 (k0_pay22 u v w n) := by
  unfold k0_pay23
  generalize k0_pay22 u v w n = z
  rfl
theorem e26 : k0_pay26 (H x0 x1 x2 x5 s9) (k0_pay21 (Fh x0 x1 x2 x3 x5 x6 x7 s9 s10 s11) x4 (S x0 x1 x2 x3 x5 x6 x7 s9 s10 s11) nHidden) x8 s12 (k0_pay23 (Fh x0 x1 x2 x3 x5 x6 x7 s9 s10 s11) x4 (S x0 x1 x2 x3 x5 x6 x7 s9 s10 s11) nHidden) (k0_pay24 (Fh x0 x1 x2 x3 x5 x6 x7 s9 s10 s11) x4 (S x0 x1 x2 x3 x5 x6 x7 s9 s10 s11) nHidden x8) (k0_pay25 (F := Ideal) x8) 3#32
    = (inp x0 x1 x2 x3 x4 x5 x6 x7 x8 s9 s10 s11 s12).out := funext fun i => by
  obtain ⟨r, k, rfl⟩ : ∃ r : Fin 9216, ∃ k : Fin 4096, i = ix2 r k := ⟨i 0, i 1, eq_ix2 i⟩
  rw [res26 _ _ _ _ _ _ (down24 _ _ _ _ _) _ (e23 _ _ _ _), e21 x0 x1 x2 x3 x4 x5 x6 x7 x8 s9 s10 s11 s12, e22 x0 x1 x2 x3 x4 x5 x6 x7 x8 s9 s10 s11 s12, e7 x0 x1 x2 x3 x4 x5 x6 x7 x8 s9 s10 s11 s12]
  rfl
theorem e27 : k0_pay27 (Fh x0 x1 x2 x3 x5 x6 x7 s9 s10 s11) = (inp x0 x1 x2 x3 x4 x5 x6 x7 x8 s9 s10 s11 s12).hid := (hid27 _).trans (e18 x0 x1 x2 x3 x4 x5 x6 x7 x8 s9 s10 s11 s12)

end Cert.RefPay
-- ==== Proof.RefVal.lean ====
/-
  What the reference's region leaves in its eight result arrays.
-/
module

public import proofs.«01_k».proof.Proof.RefPay
public import proofs.«01_k».proof.Proof.Gen.BackRefIdeal.Frame
public import Idealize.ShloMosaic.Lib.Pipeline.ReadBack

@[expose] public section

set_option maxRecDepth 16384

noncomputable section

namespace Cert.RefVal

open Idealize.ShloMosaic Idealize.ShloMosaic.TcCoe Idealize.ShloMosaic.Pipeline Cert.Rows
open Cert.BackRefIdeal Cert.BackRefIdeal.Gen
open Cert.RefPay

variable (m : (ℓ : Loc nD τ sig) → Buf (Elt Ideal) ℓ)

/-- The layer's inputs, from the arrays the region finds. -/
abbrev binp (c : Dev nD) (t : Fin cfg0.N) : Back :=
  inp (iblk m c 0 t) (iblk m c 1 t) (iblk m c 2 t) (iblk m c 3 t) (iblk m c 4 t) (iblk m c 5 t) (iblk m c 6 t) (iblk m c 7 t)
    (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))

theorem idx13 : ∀ t : Fin cfg0.N, win0_13.index t = ![0, 0] := (by decide +kernel : ∀ t : Fin grid0.N, _)
set_option maxHeartbeats 2000000 in
theorem final13 (c : Dev nD) (X : S9216x4096.Idx → EReal) (hX : ∀ t, X = (binp m c t).out) :
    (dats m 0 c).arrAt 13 cfg0.N = X := by
  refine (dats m 0 c).arrAt_eq_of_covers 13 _ (by decide +kernel) fun t hf y => ?_
  blk_simp
  rw [after0_13]; unfold outsAt0 out0_A_13; dsimp only
  frame_out
  simp only [read_unread_whole]
  rw [hX t]
  refine (congrFun (e26 (iblk m c 0 t) (iblk m c 1 t) (iblk m c 2 t) (iblk m c 3 t) (iblk m c 4 t) (iblk m c 5 t) (iblk m c 6 t) (iblk m c 7 t) (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))) _).trans ?_
  refine congrArg (binp m c t).out ?_
  blk_ext! [idx13 t]

theorem idx14 : ∀ t : Fin cfg0.N, win0_14.index t = ![0, 0] := (by decide +kernel : ∀ t : Fin grid0.N, _)
set_option maxHeartbeats 2000000 in
theorem final14 (c : Dev nD) (X : S9216x11008.Idx → EReal) (hX : ∀ t, X = (binp m c t).hid) :
    (dats m 0 c).arrAt 14 cfg0.N = X := by
  refine (dats m 0 c).arrAt_eq_of_covers 14 _ (by decide +kernel) fun t hf y => ?_
  blk_simp
  rw [after0_14]; unfold outsAt0 out0_A_14; dsimp only
  frame_out
  simp only [read_unread_whole]
  rw [hX t]
  refine (congrFun (e27 (iblk m c 0 t) (iblk m c 1 t) (iblk m c 2 t) (iblk m c 3 t) (iblk m c 4 t) (iblk m c 5 t) (iblk m c 6 t) (iblk m c 7 t) (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))) _).trans ?_
  refine congrArg (binp m c t).hid ?_
  blk_ext! [idx14 t]

theorem idx15 : ∀ t : Fin cfg0.N, win0_15.index t = ![0, 0] := (by decide +kernel : ∀ t : Fin grid0.N, _)
set_option maxHeartbeats 2000000 in
theorem final15 (c : Dev nD) (X : S9216x4096.Idx → BitVec 8) (hX : ∀ t, X = (binp m c t).attnCodes) :
    (dats m 0 c).arrAt 15 cfg0.N = X := by
  refine (dats m 0 c).arrAt_eq_of_covers 15 _ (by decide +kernel) fun t hf y => ?_
  blk_simp
  rw [after0_15]; unfold outsAt0 out0_A_15; dsimp only
  frame_out
  simp only [read_unread_whole]
  rw [hX t]
  refine (congrFun (e4 (iblk m c 0 t) (iblk m c 1 t) (iblk m c 2 t) (iblk m c 3 t) (iblk m c 4 t) (iblk m c 5 t) (iblk m c 6 t) (iblk m c 7 t) (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))) _).trans ?_
  refine congrArg (binp m c t).attnCodes ?_
  blk_ext! [idx15 t]

theorem idx16 : ∀ t : Fin cfg0.N, win0_16.index t = ![0] := (by decide +kernel : ∀ t : Fin grid0.N, _)
set_option maxHeartbeats 2000000 in
theorem final16 (c : Dev nD) (X : S9216.Idx → EReal) (hX : ∀ t, X = (binp m c t).attnScales) :
    (dats m 0 c).arrAt 16 cfg0.N = X := by
  refine (dats m 0 c).arrAt_eq_of_covers 16 _ (by decide +kernel) fun t hf y => ?_
  blk_simp
  rw [after0_16]; unfold outsAt0 out0_A_16; dsimp only
  frame_out
  simp only [read_unread_whole]
  rw [hX t]
  refine (congrFun (e3 (iblk m c 0 t) (iblk m c 1 t) (iblk m c 2 t) (iblk m c 3 t) (iblk m c 4 t) (iblk m c 5 t) (iblk m c 6 t) (iblk m c 7 t) (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))) _).trans ?_
  refine congrArg (binp m c t).attnScales ?_
  blk_ext! [idx16 t]

theorem idx17 : ∀ t : Fin cfg0.N, win0_17.index t = ![0, 0] := (by decide +kernel : ∀ t : Fin grid0.N, _)
set_option maxHeartbeats 2000000 in
theorem final17 (c : Dev nD) (X : S9216x4096.Idx → BitVec 8) (hX : ∀ t, X = (binp m c t).postCodes) :
    (dats m 0 c).arrAt 17 cfg0.N = X := by
  refine (dats m 0 c).arrAt_eq_of_covers 17 _ (by decide +kernel) fun t hf y => ?_
  blk_simp
  rw [after0_17]; unfold outsAt0 out0_A_17; dsimp only
  frame_out
  simp only [read_unread_whole]
  rw [hX t]
  refine (congrFun (e11 (iblk m c 0 t) (iblk m c 1 t) (iblk m c 2 t) (iblk m c 3 t) (iblk m c 4 t) (iblk m c 5 t) (iblk m c 6 t) (iblk m c 7 t) (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))) _).trans ?_
  refine congrArg (binp m c t).postCodes ?_
  blk_ext! [idx17 t]

theorem idx18 : ∀ t : Fin cfg0.N, win0_18.index t = ![0] := (by decide +kernel : ∀ t : Fin grid0.N, _)
set_option maxHeartbeats 2000000 in
theorem final18 (c : Dev nD) (X : S9216.Idx → EReal) (hX : ∀ t, X = (binp m c t).postScales) :
    (dats m 0 c).arrAt 18 cfg0.N = X := by
  refine (dats m 0 c).arrAt_eq_of_covers 18 _ (by decide +kernel) fun t hf y => ?_
  blk_simp
  rw [after0_18]; unfold outsAt0 out0_A_18; dsimp only
  frame_out
  simp only [read_unread_whole]
  rw [hX t]
  refine (congrFun (e10 (iblk m c 0 t) (iblk m c 1 t) (iblk m c 2 t) (iblk m c 3 t) (iblk m c 4 t) (iblk m c 5 t) (iblk m c 6 t) (iblk m c 7 t) (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))) _).trans ?_
  refine congrArg (binp m c t).postScales ?_
  blk_ext! [idx18 t]

theorem idx19 : ∀ t : Fin cfg0.N, win0_19.index t = ![0, 0] := (by decide +kernel : ∀ t : Fin grid0.N, _)
set_option maxHeartbeats 2000000 in
theorem final19 (c : Dev nD) (X : S9216x11008.Idx → BitVec 8) (hX : ∀ t, X = (binp m c t).hidCodes) :
    (dats m 0 c).arrAt 19 cfg0.N = X := by
  refine (dats m 0 c).arrAt_eq_of_covers 19 _ (by decide +kernel) fun t hf y => ?_
  blk_simp
  rw [after0_19]; unfold outsAt0 out0_A_19; dsimp only
  frame_out
  simp only [read_unread_whole]
  rw [hX t]
  refine (congrFun (e22 (iblk m c 0 t) (iblk m c 1 t) (iblk m c 2 t) (iblk m c 3 t) (iblk m c 4 t) (iblk m c 5 t) (iblk m c 6 t) (iblk m c 7 t) (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))) _).trans ?_
  refine congrArg (binp m c t).hidCodes ?_
  blk_ext! [idx19 t]

theorem idx20 : ∀ t : Fin cfg0.N, win0_20.index t = ![0] := (by decide +kernel : ∀ t : Fin grid0.N, _)
set_option maxHeartbeats 2000000 in
theorem final20 (c : Dev nD) (X : S9216.Idx → EReal) (hX : ∀ t, X = (binp m c t).hidScales) :
    (dats m 0 c).arrAt 20 cfg0.N = X := by
  refine (dats m 0 c).arrAt_eq_of_covers 20 _ (by decide +kernel) fun t hf y => ?_
  blk_simp
  rw [after0_20]; unfold outsAt0 out0_A_20; dsimp only
  frame_out
  simp only [read_unread_whole]
  rw [hX t]
  refine (congrFun (e21 (iblk m c 0 t) (iblk m c 1 t) (iblk m c 2 t) (iblk m c 3 t) (iblk m c 4 t) (iblk m c 5 t) (iblk m c 6 t) (iblk m c 7 t) (iblk m c 8 t) ((iblk m c 9 t : S1.Idx → EReal) (ix1 0)) ((iblk m c 10 t : S1.Idx → EReal) (ix1 0))
    ((iblk m c 11 t : S1.Idx → EReal) (ix1 0)) ((iblk m c 12 t : S1.Idx → EReal) (ix1 0))) _).trans ?_
  refine congrArg (binp m c t).hidScales ?_
  blk_ext! [idx20 t]

end Cert.RefVal
-- ==== Proof.RefChain.lean ====
/-
  The reference's results as the matrices of the layer's back half, from the program's arguments.
-/
module

public import proofs.«01_k».proof.Proof.Layout
public import proofs.«01_k».proof.Proof.RefVal
public import proofs.«01_k».proof.Proof.Gen.BackRefIdeal.Run

@[expose] public section

set_option maxRecDepth 16384

noncomputable section

namespace Cert.RefChain

open Idealize.ShloMosaic Idealize.ShloMosaic.TcCoe Idealize.ShloMosaic.Pipeline Cert.Rows
open Cert.BackRefIdeal Cert.BackRefIdeal.Gen
open Cert.RefVal Cert.RefPay Cert.Layout Idealize.ShloMosaic.StableHlo

variable (m : (ℓ : Loc nD τ sig) → Buf (Elt Ideal) ℓ)

/-- The layer's inputs, from the program's arguments. -/
abbrev rin (c : Dev nD) : Back :=
  ⟨shapeCast S9216x4096 (m ((c : Thread nD τ).loc main_arg1) : S3x3072x4096.Idx → EReal) shapeCasts_S3x3072x4096_S9216x4096,
   shapeCast S9216x4096 (m ((c : Thread nD τ).loc main_arg0) : S3x3072x4096.Idx → EReal) shapeCasts_S3x3072x4096_S9216x4096,
   vec (d := 4096) (m ((c : Thread nD τ).loc main_arg2)), vec (d := 4096) (m ((c : Thread nD τ).loc main_arg3)), vec (d := 11008) (m ((c : Thread nD τ).loc main_arg4)),
   m ((c : Thread nD τ).loc main_arg5), m ((c : Thread nD τ).loc main_arg6), m ((c : Thread nD τ).loc main_arg7), m ((c : Thread nD τ).loc main_arg8),
   (m ((c : Thread nD τ).loc main_arg9) : S_.Idx → EReal) ix0, (m ((c : Thread nD τ).loc main_arg10) : S_.Idx → EReal) ix0,
   (m ((c : Thread nD τ).loc main_arg11) : S_.Idx → EReal) ix0, (m ((c : Thread nD τ).loc main_arg12) : S_.Idx → EReal) ix0⟩

theorem head_main_v0 (c : Dev nD) : V m c main_v0 = shapeCast _ (m ((c : Thread nD τ).loc main_arg0)) shapeCasts_S3x3072x4096_S9216x4096 := by
  show StableHlo.after (List.flatten [hostOps0]) _ (Proc.devRef .tc main_v0) = _
  simp only [hostOps0, List.flatten_cons, List.flatten_nil, List.append_nil, List.cons_append, List.nil_append]
  after_results <;> rfl
theorem head_main_v1 (c : Dev nD) : V m c main_v1 = shapeCast _ (m ((c : Thread nD τ).loc main_arg1)) shapeCasts_S3x3072x4096_S9216x4096 := by
  show StableHlo.after (List.flatten [hostOps0]) _ (Proc.devRef .tc main_v1) = _
  simp only [hostOps0, List.flatten_cons, List.flatten_nil, List.append_nil, List.cons_append, List.nil_append]
  after_results <;> rfl
theorem head_main_v2 (c : Dev nD) : V m c main_v2 = shapeCast _ (m ((c : Thread nD τ).loc main_arg9)) shapeCasts_S_S1 := by
  show StableHlo.after (List.flatten [hostOps0]) _ (Proc.devRef .tc main_v2) = _
  simp only [hostOps0, List.flatten_cons, List.flatten_nil, List.append_nil, List.cons_append, List.nil_append]
  after_results <;> rfl
theorem head_main_v3 (c : Dev nD) : V m c main_v3 = shapeCast _ (m ((c : Thread nD τ).loc main_arg10)) shapeCasts_S_S1 := by
  show StableHlo.after (List.flatten [hostOps0]) _ (Proc.devRef .tc main_v3) = _
  simp only [hostOps0, List.flatten_cons, List.flatten_nil, List.append_nil, List.cons_append, List.nil_append]
  after_results <;> rfl
theorem head_main_v4 (c : Dev nD) : V m c main_v4 = shapeCast _ (m ((c : Thread nD τ).loc main_arg11)) shapeCasts_S_S1 := by
  show StableHlo.after (List.flatten [hostOps0]) _ (Proc.devRef .tc main_v4) = _
  simp only [hostOps0, List.flatten_cons, List.flatten_nil, List.append_nil, List.cons_append, List.nil_append]
  after_results <;> rfl
theorem head_main_v5 (c : Dev nD) : V m c main_v5 = shapeCast _ (m ((c : Thread nD τ).loc main_arg12)) shapeCasts_S_S1 := by
  show StableHlo.after (List.flatten [hostOps0]) _ (Proc.devRef .tc main_v5) = _
  simp only [hostOps0, List.flatten_cons, List.flatten_nil, List.append_nil, List.cons_append, List.nil_append]
  after_results <;> rfl

theorem idx0 : ∀ t : Fin cfg0.N, win0_0.index t = ![0, 0] := (by decide +kernel : ∀ t : Fin grid0.N, _)
theorem blk0 (c : Dev nD) (t : Fin cfg0.N) : (iblk m c 0 t : S9216x4096.Idx → EReal) = (V m c main_v0 : S9216x4096.Idx → EReal) := by
  funext y
  blk_ext! [iblk, idx0 t]

theorem idx1 : ∀ t : Fin cfg0.N, win0_1.index t = ![0, 0] := (by decide +kernel : ∀ t : Fin grid0.N, _)
theorem blk1 (c : Dev nD) (t : Fin cfg0.N) : (iblk m c 1 t : S9216x4096.Idx → EReal) = (V m c main_v1 : S9216x4096.Idx → EReal) := by
  funext y
  blk_ext! [iblk, idx1 t]

theorem idx2 : ∀ t : Fin cfg0.N, win0_2.index t = ![0] := (by decide +kernel : ∀ t : Fin grid0.N, _)
theorem blk2 (c : Dev nD) (t : Fin cfg0.N) : (iblk m c 2 t : S4096.Idx → EReal) = (V m c main_arg2 : S4096.Idx → EReal) := by
  funext y
  blk_ext! [iblk, idx2 t]

theorem idx3 : ∀ t : Fin cfg0.N, win0_3.index t = ![0] := (by decide +kernel : ∀ t : Fin grid0.N, _)
theorem blk3 (c : Dev nD) (t : Fin cfg0.N) : (iblk m c 3 t : S4096.Idx → EReal) = (V m c main_arg3 : S4096.Idx → EReal) := by
  funext y
  blk_ext! [iblk, idx3 t]

theorem idx4 : ∀ t : Fin cfg0.N, win0_4.index t = ![0] := (by decide +kernel : ∀ t : Fin grid0.N, _)
theorem blk4 (c : Dev nD) (t : Fin cfg0.N) : (iblk m c 4 t : S11008.Idx → EReal) = (V m c main_arg4 : S11008.Idx → EReal) := by
  funext y
  blk_ext! [iblk, idx4 t]

theorem idx5 : ∀ t : Fin cfg0.N, win0_5.index t = ![0, 0] := (by decide +kernel : ∀ t : Fin grid0.N, _)
theorem blk5 (c : Dev nD) (t : Fin cfg0.N) : (iblk m c 5 t : S1024x4096.Idx → BitVec 8) = (V m c main_arg5 : S1024x4096.Idx → BitVec 8) := by
  funext y
  blk_ext! [iblk, idx5 t]

theorem idx6 : ∀ t : Fin cfg0.N, win0_6.index t = ![0, 0] := (by decide +kernel : ∀ t : Fin grid0.N, _)
theorem blk6 (c : Dev nD) (t : Fin cfg0.N) : (iblk m c 6 t : S2752x4096.Idx → BitVec 8) = (V m c main_arg6 : S2752x4096.Idx → BitVec 8) := by
  funext y
  blk_ext! [iblk, idx6 t]

theorem idx7 : ∀ t : Fin cfg0.N, win0_7.index t = ![0, 0] := (by decide +kernel : ∀ t : Fin grid0.N, _)
theorem blk7 (c : Dev nD) (t : Fin cfg0.N) : (iblk m c 7 t : S2752x4096.Idx → BitVec 8) = (V m c main_arg7 : S2752x4096.Idx → BitVec 8) := by
  funext y
  blk_ext! [iblk, idx7 t]

theorem idx8 : ∀ t : Fin cfg0.N, win0_8.index t = ![0, 0] := (by decide +kernel : ∀ t : Fin grid0.N, _)
theorem blk8 (c : Dev nD) (t : Fin cfg0.N) : (iblk m c 8 t : S1024x11008.Idx → BitVec 8) = (V m c main_arg8 : S1024x11008.Idx → BitVec 8) := by
  funext y
  blk_ext! [iblk, idx8 t]

theorem idx9 : ∀ t : Fin cfg0.N, win0_9.index t = ![0] := (by decide +kernel : ∀ t : Fin grid0.N, _)
theorem blk9 (c : Dev nD) (t : Fin cfg0.N) : (iblk m c 9 t : S1.Idx → EReal) = (V m c main_v2 : S1.Idx → EReal) := by
  funext y
  blk_ext! [iblk, idx9 t]

theorem idx10 : ∀ t : Fin cfg0.N, win0_10.index t = ![0] := (by decide +kernel : ∀ t : Fin grid0.N, _)
theorem blk10 (c : Dev nD) (t : Fin cfg0.N) : (iblk m c 10 t : S1.Idx → EReal) = (V m c main_v3 : S1.Idx → EReal) := by
  funext y
  blk_ext! [iblk, idx10 t]

theorem idx11 : ∀ t : Fin cfg0.N, win0_11.index t = ![0] := (by decide +kernel : ∀ t : Fin grid0.N, _)
theorem blk11 (c : Dev nD) (t : Fin cfg0.N) : (iblk m c 11 t : S1.Idx → EReal) = (V m c main_v4 : S1.Idx → EReal) := by
  funext y
  blk_ext! [iblk, idx11 t]

theorem idx12 : ∀ t : Fin cfg0.N, win0_12.index t = ![0] := (by decide +kernel : ∀ t : Fin grid0.N, _)
theorem blk12 (c : Dev nD) (t : Fin cfg0.N) : (iblk m c 12 t : S1.Idx → EReal) = (V m c main_v5 : S1.Idx → EReal) := by
  funext y
  blk_ext! [iblk, idx12 t]

/-- The blocks the region's body finds are the program's inputs. -/
theorem binp_eq (c : Dev nD) (t : Fin cfg0.N) : binp m c t = rin m c := by
  unfold binp rin inp
  rw [blk0, blk1, blk2, blk3, blk4, blk5, blk6, blk7, blk8, blk9, blk10, blk11, blk12, head_main_v0, head_main_v1, head_main_v2,
    head_main_v3, head_main_v4, head_main_v5, V_main_arg2, V_main_arg3, V_main_arg4, V_main_arg5, V_main_arg6, V_main_arg7, V_main_arg8]
  congr 1

theorem res13 (c : Dev nD) : shapeCast S3x3072x4096 (Value.reg_main_v6_0 m c : S9216x4096.Idx → EReal) shapeCasts_S9216x4096_S3x3072x4096
    = shapeCast S3x3072x4096 ((rin m c).out : S9216x4096.Idx → EReal) shapeCasts_S9216x4096_S3x3072x4096 :=
  congrArg (fun z : S9216x4096.Idx → EReal => shapeCast S3x3072x4096 z shapeCasts_S9216x4096_S3x3072x4096)
    (final13 m c (rin m c).out fun t => congrArg Back.out (binp_eq m c t).symm)

theorem res14 (c : Dev nD) : shapeCast S3x3072x11008 (Value.reg_main_v6_1 m c : S9216x11008.Idx → EReal) shapeCasts_S9216x11008_S3x3072x11008
    = shapeCast S3x3072x11008 ((rin m c).hid : S9216x11008.Idx → EReal) shapeCasts_S9216x11008_S3x3072x11008 :=
  congrArg (fun z : S9216x11008.Idx → EReal => shapeCast S3x3072x11008 z shapeCasts_S9216x11008_S3x3072x11008)
    (final14 m c (rin m c).hid fun t => congrArg Back.hid (binp_eq m c t).symm)

theorem res15 (c : Dev nD) : shapeCast S3x3072x4096 (Value.reg_main_v6_2 m c : S9216x4096.Idx → BitVec 8) shapeCasts_S9216x4096_S3x3072x4096
    = shapeCast S3x3072x4096 ((rin m c).attnCodes : S9216x4096.Idx → BitVec 8) shapeCasts_S9216x4096_S3x3072x4096 :=
  congrArg (fun z : S9216x4096.Idx → BitVec 8 => shapeCast S3x3072x4096 z shapeCasts_S9216x4096_S3x3072x4096)
    (final15 m c (rin m c).attnCodes fun t => congrArg Back.attnCodes (binp_eq m c t).symm)

theorem res16 (c : Dev nD) : shapeCast S3x3072 (Value.reg_main_v6_3 m c : S9216.Idx → EReal) shapeCasts_S9216_S3x3072
    = shapeCast S3x3072 ((rin m c).attnScales : S9216.Idx → EReal) shapeCasts_S9216_S3x3072 :=
  congrArg (fun z : S9216.Idx → EReal => shapeCast S3x3072 z shapeCasts_S9216_S3x3072)
    (final16 m c (rin m c).attnScales fun t => congrArg Back.attnScales (binp_eq m c t).symm)

theorem res17 (c : Dev nD) : shapeCast S3x3072x4096 (Value.reg_main_v6_4 m c : S9216x4096.Idx → BitVec 8) shapeCasts_S9216x4096_S3x3072x4096
    = shapeCast S3x3072x4096 ((rin m c).postCodes : S9216x4096.Idx → BitVec 8) shapeCasts_S9216x4096_S3x3072x4096 :=
  congrArg (fun z : S9216x4096.Idx → BitVec 8 => shapeCast S3x3072x4096 z shapeCasts_S9216x4096_S3x3072x4096)
    (final17 m c (rin m c).postCodes fun t => congrArg Back.postCodes (binp_eq m c t).symm)

theorem res18 (c : Dev nD) : shapeCast S3x3072 (Value.reg_main_v6_5 m c : S9216.Idx → EReal) shapeCasts_S9216_S3x3072
    = shapeCast S3x3072 ((rin m c).postScales : S9216.Idx → EReal) shapeCasts_S9216_S3x3072 :=
  congrArg (fun z : S9216.Idx → EReal => shapeCast S3x3072 z shapeCasts_S9216_S3x3072)
    (final18 m c (rin m c).postScales fun t => congrArg Back.postScales (binp_eq m c t).symm)

theorem res19 (c : Dev nD) : shapeCast S3x3072x11008 (Value.reg_main_v6_6 m c : S9216x11008.Idx → BitVec 8) shapeCasts_S9216x11008_S3x3072x11008
    = shapeCast S3x3072x11008 ((rin m c).hidCodes : S9216x11008.Idx → BitVec 8) shapeCasts_S9216x11008_S3x3072x11008 :=
  congrArg (fun z : S9216x11008.Idx → BitVec 8 => shapeCast S3x3072x11008 z shapeCasts_S9216x11008_S3x3072x11008)
    (final19 m c (rin m c).hidCodes fun t => congrArg Back.hidCodes (binp_eq m c t).symm)

theorem res20 (c : Dev nD) : shapeCast S3x3072 (Value.reg_main_v6_7 m c : S9216.Idx → EReal) shapeCasts_S9216_S3x3072
    = shapeCast S3x3072 ((rin m c).hidScales : S9216.Idx → EReal) shapeCasts_S9216_S3x3072 :=
  congrArg (fun z : S9216.Idx → EReal => shapeCast S3x3072 z shapeCasts_S9216_S3x3072)
    (final20 m c (rin m c).hidScales fun t => congrArg Back.hidScales (binp_eq m c t).symm)

end Cert.RefChain
-- ==== Proof.Front.Region0.lean ====
/-
  The call of the unpacking of the query weights: its blocks, one run of its body, and what its results' buffers hold after each grid point.
-/
module

public import proofs.«01_k».proof.Proof.Gen.FrontIdeal.Launch
public import proofs.«01_k».proof.Proof.Gen.FrontIdeal.Skeleton
public import proofs.«01_k».proof.Proof.Gen.FrontIdeal.Points
public import Idealize.ShloMosaic.Lib.Pipeline.FrameBody
public import proofs.«01_k».proof.Proof.Gen.FrontIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_unpack_q` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x4096 := Rect.unit (s := S64x4096) ![0, 0] S64x4096.size inb_S64x4096_S64x4096_0_0
abbrev r0_1 : Rect S4x64x4096 := Rect.unit (s := S4x64x4096) ![0, 0, 0] S1x64x4096.size inb_S4x64x4096_S1x64x4096_0_0_0
abbrev r0_2 : Rect S4x64x4096 := Rect.unit (s := S4x64x4096) ![1, 0, 0] S1x64x4096.size inb_S4x64x4096_S1x64x4096_1_0_0
abbrev r0_3 : Rect S4x64x4096 := Rect.unit (s := S4x64x4096) ![2, 0, 0] S1x64x4096.size inb_S4x64x4096_S1x64x4096_2_0_0
abbrev r0_4 : Rect S4x64x4096 := Rect.unit (s := S4x64x4096) ![3, 0, 0] S1x64x4096.size inb_S4x64x4096_S1x64x4096_3_0_0

/-! ## What the body leaves in each output window's buffer -/

/-- Window 1's staging buffer after the body, from the input windows' blocks: its 4 stores as pieces, LAST
    FIRST (Lib/Pipeline/FrameBody.lean `View.canon`; the payloads are the skeleton's). -/
def out0_1 (x0 : Vec F S64x4096 .i8) : Vec F S4x64x4096 .bf16 :=
  View.canon [⟨r0_4, k0_pay1 (F := F) (k0_pay2 (View.ld x0 r0_0)) 6#32⟩,
    ⟨r0_3, k0_pay5 (View.ld x0 r0_0)⟩,
    ⟨r0_2, k0_pay4 (View.ld x0 r0_0)⟩,
    ⟨r0_1, k0_pay3 (View.ld x0 r0_0)⟩]

/-- Its stores tile the buffer (checked by evaluation), so they cover it. -/
theorem cover0_1 (p0 : Vec F S1x64x4096 .bf16) (p1 : Vec F S1x64x4096 .bf16) (p2 : Vec F S1x64x4096 .bf16) (p3 : Vec F S1x64x4096 .bf16) (y : S4x64x4096.Idx) :
    ∃ pc ∈ ([⟨r0_4, p0⟩, ⟨r0_3, p1⟩, ⟨r0_2, p2⟩, ⟨r0_1, p3⟩] : List (View.Piece (Elt F) S4x64x4096 .bf16)), y ∈ pc.1.set :=
  View.cover_of_tiled [⟨r0_4, p0⟩, ⟨r0_3, p1⟩, ⟨r0_2, p2⟩, ⟨r0_1, p3⟩] S1x64x4096.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x4096 .i8) (harg1 : arg1.IsWhole) (arg2 : Memref sig .tc .vmem S4x64x4096 .bf16) (harg2 : arg2.IsWhole)
    (x0 : Vec F S64x4096 .i8) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_unpack_q i arg1 harg1 arg2 harg2) K := by
  simp only [cc0_unpack_q_eq_skeleton]; unfold cc0_unpack_q_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.FrontIdeal.Gen

end
-- ==== Proof.Front.Region1.lean ====
/-
  The call of the unpacking of the key weights: its blocks, one run of its body, and what its results' buffers hold after each grid point.
-/
module

public import proofs.«01_k».proof.Proof.Gen.FrontIdeal.Launch
public import proofs.«01_k».proof.Proof.Gen.FrontIdeal.Skeleton
public import proofs.«01_k».proof.Proof.Gen.FrontIdeal.Points
public import Idealize.ShloMosaic.Lib.Pipeline.FrameBody
public import proofs.«01_k».proof.Proof.Gen.FrontIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_unpack_k` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S64x4096 := Rect.unit (s := S64x4096) ![0, 0] S64x4096.size inb_S64x4096_S64x4096_0_0
abbrev r1_1 : Rect S4x64x4096 := Rect.unit (s := S4x64x4096) ![0, 0, 0] S1x64x4096.size inb_S4x64x4096_S1x64x4096_0_0_0
abbrev r1_2 : Rect S4x64x4096 := Rect.unit (s := S4x64x4096) ![1, 0, 0] S1x64x4096.size inb_S4x64x4096_S1x64x4096_1_0_0
abbrev r1_3 : Rect S4x64x4096 := Rect.unit (s := S4x64x4096) ![2, 0, 0] S1x64x4096.size inb_S4x64x4096_S1x64x4096_2_0_0
abbrev r1_4 : Rect S4x64x4096 := Rect.unit (s := S4x64x4096) ![3, 0, 0] S1x64x4096.size inb_S4x64x4096_S1x64x4096_3_0_0

/-! ## What the body leaves in each output window's buffer -/

/-- Window 1's staging buffer after the body, from the input windows' blocks: its 4 stores as pieces, LAST
    FIRST (Lib/Pipeline/FrameBody.lean `View.canon`; the payloads are the skeleton's). -/
def out1_1 (x0 : Vec F S64x4096 .i8) : Vec F S4x64x4096 .bf16 :=
  View.canon [⟨r1_4, k1_pay1 (F := F) (k1_pay2 (View.ld x0 r1_0)) 6#32⟩,
    ⟨r1_3, k1_pay5 (View.ld x0 r1_0)⟩,
    ⟨r1_2, k1_pay4 (View.ld x0 r1_0)⟩,
    ⟨r1_1, k1_pay3 (View.ld x0 r1_0)⟩]

/-- Its stores tile the buffer (checked by evaluation), so they cover it. -/
theorem cover1_1 (p0 : Vec F S1x64x4096 .bf16) (p1 : Vec F S1x64x4096 .bf16) (p2 : Vec F S1x64x4096 .bf16) (p3 : Vec F S1x64x4096 .bf16) (y : S4x64x4096.Idx) :
    ∃ pc ∈ ([⟨r1_4, p0⟩, ⟨r1_3, p1⟩, ⟨r1_2, p2⟩, ⟨r1_1, p3⟩] : List (View.Piece (Elt F) S4x64x4096 .bf16)), y ∈ pc.1.set :=
  View.cover_of_tiled [⟨r1_4, p0⟩, ⟨r1_3, p1⟩, ⟨r1_2, p2⟩, ⟨r1_1, p3⟩] S1x64x4096.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S64x4096 .i8) (harg1 : arg1.IsWhole) (arg2 : Memref sig .tc .vmem S4x64x4096 .bf16) (harg2 : arg2.IsWhole)
    (x0 : Vec F S64x4096 .i8) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1_unpack_k i arg1 harg1 arg2 harg2) K := by
  simp only [cc1_unpack_k_eq_skeleton]; unfold cc1_unpack_k_skel
  simp only [k1_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _ _ _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.FrontIdeal.Gen

end
-- ==== Proof.Front.Region2.lean ====
/-
  The call of the unpacking of the value weights: its blocks, one run of its body, and what its results' buffers hold after each grid point.
-/
module

public import proofs.«01_k».proof.Proof.Gen.FrontIdeal.Launch
public import proofs.«01_k».proof.Proof.Gen.FrontIdeal.Skeleton
public import proofs.«01_k».proof.Proof.Gen.FrontIdeal.Points
public import Idealize.ShloMosaic.Lib.Pipeline.FrameBody
public import proofs.«01_k».proof.Proof.Gen.FrontIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_unpack_v` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S64x4096 := Rect.unit (s := S64x4096) ![0, 0] S64x4096.size inb_S64x4096_S64x4096_0_0
abbrev r2_1 : Rect S4x64x4096 := Rect.unit (s := S4x64x4096) ![0, 0, 0] S1x64x4096.size inb_S4x64x4096_S1x64x4096_0_0_0
abbrev r2_2 : Rect S4x64x4096 := Rect.unit (s := S4x64x4096) ![1, 0, 0] S1x64x4096.size inb_S4x64x4096_S1x64x4096_1_0_0
abbrev r2_3 : Rect S4x64x4096 := Rect.unit (s := S4x64x4096) ![2, 0, 0] S1x64x4096.size inb_S4x64x4096_S1x64x4096_2_0_0
abbrev r2_4 : Rect S4x64x4096 := Rect.unit (s := S4x64x4096) ![3, 0, 0] S1x64x4096.size inb_S4x64x4096_S1x64x4096_3_0_0

/-! ## What the body leaves in each output window's buffer -/

/-- Window 1's staging buffer after the body, from the input windows' blocks: its 4 stores as pieces, LAST
    FIRST (Lib/Pipeline/FrameBody.lean `View.canon`; the payloads are the skeleton's). -/
def out2_1 (x0 : Vec F S64x4096 .i8) : Vec F S4x64x4096 .bf16 :=
  View.canon [⟨r2_4, k2_pay1 (F := F) (k2_pay2 (View.ld x0 r2_0)) 6#32⟩,
    ⟨r2_3, k2_pay5 (View.ld x0 r2_0)⟩,
    ⟨r2_2, k2_pay4 (View.ld x0 r2_0)⟩,
    ⟨r2_1, k2_pay3 (View.ld x0 r2_0)⟩]

/-- Its stores tile the buffer (checked by evaluation), so they cover it. -/
theorem cover2_1 (p0 : Vec F S1x64x4096 .bf16) (p1 : Vec F S1x64x4096 .bf16) (p2 : Vec F S1x64x4096 .bf16) (p3 : Vec F S1x64x4096 .bf16) (y : S4x64x4096.Idx) :
    ∃ pc ∈ ([⟨r2_4, p0⟩, ⟨r2_3, p1⟩, ⟨r2_2, p2⟩, ⟨r2_1, p3⟩] : List (View.Piece (Elt F) S4x64x4096 .bf16)), y ∈ pc.1.set :=
  View.cover_of_tiled [⟨r2_4, p0⟩, ⟨r2_3, p1⟩, ⟨r2_2, p2⟩, ⟨r2_1, p3⟩] S1x64x4096.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S64x4096 .i8) (harg1 : arg1.IsWhole) (arg2 : Memref sig .tc .vmem S4x64x4096 .bf16) (harg2 : arg2.IsWhole)
    (x0 : Vec F S64x4096 .i8) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2_unpack_v i arg1 harg1 arg2 harg2) K := by
  simp only [cc2_unpack_v_eq_skeleton]; unfold cc2_unpack_v_skel
  simp only [k2_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _ _ _ _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.FrontIdeal.Gen

end
-- ==== Proof.Front.Region3.lean ====
/-
  The call of the input norm: its blocks, one run of its body, and what its results' buffers hold after each grid point.
-/
module

public import proofs.«01_k».proof.Proof.Gen.FrontIdeal.Launch
public import proofs.«01_k».proof.Proof.Gen.FrontIdeal.Skeleton
public import proofs.«01_k».proof.Proof.Gen.FrontIdeal.Points
public import Idealize.ShloMosaic.Lib.Pipeline.FrameBody
public import proofs.«01_k».proof.Proof.Gen.FrontIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_input_norm` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 2, through which its contents are stated (`View.read_writes_of_cover`: the
    choice does not matter). -/
abbrev VO3_2 : View sig .tc .vmem S256x4096 .i8 := (Memref.whole cc3_stg2_0 : Memref sig .tc .vmem S256x4096 .i8).view
/-- One staging buffer of output window 3, through which its contents are stated (`View.read_writes_of_cover`: the
    choice does not matter). -/
abbrev VO3_3 : View sig .tc .vmem S256x128 .f32 := (Memref.whole cc3_stg3_0 : Memref sig .tc .vmem S256x128 .f32).view
/-- Each window's current staging memref at point `t`, spelled as the pipeline passes it (`bodyAt3`), and its wholeness. -/
abbrev ms3_0 (t : Fin cfg3.N) : Memref sig .tc .vmem S256x4096 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x4096 .i8 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x128 .f32 := win3_3.stage (cfg3.slots t 3)
abbrev hs3_3 (t : Fin cfg3.N) : (ms3_3 t).IsWhole := hstage3_3 ((cfg3.slots t 3).cast nbuf3_3)
/-- The scratch operands: whole scoped buffers of the kernel's own, passed beside the windows. -/
abbrev scM3_0 : Memref sig .tc .vmem S4096x256 .bf16 := Memref.whole cc3_scratch0

/-- `Gen.scopedRest3_split` as ONE chain: the kernel's own scratch buffers, each whole at some contents, then every
    other scoped buffer, unopened (`Pipeline.scopedRestBut`). -/
theorem scopedRest3_flat (c : Dev nD) :
    (Pipeline.scopedRest spec3 c : sProp 𝕄)
      = iprop((∃ f : Buf (Elt F) ((c : Thread nD τ).loc cc3_scratch0), ((c : Thread nD τ).loc cc3_scratch0) ↦{fullShare} f) ∗ Pipeline.scopedRestBut spec3 c [cc3_scratch0]) := by
  rw [scopedRest3_split]

/-- The frame kit's invariant with the scratch operands as memrefs owned at some contents (`Gen.scopedRest3_flat`,
    Lib/Memref.lean `owns_whole`): what the body obligation hands the run and takes back. -/
theorem PhiA3_eq (c : Dev nD) :
    (Pipeline.ΦA spec3 c : sProp 𝕄)
      = iprop(iprop((∃ d, owns (c : Thread nD τ) scM3_0 fullShare d) ∗ Pipeline.scopedRestBut spec3 c [cc3_scratch0]) ∗ (∃ r, prngReg c r)) := by
  unfold Pipeline.ΦA; rw [scopedRest3_flat]; simp only [scM3_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg1 : Memref sig .tc .vmem S256x4096 .bf16) (harg1 : arg1.IsWhole) (arg2 : Memref sig .tc .vmem S1x4096 .f32) (harg2 : arg2.IsWhole) (arg3 : Memref sig .tc .vmem S256x4096 .i8) (harg3 : arg3.IsWhole) (arg4 : Memref sig .tc .vmem S256x128 .f32) (harg4 : arg4.IsWhole) (arg5 : Memref sig .tc .vmem S4096x256 .bf16) (harg5 : arg5.IsWhole)
    (x0 : Vec F S256x4096 .bf16) (x1 : Vec F S1x4096 .f32) :
    Σ' (L2 : List (View.Piece (Elt F) S256x4096 .i8)), { L3 : List (View.Piece (Elt F) S256x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d)) -∗ K ⟨⟩))
          ⊢ wp frame (wpE (defs₀ (F := F)) Variants.none c none) E (cc3_input_norm i arg1 harg1 arg2 harg2 arg3 harg3 arg4 harg4 arg5 harg5) K } := by
  refine ⟨?_, ?_, fun E K => ?run⟩
  case run =>
    simp only [cc3_input_norm_eq_skeleton]; unfold cc3_input_norm_skel
    simp only [k3_part1_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _, _; isplitr; swap; · iexact HS0
    ipureintro; rfl

/-- The run's pieces for output 2 tile its block (1 store of `S256x4096`, checked by the kernel's evaluation: Lib/Ring.lean `Piece.tiledL`, linear in the pieces, through a loop's `@[irreducible]` trip theorem too), so they cover it. -/
theorem cover3_A_2 (c : Dev nD) (i : grid3.Coords) (arg1 : Memref sig .tc .vmem S256x4096 .bf16) (harg1 : arg1.IsWhole) (arg2 : Memref sig .tc .vmem S1x4096 .f32) (harg2 : arg2.IsWhole) (arg3 : Memref sig .tc .vmem S256x4096 .i8) (harg3 : arg3.IsWhole) (arg4 : Memref sig .tc .vmem S256x128 .f32) (harg4 : arg4.IsWhole) (arg5 : Memref sig .tc .vmem S4096x256 .bf16) (harg5 : arg5.IsWhole)
    (x0 : Vec F S256x4096 .bf16) (x1 : Vec F S1x4096 .f32) (y : S256x4096.Idx) :
    ∃ pc ∈ (kernelRun3_A c i arg1 harg1 arg2 harg2 arg3 harg3 arg4 harg4 arg5 harg5 x0 x1).1, y ∈ pc.1.set :=
  View.cover_of_tiledL (kernelRun3_A c i arg1 harg1 arg2 harg2 arg3 harg3 arg4 harg4 arg5 harg5 x0 x1).1 S256x4096.size (by sl_kernel_rfl) y

/-- What the run leaves in output 2's staging buffer: its pieces read back over junk. -/
def out3_A_2 (c : Dev nD) (i : grid3.Coords) (arg1 : Memref sig .tc .vmem S256x4096 .bf16) (harg1 : arg1.IsWhole) (arg2 : Memref sig .tc .vmem S1x4096 .f32) (harg2 : arg2.IsWhole) (arg3 : Memref sig .tc .vmem S256x4096 .i8) (harg3 : arg3.IsWhole) (arg4 : Memref sig .tc .vmem S256x128 .f32) (harg4 : arg4.IsWhole) (arg5 : Memref sig .tc .vmem S4096x256 .bf16) (harg5 : arg5.IsWhole)
    (x0 : Vec F S256x4096 .bf16) (x1 : Vec F S1x4096 .f32) : Vec F S256x4096 .i8 :=
  VO3_2.read (Elt F) (VO3_2.writes (Elt F) VO3_2.junk (kernelRun3_A c i arg1 harg1 arg2 harg2 arg3 harg3 arg4 harg4 arg5 harg5 x0 x1).1)

/-- The run's pieces for output 3 tile its block (1 store of `S256x128`, checked by the kernel's evaluation: Lib/Ring.lean `Piece.tiledL`, linear in the pieces, through a loop's `@[irreducible]` trip theorem too), so they cover it. -/
theorem cover3_A_3 (c : Dev nD) (i : grid3.Coords) (arg1 : Memref sig .tc .vmem S256x4096 .bf16) (harg1 : arg1.IsWhole) (arg2 : Memref sig .tc .vmem S1x4096 .f32) (harg2 : arg2.IsWhole) (arg3 : Memref sig .tc .vmem S256x4096 .i8) (harg3 : arg3.IsWhole) (arg4 : Memref sig .tc .vmem S256x128 .f32) (harg4 : arg4.IsWhole) (arg5 : Memref sig .tc .vmem S4096x256 .bf16) (harg5 : arg5.IsWhole)
    (x0 : Vec F S256x4096 .bf16) (x1 : Vec F S1x4096 .f32) (y : S256x128.Idx) :
    ∃ pc ∈ (kernelRun3_A c i arg1 harg1 arg2 harg2 arg3 harg3 arg4 harg4 arg5 harg5 x0 x1).2.1, y ∈ pc.1.set :=
  View.cover_of_tiledL (kernelRun3_A c i arg1 harg1 arg2 harg2 arg3 harg3 arg4 harg4 arg5 harg5 x0 x1).2.1 S256x128.size (by sl_kernel_rfl) y

/-- What the run leaves in output 3's staging buffer: its pieces read back over junk. -/
def out3_A_3 (c : Dev nD) (i : grid3.Coords) (arg1 : Memref sig .tc .vmem S256x4096 .bf16) (harg1 : arg1.IsWhole) (arg2 : Memref sig .tc .vmem S1x4096 .f32) (harg2 : arg2.IsWhole) (arg3 : Memref sig .tc .vmem S256x4096 .i8) (harg3 : arg3.IsWhole) (arg4 : Memref sig .tc .vmem S256x128 .f32) (harg4 : arg4.IsWhole) (arg5 : Memref sig .tc .vmem S4096x256 .bf16) (harg5 : arg5.IsWhole)
    (x0 : Vec F S256x4096 .bf16) (x1 : Vec F S1x4096 .f32) : Vec F S256x128 .f32 :=
  VO3_3.read (Elt F) (VO3_3.writes (Elt F) VO3_3.junk (kernelRun3_A c i arg1 harg1 arg2 harg2 arg3 harg3 arg4 harg4 arg5 harg5 x0 x1).2.1)

/-! ## What the outputs hold after each point -/

/-- What the outputs' staging buffers hold after the body at point `t` (as a tuple, in window order): the run's contents at
    the point's memrefs and input blocks. -/
def outsAt3 (c : Dev nD) (t : Fin cfg3.N) : Vec F S256x4096 .i8 × Vec F S256x128 .f32 :=
  (out3_A_2 c (grid3.coords t) (ms3_0 t) (hs3_0 t) (ms3_1 t) (hs3_1 t) (ms3_2 t) (hs3_2 t) (ms3_3 t) (hs3_3 t) scM3_0 (Memref.isWhole_whole _) (iblk3 V c 0 t) (iblk3 V c 1 t), out3_A_3 c (grid3.coords t) (ms3_0 t) (hs3_0 t) (ms3_1 t) (hs3_1 t) (ms3_2 t) (hs3_2 t) (ms3_3 t) (hs3_3 t) scM3_0 (Memref.isWhole_whole _) (iblk3 V c 0 t) (iblk3 V c 1 t))

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t).1
    | ⟨3, _⟩ => (outsAt3 V c t).2
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t).1 := by dsimp only [dat3]
theorem after3_3 (c : Dev nD) (t : Fin cfg3.N) : (dat3 V c).after 3 t = (outsAt3 V c t).2 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks (`before3_W`); so the
    run applies; the invariant hands the body its scratch buffers at some contents (and the generator register) and takes them back at some contents (`PhiA_eq`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  rw [show (dat3 V c).Φ t.castSucc = Pipeline.ΦA spec3 c from rfl, PhiA3_eq]
  unfold outsAt3
  unfold out3_A_2 out3_A_3; (try dsimp only)
  iintro ⟨⟨⟨HS0, HR1⟩, Hg⟩, Ho, ⟨%d0, H0⟩, ⟨%d1, H1⟩, ⟨%d2, H2⟩, ⟨%d3, H3⟩⟩
  iapply ((kernelRun3_A c (grid3.coords t) _ _ _ _ _ _ _ _ _ _ (iblk3 V c 0 t) (iblk3 V c 1 t)).2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover3_A_2 c _ _ _ _ _ _ _ _ _ _ _ _ _)
  unfold owns; iexists _; isplitr
  swap; · iexact H3
  ipureintro; exact View.read_writes_of_cover _ _ _ _ _ (cover3_A_3 c _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.FrontIdeal.Gen

end
-- ==== Proof.Front.Region4Run.lean ====
/-
  The call of the query, key and value products: its branches, and one run of its body in each.
-/
module

public import proofs.«01_k».proof.Proof.Gen.FrontIdeal.Launch
public import proofs.«01_k».proof.Proof.Gen.FrontIdeal.Skeleton
public import proofs.«01_k».proof.Proof.Gen.FrontIdeal.Points
public import Idealize.ShloMosaic.Lib.Pipeline.FrameBody
public import proofs.«01_k».proof.Proof.Gen.FrontIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
-- V
variable (V : (c : Dev nD) → (b : Ref sig .tc) → Buf (Elt F) ((c : Thread nD τ).loc b))

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates (the skeleton's scalar
    chain substituted). -/
abbrev cond4_0 (i : grid4.Coords) : Prop := (Scalar.cmpi .ne (Scalar.extui (Scalar.cmpi .eq (BitVec.ofNat 32 (i 1).val) 0#32)) 0#32) = 1#1
/-- It holds at the points ≡ 0 (mod 12) — by arithmetic of the point. -/
theorem hcond4_0 : ∀ t : Fin cfg4.N, cond4_0 (grid4.coords t) ↔ t.val % 12 = 0 :=
  (fun t => by
    have ht : t.val < 108 := Nat.lt_of_lt_of_eq t.isLt N_4
    have e0 : (grid4.coords t 0).val = t.val / 12 % 9 := Pipeline.Grid.coords_val t 0 (by decide) rfl
    have e1 : (grid4.coords t 1).val = t.val / 1 % 12 := Pipeline.Grid.coords_val t 1 (by decide) rfl
    simp only [cond4_0, e0, e1]
    word_cmp
   : ∀ t : Fin grid4.N, cond4_0 (grid4.coords t) ↔ t.val % 12 = 0)

/-- The condition of the body's `scf.if` 1 (`k4_h2`), from the grid coordinates (the skeleton's scalar
    chain substituted). -/
abbrev cond4_1 (i : grid4.Coords) : Prop := k4_cond2 i = 1#1
/-- It holds at the points whose coordinates have i1 ≤ 7 — decided over the grid. -/
theorem hcond4_1 : ∀ t : Fin cfg4.N, cond4_1 (grid4.coords t) ↔ t.val % 12 ≤ 7 :=
  (by decide +kernel : ∀ t : Fin grid4.N, cond4_1 (grid4.coords t) ↔ t.val % 12 ≤ 7)

/-- The condition of the body's `scf.if` 2 (`k4_h3`), from the grid coordinates (the skeleton's scalar
    chain substituted). -/
abbrev cond4_2 (i : grid4.Coords) : Prop := k4_cond3 i = 1#1
/-- It holds at the points whose coordinates have 8 ≤ i1 and i1 ≤ 9 — decided over the grid. -/
theorem hcond4_2 : ∀ t : Fin cfg4.N, cond4_2 (grid4.coords t) ↔ (8 ≤ t.val % 12 ∧ t.val % 12 ≤ 9) :=
  (by decide +kernel : ∀ t : Fin grid4.N, cond4_2 (grid4.coords t) ↔ (8 ≤ t.val % 12 ∧ t.val % 12 ≤ 9))

/-- The condition of the body's `scf.if` 3 (`k4_h4`), from the grid coordinates (the skeleton's scalar
    chain substituted). -/
abbrev cond4_3 (i : grid4.Coords) : Prop := k4_cond4 i = 1#1
/-- It holds at the points whose coordinates have 10 ≤ i1 — decided over the grid. -/
theorem hcond4_3 : ∀ t : Fin cfg4.N, cond4_3 (grid4.coords t) ↔ 10 ≤ t.val % 12 :=
  (by decide +kernel : ∀ t : Fin grid4.N, cond4_3 (grid4.coords t) ↔ 10 ≤ t.val % 12)

/-! ## Where the windows are idle (the printed configuration's table `Cfg.idle`) -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Window 2 is never idle (an input). -/
theorem liveAt4_2 : ∀ t : Fin cfg4.N, cfg4.idle 2 (grid4.coords t) = false := fun _ => rfl
/-- Window 3 is never idle (an input). -/
theorem liveAt4_3 : ∀ t : Fin cfg4.N, cfg4.idle 3 (grid4.coords t) = false := fun _ => rfl
/-- Window 4 is never idle (an input). -/
theorem liveAt4_4 : ∀ t : Fin cfg4.N, cfg4.idle 4 (grid4.coords t) = false := fun _ => rfl
/-- Window 5 is never idle (an input). -/
theorem liveAt4_5 : ∀ t : Fin cfg4.N, cfg4.idle 5 (grid4.coords t) = false := fun _ => rfl
/-- Window 6 is never idle (an input). -/
theorem liveAt4_6 : ∀ t : Fin cfg4.N, cfg4.idle 6 (grid4.coords t) = false := fun _ => rfl
/-- Window 7 is never idle (an input). -/
theorem liveAt4_7 : ∀ t : Fin cfg4.N, cfg4.idle 7 (grid4.coords t) = false := fun _ => rfl
/-- Window 12 is never idle (at every point one of the branches stores into it). -/
theorem liveAt4_12 : ∀ t : Fin cfg4.N, cfg4.idle 12 (grid4.coords t) = false := by decide +kernel
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds4_A (i : grid4.Coords) : Prop := cond4_0 i ∧ cond4_1 i ∧ ¬cond4_2 i ∧ ¬cond4_3 i
instance conds4_A.dec (i : grid4.Coords) : Decidable (conds4_A i) :=
  @instDecidableAnd _ _ inferInstance (@instDecidableAnd _ _ inferInstance (@instDecidableAnd _ _ inferInstance inferInstance))
/-- Case B's branch conditions on the grid, as one proposition. -/
abbrev conds4_B (i : grid4.Coords) : Prop := ¬cond4_0 i ∧ cond4_1 i ∧ ¬cond4_2 i ∧ ¬cond4_3 i
instance conds4_B.dec (i : grid4.Coords) : Decidable (conds4_B i) :=
  @instDecidableAnd _ _ inferInstance (@instDecidableAnd _ _ inferInstance (@instDecidableAnd _ _ inferInstance inferInstance))
/-- Case C's branch conditions on the grid, as one proposition. -/
abbrev conds4_C (i : grid4.Coords) : Prop := ¬cond4_0 i ∧ ¬cond4_1 i ∧ cond4_2 i ∧ ¬cond4_3 i
instance conds4_C.dec (i : grid4.Coords) : Decidable (conds4_C i) :=
  @instDecidableAnd _ _ inferInstance (@instDecidableAnd _ _ inferInstance (@instDecidableAnd _ _ inferInstance inferInstance))
/-- Case D's branch conditions on the grid, as one proposition. -/
abbrev conds4_D (i : grid4.Coords) : Prop := ¬cond4_0 i ∧ ¬cond4_1 i ∧ ¬cond4_2 i ∧ cond4_3 i
instance conds4_D.dec (i : grid4.Coords) : Decidable (conds4_D i) :=
  @instDecidableAnd _ _ inferInstance (@instDecidableAnd _ _ inferInstance (@instDecidableAnd _ _ inferInstance inferInstance))
/-- At the points of case A the printed configuration (`Cfg.idle`) calls output 8 live: the case stores into it. -/
theorem liveAt4_8_A : ∀ t : Fin cfg4.N, cond4_0 (grid4.coords t) → cond4_1 (grid4.coords t) → ¬cond4_2 (grid4.coords t) → ¬cond4_3 (grid4.coords t) → cfg4.idle 8 (grid4.coords t) = false :=
  fun t h0 h1 h2 h3 => (by decide +kernel : ∀ t : Fin cfg4.N, conds4_A (grid4.coords t) → cfg4.idle 8 (grid4.coords t) = false) t ⟨h0, h1, h2, h3⟩
/-- At the points of case B the printed configuration (`Cfg.idle`) calls output 8 live: the case stores into it. -/
theorem liveAt4_8_B : ∀ t : Fin cfg4.N, ¬cond4_0 (grid4.coords t) → cond4_1 (grid4.coords t) → ¬cond4_2 (grid4.coords t) → ¬cond4_3 (grid4.coords t) → cfg4.idle 8 (grid4.coords t) = false :=
  fun t h0 h1 h2 h3 => (by decide +kernel : ∀ t : Fin cfg4.N, conds4_B (grid4.coords t) → cfg4.idle 8 (grid4.coords t) = false) t ⟨h0, h1, h2, h3⟩
/-- At the points of case C the printed configuration (`Cfg.idle`) calls output 8 idle: the case stores nothing into it. -/
theorem idleAt4_8_C : ∀ t : Fin cfg4.N, ¬cond4_0 (grid4.coords t) → ¬cond4_1 (grid4.coords t) → cond4_2 (grid4.coords t) → ¬cond4_3 (grid4.coords t) → cfg4.idle 8 (grid4.coords t) = true :=
  fun t h0 h1 h2 h3 => (by decide +kernel : ∀ t : Fin cfg4.N, conds4_C (grid4.coords t) → cfg4.idle 8 (grid4.coords t) = true) t ⟨h0, h1, h2, h3⟩
/-- At the points of case C the pipeline does not write output 8's block back. -/
theorem noFlush4_8_C : ∀ t : Fin cfg4.N, ¬cond4_0 (grid4.coords t) → ¬cond4_1 (grid4.coords t) → cond4_2 (grid4.coords t) → ¬cond4_3 (grid4.coords t) → (cfg4.win 8).flush t = false :=
  fun t h0 h1 h2 h3 => (by decide +kernel : ∀ t : Fin cfg4.N, conds4_C (grid4.coords t) → (cfg4.win 8).flush t = false) t ⟨h0, h1, h2, h3⟩
/-- At the points of case A the printed configuration (`Cfg.idle`) calls output 9 idle: the case stores nothing into it. -/
theorem idleAt4_9_A : ∀ t : Fin cfg4.N, cond4_0 (grid4.coords t) → cond4_1 (grid4.coords t) → ¬cond4_2 (grid4.coords t) → ¬cond4_3 (grid4.coords t) → cfg4.idle 9 (grid4.coords t) = true :=
  fun t h0 h1 h2 h3 => (by decide +kernel : ∀ t : Fin cfg4.N, conds4_A (grid4.coords t) → cfg4.idle 9 (grid4.coords t) = true) t ⟨h0, h1, h2, h3⟩
/-- At the points of case A the pipeline does not write output 9's block back. -/
theorem noFlush4_9_A : ∀ t : Fin cfg4.N, cond4_0 (grid4.coords t) → cond4_1 (grid4.coords t) → ¬cond4_2 (grid4.coords t) → ¬cond4_3 (grid4.coords t) → (cfg4.win 9).flush t = false :=
  fun t h0 h1 h2 h3 => (by decide +kernel : ∀ t : Fin cfg4.N, conds4_A (grid4.coords t) → (cfg4.win 9).flush t = false) t ⟨h0, h1, h2, h3⟩
/-- At the points of case B the printed configuration (`Cfg.idle`) calls output 9 idle: the case stores nothing into it. -/
theorem idleAt4_9_B : ∀ t : Fin cfg4.N, ¬cond4_0 (grid4.coords t) → cond4_1 (grid4.coords t) → ¬cond4_2 (grid4.coords t) → ¬cond4_3 (grid4.coords t) → cfg4.idle 9 (grid4.coords t) = true :=
  fun t h0 h1 h2 h3 => (by decide +kernel : ∀ t : Fin cfg4.N, conds4_B (grid4.coords t) → cfg4.idle 9 (grid4.coords t) = true) t ⟨h0, h1, h2, h3⟩
/-- At the points of case B the pipeline does not write output 9's block back. -/
theorem noFlush4_9_B : ∀ t : Fin cfg4.N, ¬cond4_0 (grid4.coords t) → cond4_1 (grid4.coords t) → ¬cond4_2 (grid4.coords t) → ¬cond4_3 (grid4.coords t) → (cfg4.win 9).flush t = false :=
  fun t h0 h1 h2 h3 => (by decide +kernel : ∀ t : Fin cfg4.N, conds4_B (grid4.coords t) → (cfg4.win 9).flush t = false) t ⟨h0, h1, h2, h3⟩
/-- At the points of case C the printed configuration (`Cfg.idle`) calls output 9 live: the case stores into it. -/
theorem liveAt4_9_C : ∀ t : Fin cfg4.N, ¬cond4_0 (grid4.coords t) → ¬cond4_1 (grid4.coords t) → cond4_2 (grid4.coords t) → ¬cond4_3 (grid4.coords t) → cfg4.idle 9 (grid4.coords t) = false :=
  fun t h0 h1 h2 h3 => (by decide +kernel : ∀ t : Fin cfg4.N, conds4_C (grid4.coords t) → cfg4.idle 9 (grid4.coords t) = false) t ⟨h0, h1, h2, h3⟩
/-- At the points of case A the printed configuration (`Cfg.idle`) calls output 10 idle: the case stores nothing into it. -/
theorem idleAt4_10_A : ∀ t : Fin cfg4.N, cond4_0 (grid4.coords t) → cond4_1 (grid4.coords t) → ¬cond4_2 (grid4.coords t) → ¬cond4_3 (grid4.coords t) → cfg4.idle 10 (grid4.coords t) = true :=
  fun t h0 h1 h2 h3 => (by decide +kernel : ∀ t : Fin cfg4.N, conds4_A (grid4.coords t) → cfg4.idle 10 (grid4.coords t) = true) t ⟨h0, h1, h2, h3⟩
/-- At the points of case A the pipeline does not write output 10's block back. -/
theorem noFlush4_10_A : ∀ t : Fin cfg4.N, cond4_0 (grid4.coords t) → cond4_1 (grid4.coords t) → ¬cond4_2 (grid4.coords t) → ¬cond4_3 (grid4.coords t) → (cfg4.win 10).flush t = false :=
  fun t h0 h1 h2 h3 => (by decide +kernel : ∀ t : Fin cfg4.N, conds4_A (grid4.coords t) → (cfg4.win 10).flush t = false) t ⟨h0, h1, h2, h3⟩
/-- At the points of case B the printed configuration (`Cfg.idle`) calls output 10 idle: the case stores nothing into it. -/
theorem idleAt4_10_B : ∀ t : Fin cfg4.N, ¬cond4_0 (grid4.coords t) → cond4_1 (grid4.coords t) → ¬cond4_2 (grid4.coords t) → ¬cond4_3 (grid4.coords t) → cfg4.idle 10 (grid4.coords t) = true :=
  fun t h0 h1 h2 h3 => (by decide +kernel : ∀ t : Fin cfg4.N, conds4_B (grid4.coords t) → cfg4.idle 10 (grid4.coords t) = true) t ⟨h0, h1, h2, h3⟩
/-- At the points of case B the pipeline does not write output 10's block back. -/
theorem noFlush4_10_B : ∀ t : Fin cfg4.N, ¬cond4_0 (grid4.coords t) → cond4_1 (grid4.coords t) → ¬cond4_2 (grid4.coords t) → ¬cond4_3 (grid4.coords t) → (cfg4.win 10).flush t = false :=
  fun t h0 h1 h2 h3 => (by decide +kernel : ∀ t : Fin cfg4.N, conds4_B (grid4.coords t) → (cfg4.win 10).flush t = false) t ⟨h0, h1, h2, h3⟩
/-- At the points of case C the printed configuration (`Cfg.idle`) calls output 10 idle: the case stores nothing into it. -/
theorem idleAt4_10_C : ∀ t : Fin cfg4.N, ¬cond4_0 (grid4.coords t) → ¬cond4_1 (grid4.coords t) → cond4_2 (grid4.coords t) → ¬cond4_3 (grid4.coords t) → cfg4.idle 10 (grid4.coords t) = true :=
  fun t h0 h1 h2 h3 => (by decide +kernel : ∀ t : Fin cfg4.N, conds4_C (grid4.coords t) → cfg4.idle 10 (grid4.coords t) = true) t ⟨h0, h1, h2, h3⟩
/-- At the points of case C the pipeline does not write output 10's block back. -/
theorem noFlush4_10_C : ∀ t : Fin cfg4.N, ¬cond4_0 (grid4.coords t) → ¬cond4_1 (grid4.coords t) → cond4_2 (grid4.coords t) → ¬cond4_3 (grid4.coords t) → (cfg4.win 10).flush t = false :=
  fun t h0 h1 h2 h3 => (by decide +kernel : ∀ t : Fin cfg4.N, conds4_C (grid4.coords t) → (cfg4.win 10).flush t = false) t ⟨h0, h1, h2, h3⟩
/-- At the points of case D the printed configuration (`Cfg.idle`) calls output 10 live: the case stores into it. -/
theorem liveAt4_10_D : ∀ t : Fin cfg4.N, ¬cond4_0 (grid4.coords t) → ¬cond4_1 (grid4.coords t) → ¬cond4_2 (grid4.coords t) → cond4_3 (grid4.coords t) → cfg4.idle 10 (grid4.coords t) = false :=
  fun t h0 h1 h2 h3 => (by decide +kernel : ∀ t : Fin cfg4.N, conds4_D (grid4.coords t) → cfg4.idle 10 (grid4.coords t) = false) t ⟨h0, h1, h2, h3⟩
/-- At the points of case A the printed configuration (`Cfg.idle`) calls output 11 idle: the case stores nothing into it. -/
theorem idleAt4_11_A : ∀ t : Fin cfg4.N, cond4_0 (grid4.coords t) → cond4_1 (grid4.coords t) → ¬cond4_2 (grid4.coords t) → ¬cond4_3 (grid4.coords t) → cfg4.idle 11 (grid4.coords t) = true :=
  fun t h0 h1 h2 h3 => (by decide +kernel : ∀ t : Fin cfg4.N, conds4_A (grid4.coords t) → cfg4.idle 11 (grid4.coords t) = true) t ⟨h0, h1, h2, h3⟩
/-- At the points of case A the pipeline does not write output 11's block back. -/
theorem noFlush4_11_A : ∀ t : Fin cfg4.N, cond4_0 (grid4.coords t) → cond4_1 (grid4.coords t) → ¬cond4_2 (grid4.coords t) → ¬cond4_3 (grid4.coords t) → (cfg4.win 11).flush t = false :=
  fun t h0 h1 h2 h3 => (by decide +kernel : ∀ t : Fin cfg4.N, conds4_A (grid4.coords t) → (cfg4.win 11).flush t = false) t ⟨h0, h1, h2, h3⟩
/-- At the points of case B the printed configuration (`Cfg.idle`) calls output 11 idle: the case stores nothing into it. -/
theorem idleAt4_11_B : ∀ t : Fin cfg4.N, ¬cond4_0 (grid4.coords t) → cond4_1 (grid4.coords t) → ¬cond4_2 (grid4.coords t) → ¬cond4_3 (grid4.coords t) → cfg4.idle 11 (grid4.coords t) = true :=
  fun t h0 h1 h2 h3 => (by decide +kernel : ∀ t : Fin cfg4.N, conds4_B (grid4.coords t) → cfg4.idle 11 (grid4.coords t) = true) t ⟨h0, h1, h2, h3⟩
/-- At the points of case B the pipeline does not write output 11's block back. -/
theorem noFlush4_11_B : ∀ t : Fin cfg4.N, ¬cond4_0 (grid4.coords t) → cond4_1 (grid4.coords t) → ¬cond4_2 (grid4.coords t) → ¬cond4_3 (grid4.coords t) → (cfg4.win 11).flush t = false :=
  fun t h0 h1 h2 h3 => (by decide +kernel : ∀ t : Fin cfg4.N, conds4_B (grid4.coords t) → (cfg4.win 11).flush t = false) t ⟨h0, h1, h2, h3⟩
/-- At the points of case C the printed configuration (`Cfg.idle`) calls output 11 idle: the case stores nothing into it. -/
theorem idleAt4_11_C : ∀ t : Fin cfg4.N, ¬cond4_0 (grid4.coords t) → ¬cond4_1 (grid4.coords t) → cond4_2 (grid4.coords t) → ¬cond4_3 (grid4.coords t) → cfg4.idle 11 (grid4.coords t) = true :=
  fun t h0 h1 h2 h3 => (by decide +kernel : ∀ t : Fin cfg4.N, conds4_C (grid4.coords t) → cfg4.idle 11 (grid4.coords t) = true) t ⟨h0, h1, h2, h3⟩
/-- At the points of case C the pipeline does not write output 11's block back. -/
theorem noFlush4_11_C : ∀ t : Fin cfg4.N, ¬cond4_0 (grid4.coords t) → ¬cond4_1 (grid4.coords t) → cond4_2 (grid4.coords t) → ¬cond4_3 (grid4.coords t) → (cfg4.win 11).flush t = false :=
  fun t h0 h1 h2 h3 => (by decide +kernel : ∀ t : Fin cfg4.N, conds4_C (grid4.coords t) → (cfg4.win 11).flush t = false) t ⟨h0, h1, h2, h3⟩
/-- At the points of case D the printed configuration (`Cfg.idle`) calls output 11 live: the case stores into it. -/
theorem liveAt4_11_D : ∀ t : Fin cfg4.N, ¬cond4_0 (grid4.coords t) → ¬cond4_1 (grid4.coords t) → ¬cond4_2 (grid4.coords t) → cond4_3 (grid4.coords t) → cfg4.idle 11 (grid4.coords t) = false :=
  fun t h0 h1 h2 h3 => (by decide +kernel : ∀ t : Fin cfg4.N, conds4_D (grid4.coords t) → cfg4.idle 11 (grid4.coords t) = false) t ⟨h0, h1, h2, h3⟩
/-- At the points of case D output 8 is idle: the case stores nothing into it. -/
theorem idleAt4_8_D : ∀ t : Fin cfg4.N, ¬cond4_0 (grid4.coords t) → ¬cond4_1 (grid4.coords t) → ¬cond4_2 (grid4.coords t) → cond4_3 (grid4.coords t) → cfg4.idle 8 (grid4.coords t) = true :=
  fun t h0 h1 h2 h3 => (by decide +kernel : ∀ t : Fin cfg4.N, conds4_D (grid4.coords t) → cfg4.idle 8 (grid4.coords t) = true) t ⟨h0, h1, h2, h3⟩
/-- At the points of case D output 9 is idle: the case stores nothing into it. -/
theorem idleAt4_9_D : ∀ t : Fin cfg4.N, ¬cond4_0 (grid4.coords t) → ¬cond4_1 (grid4.coords t) → ¬cond4_2 (grid4.coords t) → cond4_3 (grid4.coords t) → cfg4.idle 9 (grid4.coords t) = true :=
  fun t h0 h1 h2 h3 => (by decide +kernel : ∀ t : Fin cfg4.N, conds4_D (grid4.coords t) → cfg4.idle 9 (grid4.coords t) = true) t ⟨h0, h1, h2, h3⟩

/-! ## The kernel body on any staging memrefs: a subtype the run finds -/

/-- One staging buffer of output window 8, through which its contents are stated (`View.read_writes_of_cover`: the
    choice does not matter). -/
abbrev VO4_8 : View sig .tc .vmem S1024x512 .i8 := (Memref.whole cc4_stg8_0 : Memref sig .tc .vmem S1024x512 .i8).view
/-- One staging buffer of output window 9, through which its contents are stated (`View.read_writes_of_cover`: the
    choice does not matter). -/
abbrev VO4_9 : View sig .tc .vmem S1024x512 .i8 := (Memref.whole cc4_stg9_0 : Memref sig .tc .vmem S1024x512 .i8).view
/-- One staging buffer of output window 10, through which its contents are stated (`View.read_writes_of_cover`: the
    choice does not matter). -/
abbrev VO4_10 : View sig .tc .vmem S1024x512 .i8 := (Memref.whole cc4_stg10_0 : Memref sig .tc .vmem S1024x512 .i8).view
/-- One staging buffer of output window 11, through which its contents are stated (`View.read_writes_of_cover`: the
    choice does not matter). -/
abbrev VO4_11 : View sig .tc .vmem S1024x512 .bf16 := (Memref.whole cc4_stg11_0 : Memref sig .tc .vmem S1024x512 .bf16).view
/-- One staging buffer of output window 12, through which its contents are stated (`View.read_writes_of_cover`: the
    choice does not matter). -/
abbrev VO4_12 : View sig .tc .vmem S1024x128 .f32 := (Memref.whole cc4_stg12_0 : Memref sig .tc .vmem S1024x128 .f32).view
/-- Each window's current staging memref at point `t`, spelled as the pipeline passes it (`bodyAt4`), and its wholeness. -/
abbrev ms4_0 (t : Fin cfg4.N) : Memref sig .tc .smem S3 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x4096 .i8 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S512x4096 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S512x4096 .bf16 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S512x4096 .bf16 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1024x512 .i8 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1024x512 .i8 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S1024x512 .i8 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S1024x512 .bf16 := win4_11.stage (cfg4.slots t 11)
abbrev hs4_11 (t : Fin cfg4.N) : (ms4_11 t).IsWhole := hstage4_11 ((cfg4.slots t 11).cast nbuf4_11)
abbrev ms4_12 (t : Fin cfg4.N) : Memref sig .tc .vmem S1024x128 .f32 := win4_12.stage (cfg4.slots t 12)
abbrev hs4_12 (t : Fin cfg4.N) : (ms4_12 t).IsWhole := hstage4_12 ((cfg4.slots t 12).cast nbuf4_12)

section Runs
-- the staging buffers a point uses
variable (c : Dev nD) (i : grid4.Coords) (arg2 : Memref sig .tc .smem S3 .f32) (harg2 : arg2.IsWhole)
  (arg3 : Memref sig .tc .vmem S1024x4096 .i8) (harg3 : arg3.IsWhole)
  (arg4 : Memref sig .tc .vmem S1024x128 .f32) (harg4 : arg4.IsWhole)
  (arg5 : Memref sig .tc .vmem S1024x64 .f32) (harg5 : arg5.IsWhole)
  (arg6 : Memref sig .tc .vmem S1024x64 .f32) (harg6 : arg6.IsWhole)
  (arg7 : Memref sig .tc .vmem S512x4096 .bf16) (harg7 : arg7.IsWhole)
  (arg8 : Memref sig .tc .vmem S512x4096 .bf16) (harg8 : arg8.IsWhole)
  (arg9 : Memref sig .tc .vmem S512x4096 .bf16) (harg9 : arg9.IsWhole)
  (arg10 : Memref sig .tc .vmem S1024x512 .i8) (harg10 : arg10.IsWhole)
  (arg11 : Memref sig .tc .vmem S1024x512 .i8) (harg11 : arg11.IsWhole)
  (arg12 : Memref sig .tc .vmem S1024x512 .i8) (harg12 : arg12.IsWhole)
  (arg13 : Memref sig .tc .vmem S1024x512 .bf16) (harg13 : arg13.IsWhole)
  (arg14 : Memref sig .tc .vmem S1024x128 .f32) (harg14 : arg14.IsWhole)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0, 12, … 96: 9 of 108), WITH the
    proof that on whole staging memrefs — the inputs' at their contents, the outputs it leaves idle (9, 10, 11: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_A (hc0 : cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) :
    Σ' (L8 : List (View.Piece (Elt F) S1024x512 .i8)), Σ' (L9 : List (View.Piece (Elt F) S1024x512 .i8)), Σ' (L10 : List (View.Piece (Elt F) S1024x512 .i8)), Σ' (L11 : List (View.Piece (Elt F) S1024x512 .bf16)), { L12 : List (View.Piece (Elt F) S1024x128 .f32) //
      ∀ (xi9 : Vec F S1024x512 .i8) (xi10 : Vec F S1024x512 .i8) (xi11 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f L12)) -∗ K ⟨⟩))
          ⊢ wp frame (wpE (defs₀ (F := F)) Variants.none c none) E (cc4_qkv i arg2 harg2 arg3 harg3 arg4 harg4 arg5 harg5 arg6 harg6 arg7 harg7 arg8 harg8 arg9 harg9 arg10 harg10 arg11 harg11 arg12 harg12 arg13 harg13 arg14 harg14) K } := by
  refine ⟨?_, [], [], [], ?_, fun xi9 xi10 xi11 E K => ?run⟩
  case run =>
    simp only [cc4_qkv_eq_skeleton]; unfold cc4_qkv_skel
    simp only [k4_part1_eq_skeleton, k4_part2_eq_skeleton, k4_part3_eq_skeleton, k4_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact H12

/-- Case A's pieces for output 8 tile its block (4 stores of `S1024x128`, checked by the kernel's evaluation: Lib/Ring.lean `Piece.tiledL`, linear in the pieces, through a loop's `@[irreducible]` trip theorem too), so they cover it. -/
theorem cover4_A_8 (hc0 : cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (y : S1024x512.Idx) :
    ∃ pc ∈ (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).1 S1024x128.size (by sl_kernel_rfl) y

/-- What case A leaves in output 8's staging buffer: its pieces read back over junk. -/
def out4_A_8 (hc0 : cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) : Vec F S1024x512 .i8 :=
  VO4_8.read (Elt F) (VO4_8.writes (Elt F) VO4_8.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).1)

/-- Case A stores nothing into output 9 (the window is idle at its points and not written back there):
    no pieces — a placeholder (junk read back) that nothing consults, since at these points the window is neither
    written back nor read at the next point (Lib/Pipeline.lean "Idle points"). -/
def out4_A_9 (hc0 : cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) : Vec F S1024x512 .i8 :=
  VO4_9.read (Elt F) (VO4_9.writes (Elt F) VO4_9.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.1)

/-- Case A stores nothing into output 10 (the window is idle at its points and not written back there):
    no pieces — a placeholder (junk read back) that nothing consults, since at these points the window is neither
    written back nor read at the next point (Lib/Pipeline.lean "Idle points"). -/
def out4_A_10 (hc0 : cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) : Vec F S1024x512 .i8 :=
  VO4_10.read (Elt F) (VO4_10.writes (Elt F) VO4_10.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.1)

/-- Case A stores nothing into output 11 (the window is idle at its points and not written back there):
    no pieces — a placeholder (junk read back) that nothing consults, since at these points the window is neither
    written back nor read at the next point (Lib/Pipeline.lean "Idle points"). -/
def out4_A_11 (hc0 : cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) : Vec F S1024x512 .bf16 :=
  VO4_11.read (Elt F) (VO4_11.writes (Elt F) VO4_11.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.1)

/-- Case A's pieces for output 12 tile its block (6 stores of `S1024x128`, checked by the kernel's evaluation: Lib/Ring.lean `Piece.tiledL`, linear in the pieces, through a loop's `@[irreducible]` trip theorem too), so they cover it. -/
theorem cover4_A_12 (hc0 : cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (y : S1024x128.Idx) :
    ∃ pc ∈ (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.2.1 S1024x128.size (by sl_kernel_rfl) y

/-- What case A leaves in output 12's staging buffer: its pieces read back over junk. -/
def out4_A_12 (hc0 : cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) : Vec F S1024x128 .f32 :=
  VO4_12.read (Elt F) (VO4_12.writes (Elt F) VO4_12.junk (kernelRun4_A c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7).2.2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, … 103: 63 of 108), WITH the
    proof that on whole staging memrefs — the inputs' at their contents, the outputs it reads before covering (12) at their running contents `xo·`, the outputs it leaves idle (9, 10, 11: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_B (hc0 : ¬cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) :
    Σ' (L8 : List (View.Piece (Elt F) S1024x512 .i8)), Σ' (L9 : List (View.Piece (Elt F) S1024x512 .i8)), Σ' (L10 : List (View.Piece (Elt F) S1024x512 .i8)), Σ' (L11 : List (View.Piece (Elt F) S1024x512 .bf16)), { L12 : List (View.Piece (Elt F) S1024x128 .f32) //
      ∀ (xi9 : Vec F S1024x512 .i8) (xi10 : Vec F S1024x512 .i8) (xi11 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xi9 ∗ owns (c : Thread nD τ) arg12 fullShare xi10 ∗ owns (c : Thread nD τ) arg13 fullShare xi11 ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ owns (c : Thread nD τ) arg13 fullShare xi11 ∗ (∃ f, arg14.view.loc (c : Thread nD τ) ↦[arg14.view.set]{fullShare} arg14.view.writes (Elt F) f L12)) -∗ K ⟨⟩))
          ⊢ wp frame (wpE (defs₀ (F := F)) Variants.none c none) E (cc4_qkv i arg2 harg2 arg3 harg3 arg4 harg4 arg5 harg5 arg6 harg6 arg7 harg7 arg8 harg8 arg9 harg9 arg10 harg10 arg11 harg11 arg12 harg12 arg13 harg13 arg14 harg14) K } := by
  refine ⟨?_, [], [], [], ?_, fun xi9 xi10 xi11 E K => ?run⟩
  case run =>
    simp only [cc4_qkv_eq_skeleton]; unfold cc4_qkv_skel
    simp only [k4_part1_eq_skeleton, k4_part2_eq_skeleton, k4_part3_eq_skeleton, k4_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11; obtain rfl := harg14.eq_unread hf12
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact H12

/-- Case B's pieces for output 8 tile its block (4 stores of `S1024x128`, checked by the kernel's evaluation: Lib/Ring.lean `Piece.tiledL`, linear in the pieces, through a loop's `@[irreducible]` trip theorem too), so they cover it. -/
theorem cover4_B_8 (hc0 : ¬cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) (y : S1024x512.Idx) :
    ∃ pc ∈ (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).1 S1024x128.size (by sl_kernel_rfl) y

/-- What case B leaves in output 8's staging buffer: its pieces read back over junk. -/
def out4_B_8 (hc0 : ¬cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .i8 :=
  VO4_8.read (Elt F) (VO4_8.writes (Elt F) VO4_8.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).1)

/-- Case B stores nothing into output 9 (the window is idle at its points and not written back there):
    no pieces — a placeholder (junk read back) that nothing consults, since at these points the window is neither
    written back nor read at the next point (Lib/Pipeline.lean "Idle points"). -/
def out4_B_9 (hc0 : ¬cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .i8 :=
  VO4_9.read (Elt F) (VO4_9.writes (Elt F) VO4_9.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.1)

/-- Case B stores nothing into output 10 (the window is idle at its points and not written back there):
    no pieces — a placeholder (junk read back) that nothing consults, since at these points the window is neither
    written back nor read at the next point (Lib/Pipeline.lean "Idle points"). -/
def out4_B_10 (hc0 : ¬cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .i8 :=
  VO4_10.read (Elt F) (VO4_10.writes (Elt F) VO4_10.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.1)

/-- Case B stores nothing into output 11 (the window is idle at its points and not written back there):
    no pieces — a placeholder (junk read back) that nothing consults, since at these points the window is neither
    written back nor read at the next point (Lib/Pipeline.lean "Idle points"). -/
def out4_B_11 (hc0 : ¬cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .bf16 :=
  VO4_11.read (Elt F) (VO4_11.writes (Elt F) VO4_11.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.1)

/-- Case B's pieces for output 12 tile its block (5 stores of `S1024x128`, checked by the kernel's evaluation: Lib/Ring.lean `Piece.tiledL`, linear in the pieces, through a loop's `@[irreducible]` trip theorem too), so they cover it. -/
theorem cover4_B_12 (hc0 : ¬cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) (y : S1024x128.Idx) :
    ∃ pc ∈ (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1 S1024x128.size (by sl_kernel_rfl) y

/-- What case B leaves in output 12's staging buffer: its pieces read back over junk. -/
def out4_B_12 (hc0 : ¬cond4_0 i) (hc1 : cond4_1 i) (hc2 : ¬cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x128 .f32 :=
  VO4_12.read (Elt F) (VO4_12.writes (Elt F) VO4_12.junk (kernelRun4_B c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 8, 9, … 105: 18 of 108), WITH the
    proof that on whole staging memrefs — the inputs' at their contents, the outputs it reads before covering (12) at their running contents `xo·`, the outputs it leaves idle (8, 10, 11: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_C (hc0 : ¬cond4_0 i) (hc1 : ¬cond4_1 i) (hc2 : cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) :
    Σ' (L8 : List (View.Piece (Elt F) S1024x512 .i8)), Σ' (L9 : List (View.Piece (Elt F) S1024x512 .i8)), Σ' (L10 : List (View.Piece (Elt F) S1024x512 .i8)), Σ' (L11 : List (View.Piece (Elt F) S1024x512 .bf16)), { L12 : List (View.Piece (Elt F) S1024x128 .f32) //
      ∀ (xi8 : Vec F S1024x512 .i8) (xi10 : Vec F S1024x512 .i8) (xi11 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ owns (c : Thread nD τ) arg12 fullShare xi10 ∗ owns (c : Thread nD τ) arg13 fullShare xi11 ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ owns (c : Thread nD τ) arg12 fullShare xi10 ∗ owns (c : Thread nD τ) arg13 fullShare xi11 ∗ (∃ f, arg14.view.loc (c : Thread nD τ) ↦[arg14.view.set]{fullShare} arg14.view.writes (Elt F) f L12)) -∗ K ⟨⟩))
          ⊢ wp frame (wpE (defs₀ (F := F)) Variants.none c none) E (cc4_qkv i arg2 harg2 arg3 harg3 arg4 harg4 arg5 harg5 arg6 harg6 arg7 harg7 arg8 harg8 arg9 harg9 arg10 harg10 arg11 harg11 arg12 harg12 arg13 harg13 arg14 harg14) K } := by
  refine ⟨[], ?_, [], [], ?_, fun xi8 xi10 xi11 E K => ?run⟩
  case run =>
    simp only [cc4_qkv_eq_skeleton]; unfold cc4_qkv_skel
    simp only [k4_part5_eq_skeleton, k4_part6_eq_skeleton, k4_part7_eq_skeleton, k4_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]
    · iexists _; isplitr; · ipureintro; exact harg13.read_unread _
      iexact H11
    iexists _; iexact H12

/-- Case C's pieces for output 9 tile its block (4 stores of `S1024x128`, checked by the kernel's evaluation: Lib/Ring.lean `Piece.tiledL`, linear in the pieces, through a loop's `@[irreducible]` trip theorem too), so they cover it. -/
theorem cover4_C_9 (hc0 : ¬cond4_0 i) (hc1 : ¬cond4_1 i) (hc2 : cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) (y : S1024x512.Idx) :
    ∃ pc ∈ (kernelRun4_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.1 S1024x128.size (by sl_kernel_rfl) y

/-- What case C leaves in output 9's staging buffer: its pieces read back over junk. -/
def out4_C_9 (hc0 : ¬cond4_0 i) (hc1 : ¬cond4_1 i) (hc2 : cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .i8 :=
  VO4_9.read (Elt F) (VO4_9.writes (Elt F) VO4_9.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.1)

/-- Case C stores nothing into output 10 (the window is idle at its points and not written back there):
    no pieces — a placeholder (junk read back) that nothing consults, since at these points the window is neither
    written back nor read at the next point (Lib/Pipeline.lean "Idle points"). -/
def out4_C_10 (hc0 : ¬cond4_0 i) (hc1 : ¬cond4_1 i) (hc2 : cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .i8 :=
  VO4_10.read (Elt F) (VO4_10.writes (Elt F) VO4_10.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.1)

/-- Case C stores nothing into output 11 (the window is idle at its points and not written back there):
    no pieces — a placeholder (junk read back) that nothing consults, since at these points the window is neither
    written back nor read at the next point (Lib/Pipeline.lean "Idle points"). -/
def out4_C_11 (hc0 : ¬cond4_0 i) (hc1 : ¬cond4_1 i) (hc2 : cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .bf16 :=
  VO4_11.read (Elt F) (VO4_11.writes (Elt F) VO4_11.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.1)

/-- Case C's pieces for output 12 tile its block (5 stores of `S1024x128`, checked by the kernel's evaluation: Lib/Ring.lean `Piece.tiledL`, linear in the pieces, through a loop's `@[irreducible]` trip theorem too), so they cover it. -/
theorem cover4_C_12 (hc0 : ¬cond4_0 i) (hc1 : ¬cond4_1 i) (hc2 : cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) (y : S1024x128.Idx) :
    ∃ pc ∈ (kernelRun4_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1 S1024x128.size (by sl_kernel_rfl) y

/-- What case C leaves in output 12's staging buffer: its pieces read back over junk. -/
def out4_C_12 (hc0 : ¬cond4_0 i) (hc1 : ¬cond4_1 i) (hc2 : cond4_2 i) (hc3 : ¬cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x128 .f32 :=
  VO4_12.read (Elt F) (VO4_12.writes (Elt F) VO4_12.junk (kernelRun4_C c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 10, 11, … 107: 18 of 108), WITH the
    proof that on whole staging memrefs — the inputs' at their contents, the outputs it reads before covering (12) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_D (hc0 : ¬cond4_0 i) (hc1 : ¬cond4_1 i) (hc2 : ¬cond4_2 i) (hc3 : cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) :
    Σ' (L8 : List (View.Piece (Elt F) S1024x512 .i8)), Σ' (L9 : List (View.Piece (Elt F) S1024x512 .i8)), Σ' (L10 : List (View.Piece (Elt F) S1024x512 .i8)), Σ' (L11 : List (View.Piece (Elt F) S1024x512 .bf16)), { L12 : List (View.Piece (Elt F) S1024x128 .f32) //
      ∀ (xi8 : Vec F S1024x512 .i8) (xi9 : Vec F S1024x512 .i8) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ owns (c : Thread nD τ) arg14 fullShare xo12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc4_qkv i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, ?_, fun xi8 xi9 E K => ?run⟩
  case run =>
    simp only [cc4_qkv_eq_skeleton]; unfold cc4_qkv_skel
    simp only [k4_part9_eq_skeleton, k4_part10_eq_skeleton, k4_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg10.eq_unread hf8; obtain rfl := harg14.eq_unread hf12
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact H12

/-- Case D's pieces for output 10 tile its block (4 stores of `S1024x128`, checked by the kernel's evaluation: Lib/Ring.lean `Piece.tiledL`, linear in the pieces, through a loop's `@[irreducible]` trip theorem too), so they cover it. -/
theorem cover4_D_10 (hc0 : ¬cond4_0 i) (hc1 : ¬cond4_1 i) (hc2 : ¬cond4_2 i) (hc3 : cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) (y : S1024x512.Idx) :
    ∃ pc ∈ (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.1, y ∈ pc.1.set :=
  View.cover_of_tiledL (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.1 S1024x128.size (by sl_kernel_rfl) y

/-- What case D leaves in output 10's staging buffer: its pieces read back over junk. -/
def out4_D_10 (hc0 : ¬cond4_0 i) (hc1 : ¬cond4_1 i) (hc2 : ¬cond4_2 i) (hc3 : cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .i8 :=
  VO4_10.read (Elt F) (VO4_10.writes (Elt F) VO4_10.junk (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.1)

/-- Case D's pieces for output 11 tile its block (1 store of `S1024x512`, checked by the kernel's evaluation: Lib/Ring.lean `Piece.tiledL`, linear in the pieces, through a loop's `@[irreducible]` trip theorem too), so they cover it. -/
theorem cover4_D_11 (hc0 : ¬cond4_0 i) (hc1 : ¬cond4_1 i) (hc2 : ¬cond4_2 i) (hc3 : cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) (y : S1024x512.Idx) :
    ∃ pc ∈ (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.1, y ∈ pc.1.set :=
  View.cover_of_tiledL (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.1 S1024x512.size (by sl_kernel_rfl) y

/-- What case D leaves in output 11's staging buffer: its pieces read back over junk. -/
def out4_D_11 (hc0 : ¬cond4_0 i) (hc1 : ¬cond4_1 i) (hc2 : ¬cond4_2 i) (hc3 : cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x512 .bf16 :=
  VO4_11.read (Elt F) (VO4_11.writes (Elt F) VO4_11.junk (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.1)

/-- Case D's pieces for output 12 tile its block (5 stores of `S1024x128`, checked by the kernel's evaluation: Lib/Ring.lean `Piece.tiledL`, linear in the pieces, through a loop's `@[irreducible]` trip theorem too), so they cover it. -/
theorem cover4_D_12 (hc0 : ¬cond4_0 i) (hc1 : ¬cond4_1 i) (hc2 : ¬cond4_2 i) (hc3 : cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) (y : S1024x128.Idx) :
    ∃ pc ∈ (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1, y ∈ pc.1.set :=
  View.cover_of_tiledL (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1 S1024x128.size (by sl_kernel_rfl) y

/-- What case D leaves in output 12's staging buffer: its pieces read back over junk. -/
def out4_D_12 (hc0 : ¬cond4_0 i) (hc1 : ¬cond4_1 i) (hc2 : ¬cond4_2 i) (hc3 : cond4_3 i)
    (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32) : Vec F S1024x128 .f32 :=
  VO4_12.read (Elt F) (VO4_12.writes (Elt F) VO4_12.junk (kernelRun4_D c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12).2.2.2.2.1)

end Runs

end Regions

end Cert.FrontIdeal.Gen

end
-- ==== Proof.Front.Region4.lean ====
/-
  The call of the query, key and value products: its blocks, one run of its body, and what its results' buffers hold after each grid point.
-/
module

public import proofs.«01_k».proof.Proof.Gen.FrontIdeal.Launch
public import proofs.«01_k».proof.Proof.Gen.FrontIdeal.Skeleton
public import proofs.«01_k».proof.Proof.Gen.FrontIdeal.Points
public import proofs.«01_k».proof.Proof.Front.Region4Run
public import Idealize.ShloMosaic.Lib.Pipeline.Covers
public import Idealize.ShloMosaic.Lib.Pipeline.FrameBody
public import proofs.«01_k».proof.Proof.Gen.FrontIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before4_W_κ`). An assignment of the conditions no point meets is no case (`False.elim`). -/
def outsAt4 (c : Dev nD) : (n : ℕ) → n < cfg4.N → Vec F S1024x512 .i8 × Vec F S1024x512 .i8 × Vec F S1024x512 .i8 × Vec F S1024x512 .bf16 × Vec F S1024x128 .f32
  | 0, hn => (out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) ((hcond4_0 ⟨0, hn⟩).mpr (Nat.zero_mod _)) ((hcond4_1 ⟨0, hn⟩).mpr (by (try dsimp only) <;> omega)) (fun h => (fun h => by (try dsimp only at h); omega) ((hcond4_2 ⟨0, hn⟩).mp h)) (fun h => (fun h => by (try dsimp only at h); omega) ((hcond4_3 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩), out4_A_9 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) ((hcond4_0 ⟨0, hn⟩).mpr (Nat.zero_mod _)) ((hcond4_1 ⟨0, hn⟩).mpr (by (try dsimp only) <;> omega)) (fun h => (fun h => by (try dsimp only at h); omega) ((hcond4_2 ⟨0, hn⟩).mp h)) (fun h => (fun h => by (try dsimp only at h); omega) ((hcond4_3 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩), out4_A_10 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) ((hcond4_0 ⟨0, hn⟩).mpr (Nat.zero_mod _)) ((hcond4_1 ⟨0, hn⟩).mpr (by (try dsimp only) <;> omega)) (fun h => (fun h => by (try dsimp only at h); omega) ((hcond4_2 ⟨0, hn⟩).mp h)) (fun h => (fun h => by (try dsimp only at h); omega) ((hcond4_3 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩), out4_A_11 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) ((hcond4_0 ⟨0, hn⟩).mpr (Nat.zero_mod _)) ((hcond4_1 ⟨0, hn⟩).mpr (by (try dsimp only) <;> omega)) (fun h => (fun h => by (try dsimp only at h); omega) ((hcond4_2 ⟨0, hn⟩).mp h)) (fun h => (fun h => by (try dsimp only at h); omega) ((hcond4_3 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩), out4_A_12 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) ((hcond4_0 ⟨0, hn⟩).mpr (Nat.zero_mod _)) ((hcond4_1 ⟨0, hn⟩).mpr (by (try dsimp only) <;> omega)) (fun h => (fun h => by (try dsimp only at h); omega) ((hcond4_2 ⟨0, hn⟩).mp h)) (fun h => (fun h => by (try dsimp only at h); omega) ((hcond4_3 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩))
  | n + 1, hn =>
    if h0 : (n + 1) % 12 = 0 then
      if h1 : (n + 1) % 12 ≤ 7 then
        if h2 : (8 ≤ (n + 1) % 12 ∧ (n + 1) % 12 ≤ 9) then
          False.elim (by have hN : n + 1 < 108 := lt_of_lt_of_eq hn (show cfg4.N = 108 from N_4); omega)
        else
          if h3 : 10 ≤ (n + 1) % 12 then
            False.elim (by have hN : n + 1 < 108 := lt_of_lt_of_eq hn (show cfg4.N = 108 from N_4); omega)
          else
            (out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) ((hcond4_0 ⟨n + 1, hn⟩).mpr h0) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩), out4_A_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) ((hcond4_0 ⟨n + 1, hn⟩).mpr h0) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩), out4_A_10 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) ((hcond4_0 ⟨n + 1, hn⟩).mpr h0) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩), out4_A_11 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) ((hcond4_0 ⟨n + 1, hn⟩).mpr h0) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩), out4_A_12 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) ((hcond4_0 ⟨n + 1, hn⟩).mpr h0) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩))
      else
        False.elim (by have hN : n + 1 < 108 := lt_of_lt_of_eq hn (show cfg4.N = 108 from N_4); omega)
    else
      if h1 : (n + 1) % 12 ≤ 7 then
        if h2 : (8 ≤ (n + 1) % 12 ∧ (n + 1) % 12 ≤ 9) then
          False.elim (by have hN : n + 1 < 108 := lt_of_lt_of_eq hn (show cfg4.N = 108 from N_4); omega)
        else
          if h3 : 10 ≤ (n + 1) % 12 then
            False.elim (by have hN : n + 1 < 108 := lt_of_lt_of_eq hn (show cfg4.N = 108 from N_4); omega)
          else
            (out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_B_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_B_10 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_B_11 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_B_12 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2)
      else
        if h2 : (8 ≤ (n + 1) % 12 ∧ (n + 1) % 12 ≤ 9) then
          if h3 : 10 ≤ (n + 1) % 12 then
            False.elim (by have hN : n + 1 < 108 := lt_of_lt_of_eq hn (show cfg4.N = 108 from N_4); omega)
          else
            ((outsAt4 c n (Nat.lt_of_succ_lt hn)).1, out4_C_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) (fun h => h1 ((hcond4_1 ⟨n + 1, hn⟩).mp h)) ((hcond4_2 ⟨n + 1, hn⟩).mpr h2) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_C_10 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) (fun h => h1 ((hcond4_1 ⟨n + 1, hn⟩).mp h)) ((hcond4_2 ⟨n + 1, hn⟩).mpr h2) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_C_11 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) (fun h => h1 ((hcond4_1 ⟨n + 1, hn⟩).mp h)) ((hcond4_2 ⟨n + 1, hn⟩).mpr h2) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_C_12 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) (fun h => h1 ((hcond4_1 ⟨n + 1, hn⟩).mp h)) ((hcond4_2 ⟨n + 1, hn⟩).mpr h2) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2)
        else
          if h3 : 10 ≤ (n + 1) % 12 then
            ((outsAt4 c n (Nat.lt_of_succ_lt hn)).1, (outsAt4 c n (Nat.lt_of_succ_lt hn)).2.1, out4_D_10 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) (fun h => h1 ((hcond4_1 ⟨n + 1, hn⟩).mp h)) (fun h => h2 ((hcond4_2 ⟨n + 1, hn⟩).mp h)) ((hcond4_3 ⟨n + 1, hn⟩).mpr h3) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_D_11 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) (fun h => h1 ((hcond4_1 ⟨n + 1, hn⟩).mp h)) (fun h => h2 ((hcond4_2 ⟨n + 1, hn⟩).mp h)) ((hcond4_3 ⟨n + 1, hn⟩).mpr h3) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2, out4_D_12 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) (fun h => h0 ((hcond4_0 ⟨n + 1, hn⟩).mp h)) (fun h => h1 ((hcond4_1 ⟨n + 1, hn⟩).mp h)) (fun h => h2 ((hcond4_2 ⟨n + 1, hn⟩).mp h)) ((hcond4_3 ⟨n + 1, hn⟩).mpr h3) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.2.2.2)
          else
            False.elim (by have hN : n + 1 < 108 := lt_of_lt_of_eq hn (show cfg4.N = 108 from N_4); omega)

/-- `outsAt4` at a point of case A: that case's contents. -/
theorem outsAt4_A (c : Dev nD) (t : Fin cfg4.N) (h0 : t.val % 12 = 0) (h1 : t.val % 12 ≤ 7) (h2 : ¬(8 ≤ t.val % 12 ∧ t.val % 12 ≤ 9)) (h3 : ¬10 ≤ t.val % 12) :
    outsAt4 V c t.val t.isLt = (out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t), out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t), out4_A_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t), out4_A_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t), out4_A_12 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t)) := by
  obtain ⟨n, hn⟩ := t
  cases n with
  | zero => exact rfl
  | succ n => exact (dif_pos h0).trans ((dif_pos h1).trans ((dif_neg h2).trans ((dif_neg h3).trans rfl)))

/-- `outsAt4` at a point of case B: that case's contents, over what the point before left. -/
theorem outsAt4_B (c : Dev nD) (t : Fin cfg4.N) (h0 : ¬t.val % 12 = 0) (h1 : t.val % 12 ≤ 7) (h2 : ¬(8 ≤ t.val % 12 ∧ t.val % 12 ≤ 9)) (h3 : ¬10 ≤ t.val % 12) :
    outsAt4 V c t.val t.isLt = (out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_B_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_B_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_B_12 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt4` at a point of case C: that case's contents, over what the point before left. -/
theorem outsAt4_C (c : Dev nD) (t : Fin cfg4.N) (h0 : ¬t.val % 12 = 0) (h1 : ¬t.val % 12 ≤ 7) (h2 : (8 ≤ t.val % 12 ∧ t.val % 12 ≤ 9)) (h3 : ¬10 ≤ t.val % 12) :
    outsAt4 V c t.val t.isLt = ((outsAt4 V c (t.val - 1) (Nat.lt_of_le_of_lt (Nat.sub_le _ _) t.isLt)).1, out4_C_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_C_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_C_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_C_12 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt4` at a point of case D: that case's contents, over what the point before left. -/
theorem outsAt4_D (c : Dev nD) (t : Fin cfg4.N) (h0 : ¬t.val % 12 = 0) (h1 : ¬t.val % 12 ≤ 7) (h2 : ¬(8 ≤ t.val % 12 ∧ t.val % 12 ≤ 9)) (h3 : 10 ≤ t.val % 12) :
    outsAt4 V c t.val t.isLt = ((outsAt4 V c (t.val - 1) (Nat.lt_of_le_of_lt (Nat.sub_le _ _) t.isLt)).1, (outsAt4 V c (t.val - 1) (Nat.lt_of_le_of_lt (Nat.sub_le _ _) t.isLt)).2.1, out4_D_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) (fun h => h1 ((hcond4_1 t).mp h)) (fun h => h2 ((hcond4_2 t).mp h)) ((hcond4_3 t).mpr h3) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_D_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) (fun h => h1 ((hcond4_1 t).mp h)) (fun h => h2 ((hcond4_2 t).mp h)) ((hcond4_3 t).mpr h3) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2, out4_D_12 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (fun h => h0 ((hcond4_0 t).mp h)) (fun h => h1 ((hcond4_1 t).mp h)) (fun h => h2 ((hcond4_2 t).mp h)) ((hcond4_3 t).mpr h3) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-! ## The pipeline's proof data -/

/-- The proof data of pipeline 4 on core `c`: the arrays as the region finds them (`V`); after the body at
    point `t` each input's buffer at its block and the outputs' at `outsAt4`; the invariant the class's
    (Lib/Pipeline/Frame.lean `ΦA`: the scoped rest and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => (outsAt4 V c t.val t.isLt).1
    | ⟨9, _⟩ => (outsAt4 V c t.val t.isLt).2.1
    | ⟨10, _⟩ => (outsAt4 V c t.val t.isLt).2.2.1
    | ⟨11, _⟩ => (outsAt4 V c t.val t.isLt).2.2.2.1
    | ⟨12, _⟩ => (outsAt4 V c t.val t.isLt).2.2.2.2
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = (outsAt4 V c t.val t.isLt).1 := by dsimp only [dat4]
theorem after4_9 (c : Dev nD) (t : Fin cfg4.N) : (dat4 V c).after 9 t = (outsAt4 V c t.val t.isLt).2.1 := by dsimp only [dat4]
theorem after4_10 (c : Dev nD) (t : Fin cfg4.N) : (dat4 V c).after 10 t = (outsAt4 V c t.val t.isLt).2.2.1 := by dsimp only [dat4]
theorem after4_11 (c : Dev nD) (t : Fin cfg4.N) : (dat4 V c).after 11 t = (outsAt4 V c t.val t.isLt).2.2.2.1 := by dsimp only [dat4]
theorem after4_12 (c : Dev nD) (t : Fin cfg4.N) : (dat4 V c).after 12 t = (outsAt4 V c t.val t.isLt).2.2.2.2 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
/-- At a point of case B output 12's current staging buffer holds what the body left at the point before: the point is
    not the first, the buffer was not written back between (`flush4_12`), the window is live and uncut (Lib/Pipeline/Frame.lean
    `Dat.before_out_kept`). -/
theorem before4_12_B (c : Dev nD) (t : Fin cfg4.N) (h0 : ¬t.val % 12 = 0) (h1 : t.val % 12 ≤ 7) (h2 : ¬(8 ≤ t.val % 12 ∧ t.val % 12 ≤ 9)) (h3 : ¬10 ≤ t.val % 12) (d) :
    (dat4 V c).before 12 t d = (outsAt4 V c (t.val - 1) (Nat.lt_of_le_of_lt (Nat.sub_le _ _) t.isLt)).2.2.2.2 := by
  have hN : t.val < 108 := lt_of_lt_of_eq t.isLt (show cfg4.N = 108 from N_4)
  rw [Dat.before_out_kept _ 12 rfl t (by omega) (Bool.eq_false_iff.mpr fun h => by have := (flush4_12 _).mp h; dsimp only at this; omega)
    (fun x => by obtain ⟨s, rfl⟩ := Pipeline.Grid.coords_surjective _ x; exact liveAt4_12 s) (fun _ _ => rfl)]
  dsimp only [dat4]
/-- At a point of case C output 12's current staging buffer holds what the body left at the point before: the point is
    not the first, the buffer was not written back between (`flush4_12`), the window is live and uncut (Lib/Pipeline/Frame.lean
    `Dat.before_out_kept`). -/
theorem before4_12_C (c : Dev nD) (t : Fin cfg4.N) (h0 : ¬t.val % 12 = 0) (h1 : ¬t.val % 12 ≤ 7) (h2 : (8 ≤ t.val % 12 ∧ t.val % 12 ≤ 9)) (h3 : ¬10 ≤ t.val % 12) (d) :
    (dat4 V c).before 12 t d = (outsAt4 V c (t.val - 1) (Nat.lt_of_le_of_lt (Nat.sub_le _ _) t.isLt)).2.2.2.2 := by
  have hN : t.val < 108 := lt_of_lt_of_eq t.isLt (show cfg4.N = 108 from N_4)
  rw [Dat.before_out_kept _ 12 rfl t (by omega) (Bool.eq_false_iff.mpr fun h => by have := (flush4_12 _).mp h; dsimp only at this; omega)
    (fun x => by obtain ⟨s, rfl⟩ := Pipeline.Grid.coords_surjective _ x; exact liveAt4_12 s) (fun _ _ => rfl)]
  dsimp only [dat4]
/-- At a point of case D output 12's current staging buffer holds what the body left at the point before: the point is
    not the first, the buffer was not written back between (`flush4_12`), the window is live and uncut (Lib/Pipeline/Frame.lean
    `Dat.before_out_kept`). -/
theorem before4_12_D (c : Dev nD) (t : Fin cfg4.N) (h0 : ¬t.val % 12 = 0) (h1 : ¬t.val % 12 ≤ 7) (h2 : ¬(8 ≤ t.val % 12 ∧ t.val % 12 ≤ 9)) (h3 : 10 ≤ t.val % 12) (d) :
    (dat4 V c).before 12 t d = (outsAt4 V c (t.val - 1) (Nat.lt_of_le_of_lt (Nat.sub_le _ _) t.isLt)).2.2.2.2 := by
  have hN : t.val < 108 := lt_of_lt_of_eq t.isLt (show cfg4.N = 108 from N_4)
  rw [Dat.before_out_kept _ 12 rfl t (by omega) (Bool.eq_false_iff.mpr fun h => by have := (flush4_12 _).mp h; dsimp only at this; omega)
    (fun x => by obtain ⟨s, rfl⟩ := Pipeline.Grid.coords_surjective _ x; exact liveAt4_12 s) (fun _ _ => rfl)]
  dsimp only [dat4]

/-- A buffer that is idle since it was last stored into still holds what the point before left. -/
theorem keep4 (c : Dev nD) (w : Fin cfg4.W) (t : Fin cfg4.N) (ht : t.val ≠ 0) (hf : (cfg4.win w).fetch t = false)
    (hp : (cfg4.win w).flush ⟨t.val - 1, Nat.lt_of_le_of_lt (Nat.sub_le _ _) t.isLt⟩ = false)
    (hloose : ∀ s d, (dat4 V c).kept w s d = (dat4 V c).after w s)
    (h : ∀ d, cfg4.idle w (grid4.coords ⟨t.val - 1, Nat.lt_of_le_of_lt (Nat.sub_le _ _) t.isLt⟩) = true →
      (dat4 V c).before w ⟨t.val - 1, Nat.lt_of_le_of_lt (Nat.sub_le _ _) t.isLt⟩ d = (dat4 V c).after w ⟨t.val - 1, Nat.lt_of_le_of_lt (Nat.sub_le _ _) t.isLt⟩) (d) :
    (dat4 V c).before w t d = (dat4 V c).after w ⟨t.val - 1, Nat.lt_of_le_of_lt (Nat.sub_le _ _) t.isLt⟩ := by
  rw [Dat.before_of_pos _ w t ht hf, if_neg (by rw [hp]; exact Bool.false_ne_true)]
  unfold Dat.left
  cases hi : cfg4.idle w (grid4.coords ⟨t.val - 1, Nat.lt_of_le_of_lt (Nat.sub_le _ _) t.isLt⟩)
  · exact hloose _ _
  · exact h d hi

theorem noFetch4_8 : ∀ t : Fin cfg4.N, (cfg4.win 8).fetch t = false := by decide +kernel
theorem noFlushK4_8 : ∀ t : Fin cfg4.N, 8 - 1 ≤ t.val % 12 → t.val % 12 < 11 → (cfg4.win 8).flush t = false := by decide +kernel
theorem idleK4_8 : ∀ t : Fin cfg4.N, 8 ≤ t.val % 12 → cfg4.idle 8 (grid4.coords t) = true := by decide +kernel
theorem liveK4_8 : ∀ t : Fin cfg4.N, t.val % 12 = 8 - 1 → cfg4.idle 8 (grid4.coords t) = false := by decide +kernel
/-- After its last store output 8 holds what the point before left. -/
theorem after4_8_keep (c : Dev nD) (t : Fin cfg4.N) (h : 8 ≤ t.val % 12) :
    (dat4 V c).after 8 t = (dat4 V c).after 8 ⟨t.val - 1, Nat.lt_of_le_of_lt (Nat.sub_le _ _) t.isLt⟩ := by
  have hN : t.val < 108 := lt_of_lt_of_eq t.isLt (show cfg4.N = 108 from N_4)
  rw [after4_8, after4_8]
  by_cases h3 : 10 ≤ t.val % 12
  · rw [outsAt4_D V c t (by omega) (by omega) (by omega) h3]
  · rw [outsAt4_C V c t (by omega) (by omega) (by omega) h3]
/-- So the body finds that at such a point. -/
theorem before4_8_keep (c : Dev nD) : ∀ (n : ℕ) (t : Fin cfg4.N), t.val % 12 = 8 + n → ∀ d,
    (dat4 V c).before 8 t d = (dat4 V c).after 8 t := by
  intro n
  induction n with
  | zero =>
    intro t h d
    rw [after4_8_keep V c t (by omega)]
    refine keep4 V c 8 t (by omega) (noFetch4_8 t) (noFlushK4_8 _ ?_ ?_) (fun s d => rfl) (fun d hi => ?_) d
    · show 8 - 1 ≤ (t.val - 1) % 12; omega
    · show (t.val - 1) % 12 < 11; omega
    · rw [liveK4_8 _ (by show (t.val - 1) % 12 = 8 - 1; omega)] at hi; cases hi
  | succ n ih =>
    intro t h d
    have hm : t.val % 12 < 12 := Nat.mod_lt _ (by decide)
    rw [after4_8_keep V c t (by omega)]
    refine keep4 V c 8 t (by omega) (noFetch4_8 t) (noFlushK4_8 _ ?_ ?_) (fun s d => rfl) (fun d hi => ?_) d
    · show 8 - 1 ≤ (t.val - 1) % 12; omega
    · show (t.val - 1) % 12 < 11; omega
    · exact ih ⟨t.val - 1, _⟩ (by show (t.val - 1) % 12 = 8 + n; omega) d
/-- Handing the buffer back as it was found is what such a point owes. -/
theorem leaves4_8_keep (c : Dev nD) (t : Fin cfg4.N) (h : 8 ≤ t.val % 12) (d) :
    owns (c : Thread nD τ) (ms4_8 t) fullShare ((dat4 V c).before 8 t d) ⊢ (dat4 V c).leavesExact 8 t := by
  unfold Dat.leavesExact
  rw [idleK4_8 t h]
  cases hf : (cfg4.win 8).flush t
  · iintro H; iexists d; iexact H
  · rw [before4_8_keep V c (t.val % 12 - 8) t (by omega) d]

theorem noFetch4_9 : ∀ t : Fin cfg4.N, (cfg4.win 9).fetch t = false := by decide +kernel
theorem noFlushK4_9 : ∀ t : Fin cfg4.N, 10 - 1 ≤ t.val % 12 → t.val % 12 < 11 → (cfg4.win 9).flush t = false := by decide +kernel
theorem idleK4_9 : ∀ t : Fin cfg4.N, 10 ≤ t.val % 12 → cfg4.idle 9 (grid4.coords t) = true := by decide +kernel
theorem liveK4_9 : ∀ t : Fin cfg4.N, t.val % 12 = 10 - 1 → cfg4.idle 9 (grid4.coords t) = false := by decide +kernel
/-- After its last store output 9 holds what the point before left. -/
theorem after4_9_keep (c : Dev nD) (t : Fin cfg4.N) (h : 10 ≤ t.val % 12) :
    (dat4 V c).after 9 t = (dat4 V c).after 9 ⟨t.val - 1, Nat.lt_of_le_of_lt (Nat.sub_le _ _) t.isLt⟩ := by
  have hN : t.val < 108 := lt_of_lt_of_eq t.isLt (show cfg4.N = 108 from N_4)
  rw [after4_9, after4_9]
  rw [outsAt4_D V c t (by omega) (by omega) (by omega) h]
/-- So the body finds that at such a point. -/
theorem before4_9_keep (c : Dev nD) : ∀ (n : ℕ) (t : Fin cfg4.N), t.val % 12 = 10 + n → ∀ d,
    (dat4 V c).before 9 t d = (dat4 V c).after 9 t := by
  intro n
  induction n with
  | zero =>
    intro t h d
    rw [after4_9_keep V c t (by omega)]
    refine keep4 V c 9 t (by omega) (noFetch4_9 t) (noFlushK4_9 _ ?_ ?_) (fun s d => rfl) (fun d hi => ?_) d
    · show 10 - 1 ≤ (t.val - 1) % 12; omega
    · show (t.val - 1) % 12 < 11; omega
    · rw [liveK4_9 _ (by show (t.val - 1) % 12 = 10 - 1; omega)] at hi; cases hi
  | succ n ih =>
    intro t h d
    have hm : t.val % 12 < 12 := Nat.mod_lt _ (by decide)
    rw [after4_9_keep V c t (by omega)]
    refine keep4 V c 9 t (by omega) (noFetch4_9 t) (noFlushK4_9 _ ?_ ?_) (fun s d => rfl) (fun d hi => ?_) d
    · show 10 - 1 ≤ (t.val - 1) % 12; omega
    · show (t.val - 1) % 12 < 11; omega
    · exact ih ⟨t.val - 1, _⟩ (by show (t.val - 1) % 12 = 10 + n; omega) d
/-- Handing the buffer back as it was found is what such a point owes. -/
theorem leaves4_9_keep (c : Dev nD) (t : Fin cfg4.N) (h : 10 ≤ t.val % 12) (d) :
    owns (c : Thread nD τ) (ms4_9 t) fullShare ((dat4 V c).before 9 t d) ⊢ (dat4 V c).leavesExact 9 t := by
  unfold Dat.leavesExact
  rw [idleK4_9 t h]
  cases hf : (cfg4.win 9).flush t
  · iintro H; iexists d; iexact H
  · rw [before4_9_keep V c (t.val % 12 - 10) t (by omega) d]

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d))
    ∗ (∃ d, owns (c : Thread nD τ) (ms4_10 t) fullShare ((dat4 V c).before 10 t d))
    ∗ (∃ d, owns (c : Thread nD τ) (ms4_11 t) fullShare ((dat4 V c).before 11 t d))
    ∗ (∃ d, owns (c : Thread nD τ) (ms4_12 t) fullShare ((dat4 V c).before 12 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t
    ∗ (dat4 V c).leavesExact 10 t
    ∗ (dat4 V c).leavesExact 11 t
    ∗ (dat4 V c).leavesExact 12 t)

set_option maxHeartbeats 4800000 in
/-- The body at any point: the inputs' memrefs hold their blocks (`before4_W`); the closed forms say which case the point is in (`by_cases`), an output the case reads before covering holds what the point before left (`before4_W_κ`); so the
    run applies; the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl]
  have hN : t.val < 108 := lt_of_lt_of_eq t.isLt (show cfg4.N = 108 from N_4)
  by_cases h0 : t.val % 12 = 0
  · by_cases h1 : t.val % 12 ≤ 7
    · by_cases h2 : (8 ≤ t.val % 12 ∧ t.val % 12 ≤ 9)
      · exfalso; omega
      · by_cases h3 : 10 ≤ t.val % 12
        · exfalso; omega
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4 t], after4_4]
          rw [show (dat4 V c).leavesExact 5 t = owns (c : Thread nD τ) (ms4_5 t) fullShare ((dat4 V c).after 5 t) from by
      unfold Dat.leavesExact; rw [liveAt4_5 t], after4_5]
          rw [show (dat4 V c).leavesExact 6 t = owns (c : Thread nD τ) (ms4_6 t) fullShare ((dat4 V c).after 6 t) from by
      unfold Dat.leavesExact; rw [liveAt4_6 t], after4_6]
          rw [show (dat4 V c).leavesExact 7 t = owns (c : Thread nD τ) (ms4_7 t) fullShare ((dat4 V c).after 7 t) from by
      unfold Dat.leavesExact; rw [liveAt4_7 t], after4_7]
          rw [show (dat4 V c).leavesExact 8 t = owns (c : Thread nD τ) (ms4_8 t) fullShare ((dat4 V c).after 8 t) from by
      unfold Dat.leavesExact; rw [liveAt4_8_A t ((hcond4_0 t).mpr h0) ((hcond4_1 t).mpr h1) (fun h => h2 ((hcond4_2 t).mp h)) (fun h => h3 ((hcond4_3 t).mp h))], after4_8]
          rw [Dat.leavesExact_idle (dat4 V c) 9 t (idleAt4_9_A t ((hcond4_0 t).mpr h0) ((hcond4_1 t).mpr h1) (fun h => h2 ((hcond4_2 t).mp h)) (fun h => h3 ((hcond4_3 t).mp h))) (noFlush4_9_A t ((hcond4_0 t).mpr h0) ((hcond4_1 t).mpr h1) (fun h => h2 ((hcond4_2 t).mp h)) (fun h => h3 ((hcond4_3 t).mp h)))]
          rw [Dat.leavesExact_idle (dat4 V c) 10 t (idleAt4_10_A t ((hcond4_0 t).mpr h0) ((hcond4_1 t).mpr h1) (fun h => h2 ((hcond4_2 t).mp h)) (fun h => h3 ((hcond4_3 t).mp h))) (noFlush4_10_A t ((hcond4_0 t).mpr h0) ((hcond4_1 t).mpr h1) (fun h => h2 ((hcond4_2 t).mp h)) (fun h => h3 ((hcond4_3 t).mp h)))]
          rw [Dat.leavesExact_idle (dat4 V c) 11 t (idleAt4_11_A t ((hcond4_0 t).mpr h0) ((hcond4_1 t).mpr h1) (fun h => h2 ((hcond4_2 t).mp h)) (fun h => h3 ((hcond4_3 t).mp h))) (noFlush4_11_A t ((hcond4_0 t).mpr h0) ((hcond4_1 t).mpr h1) (fun h => h2 ((hcond4_2 t).mp h)) (fun h => h3 ((hcond4_3 t).mp h)))]
          rw [show (dat4 V c).leavesExact 12 t = owns (c : Thread nD τ) (ms4_12 t) fullShare ((dat4 V c).after 12 t) from by
      unfold Dat.leavesExact; rw [liveAt4_12 t], after4_12]
          rw [outsAt4_A V c t h0 h1 h2 h3]
          unfold out4_A_8 out4_A_12; (try dsimp only)
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun4_A c (grid4.coords t) _ _ _ _ _ _ _ _ _ _ _ _ _ _ _ _ _ _ _ _ _ _ _ _ _ _ ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t)).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [H10]; · iexact H10
          isplitl [H11]; · iexact H11
          isplitl [H12]; · iexists _; iexact H12
          iintro ⟨H0, H1, H2, H3, H4, H5, H6, H7, ⟨%e8, H8⟩, H9, H10, H11, ⟨%e12, H12⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover4_A_8 c _ _ _ _ _ _ _ _ _ _ _ _ _ _ _ _ _ _ _ _ _ _ _ _ _ _ _ _ _ _ _ _ _ _ _ _ _ _ _)
          isplitl [H9]; · iexists _; iexact H9
          isplitl [H10]; · iexists _; iexact H10
          isplitl [H11]; · iexists _; iexact H11
          unfold owns; iexists _; isplitr
          swap; · iexact H12
          ipureintro; exact View.read_writes_of_cover _ _ _ _ _ (cover4_A_12 c _ _ _ _ _ _ _ _ _ _ _ _ _ _ _ _ _ _ _ _ _ _ _ _ _ _ _ _ _ _ _ _ _ _ _ _ _ _ _)
    · exfalso; omega
  · by_cases h1 : t.val % 12 ≤ 7
    · by_cases h2 : (8 ≤ t.val % 12 ∧ t.val % 12 ≤ 9)
      · exfalso; omega
      · by_cases h3 : 10 ≤ t.val % 12
        · exfalso; omega
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4 t], after4_4]
          rw [show (dat4 V c).leavesExact 5 t = owns (c : Thread nD τ) (ms4_5 t) fullShare ((dat4 V c).after 5 t) from by
      unfold Dat.leavesExact; rw [liveAt4_5 t], after4_5]
          rw [show (dat4 V c).leavesExact 6 t = owns (c : Thread nD τ) (ms4_6 t) fullShare ((dat4 V c).after 6 t) from by
      unfold Dat.leavesExact; rw [liveAt4_6 t], after4_6]
          rw [show (dat4 V c).leavesExact 7 t = owns (c : Thread nD τ) (ms4_7 t) fullShare ((dat4 V c).after 7 t) from by
      unfold Dat.leavesExact; rw [liveAt4_7 t], after4_7]
          rw [show (dat4 V c).leavesExact 8 t = owns (c : Thread nD τ) (ms4_8 t) fullShare ((dat4 V c).after 8 t) from by
      unfold Dat.leavesExact; rw [liveAt4_8_B t (fun h => h0 ((hcond4_0 t).mp h)) ((hcond4_1 t).mpr h1) (fun h => h2 ((hcond4_2 t).mp h)) (fun h => h3 ((hcond4_3 t).mp h))], after4_8]
          rw [Dat.leavesExact_idle (dat4 V c) 9 t (idleAt4_9_B t (fun h => h0 ((hcond4_0 t).mp h)) ((hcond4_1 t).mpr h1) (fun h => h2 ((hcond4_2 t).mp h)) (fun h => h3 ((hcond4_3 t).mp h))) (noFlush4_9_B t (fun h => h0 ((hcond4_0 t).mp h)) ((hcond4_1 t).mpr h1) (fun h => h2 ((hcond4_2 t).mp h)) (fun h => h3 ((hcond4_3 t).mp h)))]
          rw [Dat.leavesExact_idle (dat4 V c) 10 t (idleAt4_10_B t (fun h => h0 ((hcond4_0 t).mp h)) ((hcond4_1 t).mpr h1) (fun h => h2 ((hcond4_2 t).mp h)) (fun h => h3 ((hcond4_3 t).mp h))) (noFlush4_10_B t (fun h => h0 ((hcond4_0 t).mp h)) ((hcond4_1 t).mpr h1) (fun h => h2 ((hcond4_2 t).mp h)) (fun h => h3 ((hcond4_3 t).mp h)))]
          rw [Dat.leavesExact_idle (dat4 V c) 11 t (idleAt4_11_B t (fun h => h0 ((hcond4_0 t).mp h)) ((hcond4_1 t).mpr h1) (fun h => h2 ((hcond4_2 t).mp h)) (fun h => h3 ((hcond4_3 t).mp h))) (noFlush4_11_B t (fun h => h0 ((hcond4_0 t).mp h)) ((hcond4_1 t).mpr h1) (fun h => h2 ((hcond4_2 t).mp h)) (fun h => h3 ((hcond4_3 t).mp h)))]
          rw [show (dat4 V c).leavesExact 12 t = owns (c : Thread nD τ) (ms4_12 t) fullShare ((dat4 V c).after 12 t) from by
      unfold Dat.leavesExact; rw [liveAt4_12 t], after4_12]
          rw [outsAt4_B V c t h0 h1 h2 h3]
          simp only [before4_12_B V c t h0 h1 h2 h3]
          unfold out4_B_8 out4_B_12; (try dsimp only)
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun4_B c (grid4.coords t) _ _ _ _ _ _ _ _ _ _ _ _ _ _ _ _ _ _ _ _ _ _ _ _ _ _ (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) _).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexact H9
          isplitl [H10]; · iexact H10
          isplitl [H11]; · iexact H11
          isplitl [H12]; · iexact H12
          iintro ⟨H0, H1, H2, H3, H4, H5, H6, H7, ⟨%e8, H8⟩, H9, H10, H11, ⟨%e12, H12⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover4_B_8 c _ _ _ _ _ _ _ _ _ _ _ _ _ _ _ _ _ _ _ _ _ _ _ _ _ _ _ _ _ _ _ _ _ _ _ _ _ _ _ _)
          isplitl [H9]; · iexists _; iexact H9
          isplitl [H10]; · iexists _; iexact H10
          isplitl [H11]; · iexists _; iexact H11
          unfold owns; iexists _; isplitr
          swap; · iexact H12
          ipureintro; exact View.read_writes_of_cover _ _ _ _ _ (cover4_B_12 c _ _ _ _ _ _ _ _ _ _ _ _ _ _ _ _ _ _ _ _ _ _ _ _ _ _ _ _ _ _ _ _ _ _ _ _ _ _ _ _)
    · by_cases h2 : (8 ≤ t.val % 12 ∧ t.val % 12 ≤ 9)
      · by_cases h3 : 10 ≤ t.val % 12
        · exfalso; omega
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4 t], after4_4]
          rw [show (dat4 V c).leavesExact 5 t = owns (c : Thread nD τ) (ms4_5 t) fullShare ((dat4 V c).after 5 t) from by
      unfold Dat.leavesExact; rw [liveAt4_5 t], after4_5]
          rw [show (dat4 V c).leavesExact 6 t = owns (c : Thread nD τ) (ms4_6 t) fullShare ((dat4 V c).after 6 t) from by
      unfold Dat.leavesExact; rw [liveAt4_6 t], after4_6]
          rw [show (dat4 V c).leavesExact 7 t = owns (c : Thread nD τ) (ms4_7 t) fullShare ((dat4 V c).after 7 t) from by
      unfold Dat.leavesExact; rw [liveAt4_7 t], after4_7]
          rw [Dat.leavesExact_idle (dat4 V c) 8 t (idleAt4_8_C t (fun h => h0 ((hcond4_0 t).mp h)) (fun h => h1 ((hcond4_1 t).mp h)) ((hcond4_2 t).mpr h2) (fun h => h3 ((hcond4_3 t).mp h))) (noFlush4_8_C t (fun h => h0 ((hcond4_0 t).mp h)) (fun h => h1 ((hcond4_1 t).mp h)) ((hcond4_2 t).mpr h2) (fun h => h3 ((hcond4_3 t).mp h)))]
          rw [show (dat4 V c).leavesExact 9 t = owns (c : Thread nD τ) (ms4_9 t) fullShare ((dat4 V c).after 9 t) from by
      unfold Dat.leavesExact; rw [liveAt4_9_C t (fun h => h0 ((hcond4_0 t).mp h)) (fun h => h1 ((hcond4_1 t).mp h)) ((hcond4_2 t).mpr h2) (fun h => h3 ((hcond4_3 t).mp h))], after4_9]
          rw [Dat.leavesExact_idle (dat4 V c) 10 t (idleAt4_10_C t (fun h => h0 ((hcond4_0 t).mp h)) (fun h => h1 ((hcond4_1 t).mp h)) ((hcond4_2 t).mpr h2) (fun h => h3 ((hcond4_3 t).mp h))) (noFlush4_10_C t (fun h => h0 ((hcond4_0 t).mp h)) (fun h => h1 ((hcond4_1 t).mp h)) ((hcond4_2 t).mpr h2) (fun h => h3 ((hcond4_3 t).mp h)))]
          rw [Dat.leavesExact_idle (dat4 V c) 11 t (idleAt4_11_C t (fun h => h0 ((hcond4_0 t).mp h)) (fun h => h1 ((hcond4_1 t).mp h)) ((hcond4_2 t).mpr h2) (fun h => h3 ((hcond4_3 t).mp h))) (noFlush4_11_C t (fun h => h0 ((hcond4_0 t).mp h)) (fun h => h1 ((hcond4_1 t).mp h)) ((hcond4_2 t).mpr h2) (fun h => h3 ((hcond4_3 t).mp h)))]
          rw [show (dat4 V c).leavesExact 12 t = owns (c : Thread nD τ) (ms4_12 t) fullShare ((dat4 V c).after 12 t) from by
      unfold Dat.leavesExact; rw [liveAt4_12 t], after4_12]
          rw [outsAt4_C V c t h0 h1 h2 h3]
          simp only [before4_12_C V c t h0 h1 h2 h3]
          unfold out4_C_9 out4_C_12; (try dsimp only)
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun4_C c (grid4.coords t) _ _ _ _ _ _ _ _ _ _ _ _ _ _ _ _ _ _ _ _ _ _ _ _ _ _ (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) (iblk4 V c 4 t) (iblk4 V c 5 t) (iblk4 V c 6 t) (iblk4 V c 7 t) _).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexact H10
          isplitl [H11]; · iexact H11
          isplitl [H12]; · iexact H12
          iintro ⟨H0, H1, H2, H3, H4, H5, H6, H7, H8, ⟨%e9, H9⟩, H10, H11, ⟨%e12, H12⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]
          · unfold owns; iexists _; isplitr
            swap; · iexact H9
            ipureintro; exact View.read_writes_of_cover _ _ _ _ _ (cover4_C_9 c _ _ _ _ _ _ _ _ _ _ _ _ _ _ _ _ _ _ _ _ _ _ _ _ _ _ _ _ _ _ _ _ _ _ _ _ _ _ _ _)
          isplitl [H10]; · iexists _; iexact H10
          isplitl [H11]; · iexists _; iexact H11
          unfold owns; iexists _; isplitr
          swap; · iexact H12
          ipureintro; exact View.read_writes_of_cover _ _ _ _ _ (cover4_C_12 c _ _ _ _ _ _ _ _ _ _ _ _ _ _ _ _ _ _ _ _ _ _ _ _ _ _ _ _ _ _ _ _ _ _ _ _ _ _ _ _)
      · by_cases h3 : 10 ≤ t.val % 12
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4 t], after4_4]
          rw [show (dat4 V c).leavesExact 5 t = owns (c : Thread nD τ) (ms4_5 t) fullShare ((dat4 V c).after 5 t) from by
      unfold Dat.leavesExact; rw [liveAt4_5 t], after4_5]
          rw [show (dat4 V c).leavesExact 6 t = owns (c : Thread nD τ) (ms4_6 t) fullShare ((dat4 V c).after 6 t) from by
      unfold Dat.leavesExact; rw [liveAt4_6 t], after4_6]
          rw [show (dat4 V c).leavesExact 7 t = owns (c : Thread nD τ) (ms4_7 t) fullShare ((dat4 V c).after 7 t) from by
      unfold Dat.leavesExact; rw [liveAt4_7 t], after4_7]
          rw [show (dat4 V c).leavesExact 10 t = owns (c : Thread nD τ) (ms4_10 t) fullShare ((dat4 V c).after 10 t) from by
      unfold Dat.leavesExact; rw [liveAt4_10_D t (fun h => h0 ((hcond4_0 t).mp h)) (fun h => h1 ((hcond4_1 t).mp h)) (fun h => h2 ((hcond4_2 t).mp h)) ((hcond4_3 t).mpr h3)], after4_10]
          rw [show (dat4 V c).leavesExact 11 t = owns (c : Thread nD τ) (ms4_11 t) fullShare ((dat4 V c).after 11 t) from by
      unfold Dat.leavesExact; rw [liveAt4_11_D t (fun h => h0 ((hcond4_0 t).mp h)) (fun h => h1 ((hcond4_1 t).mp h)) (fun h => h2 ((hcond4_2 t).mp h)) ((hcond4_3 t).mpr h3)], after4_11]
          rw [show (dat4 V c).leavesExact 12 t = owns (c : Thread nD τ) (ms4_12 t) fullShare ((dat4 V c).after 12 t) from by
      unfold Dat.leavesExact; rw [liveAt4_12 t], after4_12]
          rw [outsAt4_D V c t h0 h1 h2 h3]
          simp only [before4_12_D V c t h0 h1 h2 h3]
          unfold out4_D_10 out4_D_11 out4_D_12; (try dsimp only)
          iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun4_D c (grid4.coords t) _ _ _ _ _ _ _ _ _ _ _ _ _ _ _ _ _ _ _ _ _ _ _ _ _ _ (fun h => h0 ((hcond4_0 t).mp h)) (fun h => h1 ((hcond4_1 t).mp h)) (fun h => h2 ((hcond4_2 t).mp h)) ((hcond4_3 t).mpr h3) (iblk4 V c 0 t) (iblk4 V c 1 t) (iblk4 V c 2 t) (iblk4 V c 3 t) (iblk4 V c 4 t) (iblk4 V c 5 t) (iblk4 V c 6 t) (iblk4 V c 7 t) _).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexact H12
          iintro ⟨H0, H1, H2, H3, H4, H5, H6, H7, H8, H9, ⟨%e10, H10⟩, ⟨%e11, H11⟩, ⟨%e12, H12⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iapply (leaves4_8_keep V c t (by omega) _); iexact H8
          isplitl [H9]; · iapply (leaves4_9_keep V c t (by omega) _); iexact H9
          isplitl [H10]
          · unfold owns; iexists _; isplitr
            swap; · iexact H10
            ipureintro; exact View.read_writes_of_cover _ _ _ _ _ (cover4_D_10 c _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover4_D_11 c _ _ _ _ _ _ _ _ _ _ _ _ _ _ _ _ _ _ _ _ _ _ _ _ _ _ _ _ _ _ _ _ _ _ _ _ _ _ _ _)
          unfold owns; iexists _; isplitr
          swap; · iexact H12
          ipureintro; exact View.read_writes_of_cover _ _ _ _ _ (cover4_D_12 c _ _ _ _ _ _ _ _ _ _ _ _ _ _ _ _ _ _ _ _ _ _ _ _ _ _ _ _ _ _ _ _ _ _ _ _ _ _ _ _)
        · exfalso; omega

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.FrontIdeal.Gen

end
-- ==== Proof.Front.Hosts0.lean ====
/-
  What the stretches of host operations of the front half's program write.
-/
module

public import proofs.«01_k».proof.Proof.Gen.FrontIdeal.Launch
public import proofs.«01_k».proof.Proof.Gen.FrontIdeal.Skeleton
public import proofs.«01_k».proof.Proof.Gen.FrontIdeal.Points
public import Idealize.ShloMosaic.Lib.Pipeline.FrameBody
public import proofs.«01_k».proof.Proof.Gen.FrontIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6, main_v7]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v9, main_v10, main_v11, main_v12, main_v13, main_v14]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v16, main_v17, main_v18, main_v19, main_v20, main_v21, main_v22, main_v23, main_v24, main_v25, main_v26]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

end Cert.FrontIdeal.Gen

end
-- ==== Proof.Front.Fold0.lean ====
/-
  What the front half's buffers hold between two of its calls, from the arguments on.
-/
module

public import proofs.«01_k».proof.Proof.Front.Region0
public import proofs.«01_k».proof.Proof.Front.Region1
public import proofs.«01_k».proof.Proof.Front.Region2
public import proofs.«01_k».proof.Proof.Front.Region3
public import proofs.«01_k».proof.Proof.Front.Region4
public import proofs.«01_k».proof.Proof.Front.Hosts0

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After `hostOps4` (region 4's entry). -/
abbrev W8 : Dev nD → Valuation τ sig (Elt F) := fun c => StableHlo.after hostOps4 (W7 m ρ c)
/-- A reference `hostOps4` does not write keeps its contents across it. -/
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)
/-- The same read at the TensorCore's references (what region 4's proof data take). -/
abbrev V8 : (c : Dev nD) → (b : Ref sig .tc) → Buf (Elt F) ((c : Thread nD τ).loc b) := fun c b => W8 m ρ c b
/-- At region 4's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- A reference that is none of region 4's OUTPUT arrays keeps its entry contents across it: an input window's
    array is never written back (`Dat.arrAt_in`, `A_eq4`); any other buffer is left as is. -/
theorem W9_of (c : Dev nD) (r : Ref sig .tc) (h : ∀ w : Fin cfg4.W, Pipeline.arrRef spec4 w = r → (cfg4.win w).isOut = false) :
    W9 m ρ c (Proc.devRef .tc r) = W8 m ρ c (Proc.devRef .tc r) := by
  by_cases hw : ∃ w : Fin cfg4.W, Pipeline.arrRef spec4 w = r
  · obtain ⟨w, rfl⟩ := hw
    exact (W9_arr m ρ c w).trans (((dat4 (V8 m ρ) c).arrAt_in w (h w rfl) _).trans (A_eq4 (V8 m ρ) c w))
  · exact W9_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn4 a ha)).trans (W8_args m ρ c a ha)
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After `hostOps5`. -/
abbrev W10 : Dev nD → Valuation τ sig (Elt F) := fun c => StableHlo.after hostOps5 (W9 m ρ c)
/-- A reference `hostOps5` does not write keeps its contents across it. -/
theorem W10_of (c : Dev nD) (r : Ref sig .tc) (h : r ∉ hostOps5_W) : W10 m ρ c (Proc.devRef .tc r) = W9 m ρ c (Proc.devRef .tc r) :=
  StableHlo.after_of_writes_sub hostOps5 _ hostOps5_writes h
theorem W10_args (c : Dev nD) : ∀ a ∈ argRefs, W10 m ρ c (Proc.devRef .tc a) = m ((c : Thread nD τ).loc a) :=
  fun a ha => (W10_of m ρ c a (hostOps5_args a ha)).trans (W9_args m ρ c a ha)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
end Cert.FrontIdeal.Gen

end
-- ==== Proof.Front.State.lean ====
/-
  The proof data of the front half's five calls and the state between two of them.
-/
module

public import proofs.«01_k».proof.Proof.Front.Fold0

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

end Cert.FrontIdeal.Gen

end
-- ==== Proof.Front.Record0.lean ====
/-
  The call of the unpacking of the query weights as a segment of the program.
-/
module

public import proofs.«01_k».proof.Proof.Front.State

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.FrontIdeal.Gen

end
-- ==== Proof.Front.Record1.lean ====
/-
  The call of the unpacking of the key weights as a segment of the program.
-/
module

public import proofs.«01_k».proof.Proof.Front.State

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.FrontIdeal.Gen

end
-- ==== Proof.Front.Record2.lean ====
/-
  The call of the unpacking of the value weights as a segment of the program.
-/
module

public import proofs.«01_k».proof.Proof.Front.State

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.FrontIdeal.Gen

end
-- ==== Proof.Front.Record3.lean ====
/-
  The call of the input norm as a segment of the program.
-/
module

public import proofs.«01_k».proof.Proof.Front.State

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.FrontIdeal.Gen

end
-- ==== Proof.Front.Record4.lean ====
/-
  The call of the query, key and value products as a segment of the program.
-/
module

public import proofs.«01_k».proof.Proof.Front.State

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.FrontIdeal.Gen

end
-- ==== Proof.Front.Segs.lean ====
/-
  The front half's program run to its end: its calls and host stretches in order, the arguments as launched, and each result
  buffer at the contents after the last host step.
-/
module

public import proofs.«01_k».proof.Proof.Front.Record0
public import proofs.«01_k».proof.Proof.Front.Record1
public import proofs.«01_k».proof.Proof.Front.Record2
public import proofs.«01_k».proof.Proof.Front.Record3
public import proofs.«01_k».proof.Proof.Front.Record4

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The core has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every execution ends, with the results and the arguments as said and every counter at zero. -/
theorem run : θ_run defs (onTc (τ := τ) (main (F := F))) ⟨m, fun _ => 0, ρ⟩ (fun r => (∀ c : Dev nD,
      r.2.mem ((c.tc : Thread nD τ).loc main_v17) = W10 m ρ c (Proc.devRef .tc main_v17)
      ∧ r.2.mem ((c.tc : Thread nD τ).loc main_v20) = W10 m ρ c (Proc.devRef .tc main_v20)
      ∧ r.2.mem ((c.tc : Thread nD τ).loc main_v21) = W10 m ρ c (Proc.devRef .tc main_v21)
      ∧ r.2.mem ((c.tc : Thread nD τ).loc main_v22) = W10 m ρ c (Proc.devRef .tc main_v22)
      ∧ r.2.mem ((c.tc : Thread nD τ).loc main_v23) = W10 m ρ c (Proc.devRef .tc main_v23)
      ∧ r.2.mem ((c.tc : Thread nD τ).loc main_v24) = W10 m ρ c (Proc.devRef .tc main_v24)
      ∧ r.2.mem ((c.tc : Thread nD τ).loc main_v25) = W10 m ρ c (Proc.devRef .tc main_v25)
      ∧ r.2.mem ((c.tc : Thread nD τ).loc main_v26) = W10 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨h c _ (mem_uc main_v17 (by decide)),
       h c _ (mem_uc main_v20 (by decide)),
       h c _ (mem_uc main_v21 (by decide)),
       h c _ (mem_uc main_v22 (by decide)),
       h c _ (mem_uc main_v23 (by decide)),
       h c _ (mem_uc main_v24 (by decide)),
       h c _ (mem_uc main_v25 (by decide)),
       h c _ (mem_uc main_v26 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩), funext fun g => hz g (.inr (no_unscoped g.2))⟩)

/-- The arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2.2.2.2.2.2.2.2, h.2⟩) (run m ρ)

end Cert.FrontIdeal.Gen

end
-- ==== Proof.Front.Same.lean ====
/-
  The front half's program at machine words: the same program, read at another instance.
-/
module

public import proofs.«01_k».proof.Defs
public import proofs.«01_k».proof.Proof.Gen.Front
public import proofs.«01_k».proof.Proof.Front.Segs

@[expose] public section

set_option maxRecDepth 16384

noncomputable section

namespace Cert.FrontSame

open Idealize.ShloMosaic Idealize.ShloMosaic.TcCoe Idealize.SL.Sem

/-- What the frame of the ideal program's text says of it at machine words. -/
def Frame : Prop :=
  ∀ (m : (ℓ : Loc Cert.FrontIdeal.nD Cert.FrontIdeal.τ Cert.FrontIdeal.sig) → Buf (Elt Bits) ℓ) (g : Dev Cert.FrontIdeal.nD → PrngReg), True →
    θ_run (Cert.FrontIdeal.defs (F := Bits)) (onTc (τ := Cert.FrontIdeal.τ) (Cert.FrontIdeal.main (F := Bits))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ r.2.sem = fun _ => 0)

/-- The ideal program runs at machine words too and leaves its arguments alone. -/
theorem frame_ideal : Frame := fun m g _ => Cert.FrontIdeal.Gen.frame (F := Bits) m g

/-- The two programs have the same text, so their frames at machine words are the same proposition. -/
theorem same : quiescent_Front (hFront := Cert.Front.Gen.facts) = Frame := by chain_rfl

/-- The front half's program runs and leaves its arguments alone. -/
theorem frame : quiescent_Front (hFront := Cert.Front.Gen.facts) := same.mpr frame_ideal

end Cert.FrontSame
-- ==== Proof.Front.Heads.lean ====
/-
  Attention heads: the rotation of a head by the position, and the codes and scale of a head.
-/
module

public import proofs.«01_k».proof.Proof.Rows

@[expose] public section

set_option maxRecDepth 16384

noncomputable section

namespace Cert.Heads

open Idealize.ShloMosaic Idealize.ShloMosaic.TcCoe Idealize.ShloMosaic.Pipeline Cert.Rows

/-- A head of 128 entries, its two halves rotated into each other by the row's 64 cosines and sines. -/
def roped (h : Fin 128 → EReal) (c s : Fin 64 → EReal) (k : Fin 128) : EReal :=
  if hk : k.val < 64 then h k * c ⟨k.val, hk⟩ - h ⟨64 + k.val, by omega⟩ * s ⟨k.val, hk⟩
  else h k * c ⟨k.val - 64, by omega⟩ + h ⟨k.val - 64, by omega⟩ * s ⟨k.val - 64, by omega⟩

/-- The scale of a head. -/
def headScale (y : Fin 128 → EReal) : EReal := scaleOf (F := Ideal) (rowMax y)

/-- The codes of a head. -/
def headCode (y : Fin 128 → EReal) (k : Fin 128) : BitVec 8 := codeOf (F := Ideal) (y k) (headScale y)

/-- Head `h` of a quantised product: columns `128 h` to `128 h + 127`. -/
def headVec {d : ℕ} (c : Fin d → BitVec 8) (s : EReal) (w : ℕ → Fin d → EReal) (ws : EReal) (h : ℕ) : Fin 128 → EReal :=
  fun k => lin c (w (128 * h + k.val)) s ws

end Cert.Heads
-- ==== Proof.Front.Half.lean ====
/-
  The front half of the layer as mathematics over the extended reals, row by row: normalise and quantise the input, project it to
  query, key and value heads, rotate the query and key heads by the position, and quantise every head. Both programs are shown to
  compute these arrays.
-/
module

public import proofs.«01_k».proof.Proof.Back
public import proofs.«01_k».proof.Proof.Front.Heads

@[expose] public section

noncomputable section

namespace Cert

open Idealize.ShloMosaic Cert.Rows Cert.Heads

/-- The inputs: one row per token, its cosines and sines; the gain; the three packed weight matrices; their scales. -/
structure Half where
  x : (Mat 9216 4096).Idx → EReal
  cos : (Mat 9216 64).Idx → EReal
  sin : (Mat 9216 64).Idx → EReal
  gIn : Fin 4096 → EReal
  wQ : (Mat 1024 4096).Idx → BitVec 8
  wK : (Mat 256 4096).Idx → BitVec 8
  wV : (Mat 256 4096).Idx → BitVec 8
  sQ : EReal
  sK : EReal
  sV : EReal

namespace Half

/-- The codes of the heads of every row. -/
def headCodes {n : ℕ} (y : Fin 9216 → ℕ → Fin 128 → EReal) : (⟨3, ![9216, n, 128]⟩ : Shape).Idx → BitVec 8 :=
  fun i => headCode (y (i 0) (i 1).val) (i 2)
/-- The scales of the heads of every row. -/
def headScales {n : ℕ} (y : Fin 9216 → ℕ → Fin 128 → EReal) : (Mat 9216 n).Idx → EReal :=
  fun i => headScale (y (i 0) (i 1).val)

variable (b : Half)

/-- Codes and scales of the input. -/
def codes : (Mat 9216 4096).Idx → BitVec 8 := codeMat nModel b.x b.gIn
def scales : (Col 9216).Idx → EReal := scaleVec nModel b.x b.gIn
/-- Query head `h` of row `r`. -/
def qHead (r : Fin 9216) (h : ℕ) : Fin 128 → EReal :=
  roped (headVec (row b.codes r) (b.scales (ix1 r)) (wrow (R := 1024) (by decide) b.wQ) b.sQ h) (row b.cos r) (row b.sin r)
/-- Key head `h` of row `r`. -/
def kHead (r : Fin 9216) (h : ℕ) : Fin 128 → EReal :=
  roped (headVec (row b.codes r) (b.scales (ix1 r)) (wrow (R := 256) (by decide) b.wK) b.sK h) (row b.cos r) (row b.sin r)
/-- Value head `h` of row `r`. -/
def vHead (r : Fin 9216) (h : ℕ) : Fin 128 → EReal :=
  headVec (row b.codes r) (b.scales (ix1 r)) (wrow (R := 256) (by decide) b.wV) b.sV h

end Half
end Cert
-- ==== Proof.Front.UnpackK.lean ====
/-
  The payloads of the weight-unpacking kernels, read at an index: each stores one field of the packed bytes.
-/
module

public import proofs.«01_k».proof.Proof.Unpack
public import proofs.«01_k».proof.Proof.Gen.FrontIdeal.Skeleton

@[expose] public section

set_option maxRecDepth 16384

namespace Cert.FrontUnpack

open Idealize.ShloMosaic Idealize.ShloMosaic.TcCoe Idealize.ShloMosaic.Pipeline Cert.Rows
open Cert.FrontIdeal Cert.FrontIdeal.Gen

/-- Field 0 of the packed bytes. -/
theorem field0_0 (v0 : Vec Ideal S64x4096 .i8) (a : Fin 64) (l : Fin 4096) :
    k0_pay3 v0 (ix3 0 a l) = wt (v0 (ix2 a l)) 0 := by
  have e := field_of_byte (R := 64) (r := 16) (n := 4096) v0 bitcasts_S64x4096_w8_S16x4096_w32 bitcasts_S16x4096_w32_S64x4096_w8 rfl 0#32 0 (by decide) rfl a l
  rw [← wt_of_field _ 0 (by decide), ← e]
  unfold k0_pay3 k0_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 1 of the packed bytes. -/
theorem field0_1 (v0 : Vec Ideal S64x4096 .i8) (a : Fin 64) (l : Fin 4096) :
    k0_pay4 v0 (ix3 0 a l) = wt (v0 (ix2 a l)) 1 := by
  have e := field_of_byte (R := 64) (r := 16) (n := 4096) v0 bitcasts_S64x4096_w8_S16x4096_w32 bitcasts_S16x4096_w32_S64x4096_w8 rfl 2#32 1 (by decide) rfl a l
  rw [← wt_of_field _ 1 (by decide), ← e]
  unfold k0_pay4 k0_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 2 of the packed bytes. -/
theorem field0_2 (v0 : Vec Ideal S64x4096 .i8) (a : Fin 64) (l : Fin 4096) :
    k0_pay5 v0 (ix3 0 a l) = wt (v0 (ix2 a l)) 2 := by
  have e := field_of_byte (R := 64) (r := 16) (n := 4096) v0 bitcasts_S64x4096_w8_S16x4096_w32 bitcasts_S16x4096_w32_S64x4096_w8 rfl 4#32 2 (by decide) rfl a l
  rw [← wt_of_field _ 2 (by decide), ← e]
  unfold k0_pay5 k0_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 3 of the packed bytes. -/
theorem field0_3 (v0 : Vec Ideal S64x4096 .i8) (a : Fin 64) (l : Fin 4096) :
    k0_pay1 (F := Ideal) (k0_pay2 v0) 6#32 (ix3 0 a l) = wt (v0 (ix2 a l)) 3 := by
  have e := field_of_byte (R := 64) (r := 16) (n := 4096) v0 bitcasts_S64x4096_w8_S16x4096_w32 bitcasts_S16x4096_w32_S64x4096_w8 rfl 6#32 3 (by decide) rfl a l
  rw [← wt_of_field _ 3 (by decide), ← e]
  unfold k0_pay1 k0_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 0 of the packed bytes. -/
theorem field1_0 (v0 : Vec Ideal S64x4096 .i8) (a : Fin 64) (l : Fin 4096) :
    k1_pay3 v0 (ix3 0 a l) = wt (v0 (ix2 a l)) 0 := by
  have e := field_of_byte (R := 64) (r := 16) (n := 4096) v0 bitcasts_S64x4096_w8_S16x4096_w32 bitcasts_S16x4096_w32_S64x4096_w8 rfl 0#32 0 (by decide) rfl a l
  rw [← wt_of_field _ 0 (by decide), ← e]
  unfold k1_pay3 k1_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 1 of the packed bytes. -/
theorem field1_1 (v0 : Vec Ideal S64x4096 .i8) (a : Fin 64) (l : Fin 4096) :
    k1_pay4 v0 (ix3 0 a l) = wt (v0 (ix2 a l)) 1 := by
  have e := field_of_byte (R := 64) (r := 16) (n := 4096) v0 bitcasts_S64x4096_w8_S16x4096_w32 bitcasts_S16x4096_w32_S64x4096_w8 rfl 2#32 1 (by decide) rfl a l
  rw [← wt_of_field _ 1 (by decide), ← e]
  unfold k1_pay4 k1_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 2 of the packed bytes. -/
theorem field1_2 (v0 : Vec Ideal S64x4096 .i8) (a : Fin 64) (l : Fin 4096) :
    k1_pay5 v0 (ix3 0 a l) = wt (v0 (ix2 a l)) 2 := by
  have e := field_of_byte (R := 64) (r := 16) (n := 4096) v0 bitcasts_S64x4096_w8_S16x4096_w32 bitcasts_S16x4096_w32_S64x4096_w8 rfl 4#32 2 (by decide) rfl a l
  rw [← wt_of_field _ 2 (by decide), ← e]
  unfold k1_pay5 k1_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 3 of the packed bytes. -/
theorem field1_3 (v0 : Vec Ideal S64x4096 .i8) (a : Fin 64) (l : Fin 4096) :
    k1_pay1 (F := Ideal) (k1_pay2 v0) 6#32 (ix3 0 a l) = wt (v0 (ix2 a l)) 3 := by
  have e := field_of_byte (R := 64) (r := 16) (n := 4096) v0 bitcasts_S64x4096_w8_S16x4096_w32 bitcasts_S16x4096_w32_S64x4096_w8 rfl 6#32 3 (by decide) rfl a l
  rw [← wt_of_field _ 3 (by decide), ← e]
  unfold k1_pay1 k1_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 0 of the packed bytes. -/
theorem field2_0 (v0 : Vec Ideal S64x4096 .i8) (a : Fin 64) (l : Fin 4096) :
    k2_pay3 v0 (ix3 0 a l) = wt (v0 (ix2 a l)) 0 := by
  have e := field_of_byte (R := 64) (r := 16) (n := 4096) v0 bitcasts_S64x4096_w8_S16x4096_w32 bitcasts_S16x4096_w32_S64x4096_w8 rfl 0#32 0 (by decide) rfl a l
  rw [← wt_of_field _ 0 (by decide), ← e]
  unfold k2_pay3 k2_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 1 of the packed bytes. -/
theorem field2_1 (v0 : Vec Ideal S64x4096 .i8) (a : Fin 64) (l : Fin 4096) :
    k2_pay4 v0 (ix3 0 a l) = wt (v0 (ix2 a l)) 1 := by
  have e := field_of_byte (R := 64) (r := 16) (n := 4096) v0 bitcasts_S64x4096_w8_S16x4096_w32 bitcasts_S16x4096_w32_S64x4096_w8 rfl 2#32 1 (by decide) rfl a l
  rw [← wt_of_field _ 1 (by decide), ← e]
  unfold k2_pay4 k2_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 2 of the packed bytes. -/
theorem field2_2 (v0 : Vec Ideal S64x4096 .i8) (a : Fin 64) (l : Fin 4096) :
    k2_pay5 v0 (ix3 0 a l) = wt (v0 (ix2 a l)) 2 := by
  have e := field_of_byte (R := 64) (r := 16) (n := 4096) v0 bitcasts_S64x4096_w8_S16x4096_w32 bitcasts_S16x4096_w32_S64x4096_w8 rfl 4#32 2 (by decide) rfl a l
  rw [← wt_of_field _ 2 (by decide), ← e]
  unfold k2_pay5 k2_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

/-- Field 3 of the packed bytes. -/
theorem field2_3 (v0 : Vec Ideal S64x4096 .i8) (a : Fin 64) (l : Fin 4096) :
    k2_pay1 (F := Ideal) (k2_pay2 v0) 6#32 (ix3 0 a l) = wt (v0 (ix2 a l)) 3 := by
  have e := field_of_byte (R := 64) (r := 16) (n := 4096) v0 bitcasts_S64x4096_w8_S16x4096_w32 bitcasts_S16x4096_w32_S64x4096_w8 rfl 6#32 3 (by decide) rfl a l
  rw [← wt_of_field _ 3 (by decide), ← e]
  unfold k2_pay1 k2_pay2
  generalize bitcast S64x4096 8 _ bitcasts_S16x4096_w32_S64x4096_w8 = z
  have es : ∀ q : FVec Ideal S64x4096 .bf16, shapeCast S1x64x4096 q shapeCasts_S64x4096_S1x64x4096 (ix3 0 a l) = q (ix2 a l) := by
    intro q; pointwise
  exact es _

end Cert.FrontUnpack
-- ==== Proof.Front.Val0.lean ====
/-
  What the region that unpacks the query weights leaves in its array: every field of every packed byte.
-/
module

public import proofs.«01_k».proof.Proof.Front.UnpackK
public import proofs.«01_k».proof.Proof.Front.Region0

@[expose] public section

set_option maxRecDepth 16384

noncomputable section

namespace Cert.FrontVal

open Idealize.ShloMosaic Idealize.ShloMosaic.TcCoe Idealize.ShloMosaic.Pipeline Cert.Rows
open Cert.FrontIdeal Cert.FrontIdeal.Gen
open Cert.FrontUnpack

variable (V : (c : Dev nD) → (b : Ref sig .tc) → Buf (Elt Ideal) ((c : Thread nD τ).loc b))

theorem idx0_0 : ∀ t : Fin cfg0.N, win0_0.index t = ![(grid0.coords t 0).val, 0] := (by decide +kernel : ∀ t : Fin grid0.N, _)
theorem idx0_1 : ∀ t : Fin cfg0.N, win0_1.index t = ![0, (grid0.coords t 0).val, 0] := (by decide +kernel : ∀ t : Fin grid0.N, _)

/-- The block's four fields. -/
theorem block0 (x0 : Vec Ideal S64x4096 .i8) (j : Fin 4) (a : Fin 64) (l : Fin 4096) :
    out0_1 (F := Ideal) x0 (ix3 j a l) = wt (x0 (ix2 a l)) j.val := by
  unfold out0_1
  canon_tiles x h using Gen.cover0_1 ..
  all_goals
    change (j : ℕ) = _ at h0
    change (a : ℕ) = _ at h1
    change (l : ℕ) = _ at h2
    obtain rfl : x = ix3 0 a l := by
      refine (eq_ix3 x).trans ?_
      refine congr (congr (congrArg ix3 (Fin.ext ?_)) (Fin.ext h1.symm)) (Fin.ext h2.symm)
      exact Nat.lt_one_iff.mp x0_lt
    rw [show (j : ℕ) = _ from h0]
  · exact (field0_3 _ a l).trans (congrArg (wt · 3) (congrFun (View.ld_unit_zero (by funext a; fin_cases a <;> rfl) _ x0) _))
  · exact (field0_2 _ a l).trans (congrArg (wt · 2) (congrFun (View.ld_unit_zero (by funext a; fin_cases a <;> rfl) _ x0) _))
  · exact (field0_1 _ a l).trans (congrArg (wt · 1) (congrFun (View.ld_unit_zero (by funext a; fin_cases a <;> rfl) _ x0) _))
  · exact (field0_0 _ a l).trans (congrArg (wt · 0) (congrFun (View.ld_unit_zero (by funext a; fin_cases a <;> rfl) _ x0) _))

/-- The unpacked weights: field `j` of packed row `a` at index `(j, a, l)`. -/
theorem final0_1 (c : Dev nD) : (dat0 V c).arrAt 1 cfg0.N
    = unpackMat (R := 1024) (d := 4096) (V c main_arg4) := by
  refine (dat0 V c).arrAt_eq_of_covers 1 _ (by decide +kernel) fun t hf y => ?_
  blk_simp
  rw [after0_1]
  obtain ⟨j, a, l, rfl⟩ : ∃ j : Fin 4, ∃ a : Fin 64, ∃ l : Fin 4096, y = ix3 j a l := ⟨y 0, y 1, y 2, eq_ix3 y⟩
  refine (block0 _ j a l).trans ?_
  refine congr (congrArg wt ?_) ?_
  · blk_ext! [iblk0, idx0_0 t, idx0_1 t]
  · blk_simp [idx0_1 t]

end Cert.FrontVal
-- ==== Proof.Front.Val1.lean ====
/-
  What the region that unpacks the key weights leaves in its array: every field of every packed byte.
-/
module

public import proofs.«01_k».proof.Proof.Front.UnpackK
public import proofs.«01_k».proof.Proof.Front.Region1

@[expose] public section

set_option maxRecDepth 16384

noncomputable section

namespace Cert.FrontVal

open Idealize.ShloMosaic Idealize.ShloMosaic.TcCoe Idealize.ShloMosaic.Pipeline Cert.Rows
open Cert.FrontIdeal Cert.FrontIdeal.Gen
open Cert.FrontUnpack

variable (V : (c : Dev nD) → (b : Ref sig .tc) → Buf (Elt Ideal) ((c : Thread nD τ).loc b))

theorem idx1_0 : ∀ t : Fin cfg1.N, win1_0.index t = ![(grid1.coords t 0).val, 0] := (by decide +kernel : ∀ t : Fin grid1.N, _)
theorem idx1_1 : ∀ t : Fin cfg1.N, win1_1.index t = ![0, (grid1.coords t 0).val, 0] := (by decide +kernel : ∀ t : Fin grid1.N, _)

/-- The block's four fields. -/
theorem block1 (x0 : Vec Ideal S64x4096 .i8) (j : Fin 4) (a : Fin 64) (l : Fin 4096) :
    out1_1 (F := Ideal) x0 (ix3 j a l) = wt (x0 (ix2 a l)) j.val := by
  unfold out1_1
  canon_tiles x h using Gen.cover1_1 ..
  all_goals
    change (j : ℕ) = _ at h0
    change (a : ℕ) = _ at h1
    change (l : ℕ) = _ at h2
    obtain rfl : x = ix3 0 a l := by
      refine (eq_ix3 x).trans ?_
      refine congr (congr (congrArg ix3 (Fin.ext ?_)) (Fin.ext h1.symm)) (Fin.ext h2.symm)
      exact Nat.lt_one_iff.mp x0_lt
    rw [show (j : ℕ) = _ from h0]
  · exact (field1_3 _ a l).trans (congrArg (wt · 3) (congrFun (View.ld_unit_zero (by funext a; fin_cases a <;> rfl) _ x0) _))
  · exact (field1_2 _ a l).trans (congrArg (wt · 2) (congrFun (View.ld_unit_zero (by funext a; fin_cases a <;> rfl) _ x0) _))
  · exact (field1_1 _ a l).trans (congrArg (wt · 1) (congrFun (View.ld_unit_zero (by funext a; fin_cases a <;> rfl) _ x0) _))
  · exact (field1_0 _ a l).trans (congrArg (wt · 0) (congrFun (View.ld_unit_zero (by funext a; fin_cases a <;> rfl) _ x0) _))

/-- The unpacked weights: field `j` of packed row `a` at index `(j, a, l)`. -/
theorem final1_1 (c : Dev nD) : (dat1 V c).arrAt 1 cfg1.N
    = unpackMat (R := 256) (d := 4096) (V c main_arg5) := by
  refine (dat1 V c).arrAt_eq_of_covers 1 _ (by decide +kernel) fun t hf y => ?_
  blk_simp
  rw [after1_1]
  obtain ⟨j, a, l, rfl⟩ : ∃ j : Fin 4, ∃ a : Fin 64, ∃ l : Fin 4096, y = ix3 j a l := ⟨y 0, y 1, y 2, eq_ix3 y⟩
  refine (block1 _ j a l).trans ?_
  refine congr (congrArg wt ?_) ?_
  · blk_ext! [iblk1, idx1_0 t, idx1_1 t]
  · blk_simp [idx1_1 t]

end Cert.FrontVal
-- ==== Proof.Front.Val2.lean ====
/-
  What the region that unpacks the value weights leaves in its array: every field of every packed byte.
-/
module

public import proofs.«01_k».proof.Proof.Front.UnpackK
public import proofs.«01_k».proof.Proof.Front.Region2

@[expose] public section

set_option maxRecDepth 16384

noncomputable section

namespace Cert.FrontVal

open Idealize.ShloMosaic Idealize.ShloMosaic.TcCoe Idealize.ShloMosaic.Pipeline Cert.Rows
open Cert.FrontIdeal Cert.FrontIdeal.Gen
open Cert.FrontUnpack

variable (V : (c : Dev nD) → (b : Ref sig .tc) → Buf (Elt Ideal) ((c : Thread nD τ).loc b))

theorem idx2_0 : ∀ t : Fin cfg2.N, win2_0.index t = ![(grid2.coords t 0).val, 0] := (by decide +kernel : ∀ t : Fin grid2.N, _)
theorem idx2_1 : ∀ t : Fin cfg2.N, win2_1.index t = ![0, (grid2.coords t 0).val, 0] := (by decide +kernel : ∀ t : Fin grid2.N, _)

/-- The block's four fields. -/
theorem block2 (x0 : Vec Ideal S64x4096 .i8) (j : Fin 4) (a : Fin 64) (l : Fin 4096) :
    out2_1 (F := Ideal) x0 (ix3 j a l) = wt (x0 (ix2 a l)) j.val := by
  unfold out2_1
  canon_tiles x h using Gen.cover2_1 ..
  all_goals
    change (j : ℕ) = _ at h0
    change (a : ℕ) = _ at h1
    change (l : ℕ) = _ at h2
    obtain rfl : x = ix3 0 a l := by
      refine (eq_ix3 x).trans ?_
      refine congr (congr (congrArg ix3 (Fin.ext ?_)) (Fin.ext h1.symm)) (Fin.ext h2.symm)
      exact Nat.lt_one_iff.mp x0_lt
    rw [show (j : ℕ) = _ from h0]
  · exact (field2_3 _ a l).trans (congrArg (wt · 3) (congrFun (View.ld_unit_zero (by funext a; fin_cases a <;> rfl) _ x0) _))
  · exact (field2_2 _ a l).trans (congrArg (wt · 2) (congrFun (View.ld_unit_zero (by funext a; fin_cases a <;> rfl) _ x0) _))
  · exact (field2_1 _ a l).trans (congrArg (wt · 1) (congrFun (View.ld_unit_zero (by funext a; fin_cases a <;> rfl) _ x0) _))
  · exact (field2_0 _ a l).trans (congrArg (wt · 0) (congrFun (View.ld_unit_zero (by funext a; fin_cases a <;> rfl) _ x0) _))

/-- The unpacked weights: field `j` of packed row `a` at index `(j, a, l)`. -/
theorem final2_1 (c : Dev nD) : (dat2 V c).arrAt 1 cfg2.N
    = unpackMat (R := 256) (d := 4096) (V c main_arg6) := by
  refine (dat2 V c).arrAt_eq_of_covers 1 _ (by decide +kernel) fun t hf y => ?_
  blk_simp
  rw [after2_1]
  obtain ⟨j, a, l, rfl⟩ : ∃ j : Fin 4, ∃ a : Fin 64, ∃ l : Fin 4096, y = ix3 j a l := ⟨y 0, y 1, y 2, eq_ix3 y⟩
  refine (block2 _ j a l).trans ?_
  refine congr (congrArg wt ?_) ?_
  · blk_ext! [iblk2, idx2_0 t, idx2_1 t]
  · blk_simp [idx2_1 t]

end Cert.FrontVal
-- ==== Proof.Front.NormK.lean ====
/-
  The payloads of the input norm's kernel: the sum of squares gathered by sublane over the transposed rows, then the rows
  normalised and quantised.
-/
module

public import proofs.«01_k».proof.Proof.Rows
public import proofs.«01_k».proof.Proof.Front.Region3

@[expose] public section

set_option maxRecDepth 16384

noncomputable section

namespace Cert.FrontNorm

open Idealize.ShloMosaic Idealize.ShloMosaic.TcCoe Idealize.ShloMosaic.Pipeline Cert.Rows
open Cert.FrontIdeal Cert.FrontIdeal.Gen

section
variable {F : FTy → Type} [FloatOps F]

theorem off_eq : ∀ k : Fin k3_t1_loop.trips, k3_off1 k = ![64 * k.val, 0] := by decide +kernel

theorem row_lt (k : Fin k3_t1_loop.trips) (a : ℕ) (h : a < 64) : 64 * k.val + a < 4096 := by
  have h1 := k.isLt; have h2 : k3_t1_loop.trips ≤ 64 := k3_t1_abs.2.1; omega

/-- One trip of the loop adds eight slices of eight rows each. -/
theorem trip_eq (𝒱 : Variants) (c : Dev nD) (bd : Option 𝒱.V) (i : grid3.Coords) (arg1 : Memref sig .tc .vmem S256x4096 .bf16) (harg1 : arg1.IsWhole) (arg2 : Memref sig .tc .vmem S1x4096 .f32) (harg2 : arg2.IsWhole) (arg3 : Memref sig .tc .vmem S256x4096 .i8) (harg3 : arg3.IsWhole) (arg4 : Memref sig .tc .vmem S256x128 .f32) (harg4 : arg4.IsWhole)
    (z : FVec F S4096x256 .bf16) (k : Fin k3_t1_loop.trips) (acc : FVec F S8x256 .f32) :
    tripR_k3_t1 (F := F) 𝒱 c bd i arg1 harg1 arg2 harg2 arg3 harg3 arg4 harg4 scM3_0 (Memref.isWhole_whole _)
      ((View.whole cc3_scratch0).writes (Elt F) (View.whole cc3_scratch0).junk
        [⟨Rect.unit ![0, 0] ![4096, 256] inb_S4096x256_S4096x256_0_0, z⟩]) k acc
      = k3_pay6 acc (fun y => z (ix2 ⟨64 * k.val + (y 0).val, row_lt k _ (y 0).isLt⟩ (y 1))) := by
  unfold tripR_k3_t1 trip_k3_t1
  refine congrArg (k3_pay6 acc) (funext fun y => ?_)
  frame_out
  refine congrArg z (funext fun a => Fin.ext ?_)
  have e0 : k3_off1 k 0 = 64 * k.val := by rw [off_eq k]; rfl
  have e1 : k3_off1 k 1 = 0 := by rw [off_eq k]; rfl
  fin_cases a
  · show k3_off1 k 0 + 1 * (y 0).val = 64 * k.val + (y 0).val
    omega
  · show k3_off1 k 1 + 1 * (y 1).val = (y 1).val
    omega

theorem pay1_scale (v8 : FVec F S8x256 .f32) (x : Vec F S256x4096 .bf16) (g : Vec F S1x4096 .f32) (r : Fin 256) (q : Fin 1) :
    k3_pay1 (k3_pay8 v8 x g) (k3_pay9 v8 x g) (ix2 r q) = scaleOf (multiReduction .maximumf [1] S256 (absf (k3_pay7 v8 x g)) 0xFF800000#32
      reduces_S256x4096_S256 (.inl rfl) rfl (ix1 r)) := by
  unfold k3_pay9 k3_pay1 k3_pay8
  generalize k3_pay7 v8 x g = y
  rw [← castCol (multiReduction .maximumf [1] S256 (absf y) 0xFF800000#32 reduces_S256x4096_S256 (.inl rfl) rfl) shapeCasts_S256_S256x1 r q]
  rfl

theorem pay2_code (y : FVec F S256x4096 .f32) (m : FVec F S256x1 .f32) (b : IVec S256x1 1) (r : Fin 256) (k : Fin 4096) :
    k3_pay2 y m b (ix2 r k) = codeOf (y (ix2 r k)) (k3_pay1 m b (ix2 r 0)) := by
  unfold k3_pay2
  generalize k3_pay1 m b = s
  rw [← bcCol s broadcasts_S256x1_S256x4096 r k]
  rfl

theorem pay3_lanes (m : FVec F S256x1 .f32) (b : IVec S256x1 1) (r : Fin 256) (k : Fin 128) :
    k3_pay3 m b (ix2 r k) = k3_pay1 m b (ix2 r 0) := by
  unfold k3_pay3
  generalize k3_pay1 m b = s
  pointwise

end

/-- 1/4096 and 4096. -/
theorem bits_inv : Ideal.ofBits .f32 0x39800000#32 = ((1 / 4096 : ℝ) : EReal) := by
  simp [Ideal.ofBits, Ideal.ieee, -EReal.coe_mul, -EReal.coe_neg]; norm_num
theorem bits_4096 : Ideal.ofBits .f32 0x45800000#32 = ((4096 : ℝ) : EReal) := by
  simp [Ideal.ofBits, Ideal.ieee, -EReal.coe_mul, -EReal.coe_neg]; norm_num

/-- A sum over multiples of eight, gathered by remainder. -/
theorem sum_by_eight (f : ℕ → EReal) : ∀ n, ∑ j ∈ Finset.range (8 * n), f j
    = ∑ p ∈ Finset.range n, (f (8 * p) + f (8 * p + 1) + f (8 * p + 2) + f (8 * p + 3) + f (8 * p + 4) + f (8 * p + 5) + f (8 * p + 6) + f (8 * p + 7)) := by
  intro n
  induction n with
  | zero => simp
  | succ n ih =>
    rw [show 8 * (n + 1) = 8 * n + 1 + 1 + 1 + 1 + 1 + 1 + 1 + 1 from by ring]
    simp only [Finset.sum_range_succ, ih]
    simp only [add_assoc]

/-- One trip at an index: the eight squares of a sublane. -/
theorem pay6_at (acc : FVec Ideal S8x256 .f32) (v : Vec Ideal S64x256 .bf16) (s : Fin 8) (r : Fin 256) :
    k3_pay6 acc v (ix2 s r) = acc (ix2 s r) + (v (ix2 ⟨0 + s.val, by omega⟩ r) * v (ix2 ⟨0 + s.val, by omega⟩ r))
      + (v (ix2 ⟨8 + s.val, by omega⟩ r) * v (ix2 ⟨8 + s.val, by omega⟩ r)) + (v (ix2 ⟨16 + s.val, by omega⟩ r) * v (ix2 ⟨16 + s.val, by omega⟩ r))
      + (v (ix2 ⟨24 + s.val, by omega⟩ r) * v (ix2 ⟨24 + s.val, by omega⟩ r)) + (v (ix2 ⟨32 + s.val, by omega⟩ r) * v (ix2 ⟨32 + s.val, by omega⟩ r))
      + (v (ix2 ⟨40 + s.val, by omega⟩ r) * v (ix2 ⟨40 + s.val, by omega⟩ r)) + (v (ix2 ⟨48 + s.val, by omega⟩ r) * v (ix2 ⟨48 + s.val, by omega⟩ r))
      + (v (ix2 ⟨56 + s.val, by omega⟩ r) * v (ix2 ⟨56 + s.val, by omega⟩ r)) := by
  pointwise [k3_pay6]

/-- The square at position `n` of row `r`, 0 past the end. -/
def sq (x : Vec Ideal S256x4096 .bf16) (r : Fin 256) (n : ℕ) : EReal :=
  if h : n < 4096 then x (ix2 r ⟨n, h⟩) * x (ix2 r ⟨n, h⟩) else 0

theorem pay4_at (x : Vec Ideal S256x4096 .bf16) (n : Fin 4096) (r : Fin 256) : k3_pay4 x (ix2 n r) = x (ix2 r n) := by
  pointwise [k3_pay4]

/-- Before trip `k`, each sublane holds the squares of its positions below `64 k`. -/
theorem st_at (𝒱 : Variants) (c : Dev nD) (bd : Option 𝒱.V) (i : grid3.Coords) (arg1 : Memref sig .tc .vmem S256x4096 .bf16) (harg1 : arg1.IsWhole) (arg2 : Memref sig .tc .vmem S1x4096 .f32) (harg2 : arg2.IsWhole) (arg3 : Memref sig .tc .vmem S256x4096 .i8) (harg3 : arg3.IsWhole) (arg4 : Memref sig .tc .vmem S256x128 .f32) (harg4 : arg4.IsWhole)
    (x : Vec Ideal S256x4096 .bf16) (s : Fin 8) (r : Fin 256) : ∀ k, k ≤ k3_t1_loop.trips →
    st_k3_t1 (F := Ideal) 𝒱 c bd i arg1 harg1 arg2 harg2 arg3 harg3 arg4 harg4 scM3_0 (Memref.isWhole_whole _)
      ((View.whole cc3_scratch0).writes (Elt Ideal) (View.whole cc3_scratch0).junk
        [⟨Rect.unit ![0, 0] ![4096, 256] inb_S4096x256_S4096x256_0_0, k3_pay4 x⟩]) k3_pay5 k (ix2 s r)
      = ∑ p ∈ Finset.range (8 * k), sq x r (8 * p + s.val) := by
  intro k
  induction k with
  | zero =>
    intro _
    rw [st_k3_t1_zero]
    simp only [Nat.mul_zero, Finset.range_zero, Finset.sum_empty]
    pointwise [k3_pay5]
  | succ k ih =>
    intro hk
    have h2 : k3_t1_loop.trips ≤ 64 := k3_t1_abs.2.1
    rw [st_k3_t1_succ 𝒱 c bd i arg1 harg1 arg2 harg2 arg3 harg3 arg4 harg4 scM3_0 (Memref.isWhole_whole _) _ _ ⟨k, hk⟩, trip_eq, pay6_at, ih (by omega)]
    rw [show 8 * (k + 1) = 8 * k + 1 + 1 + 1 + 1 + 1 + 1 + 1 + 1 from by ring]
    simp only [Finset.sum_range_succ]
    have e : ∀ (j : ℕ) (hj : j < 8) (h : 64 * k + (8 * j + s.val) < 4096),
        k3_pay4 x (ix2 ⟨64 * k + (8 * j + s.val), h⟩ r) * k3_pay4 x (ix2 ⟨64 * k + (8 * j + s.val), h⟩ r) = sq x r (8 * (8 * k + j) + s.val) := by
      intro j hj h
      rw [pay4_at]
      unfold sq
      rw [dif_pos (by omega)]
      have : (⟨64 * k + (8 * j + s.val), h⟩ : Fin 4096) = ⟨8 * (8 * k + j) + s.val, by omega⟩ := Fin.ext (by show 64 * k + (8 * j + s.val) = 8 * (8 * k + j) + s.val; ring)
      rw [this]
    refine congr (congrArg _ (congr (congrArg _ (congr (congrArg _ (congr (congrArg _ (congr (congrArg _ (congr (congrArg _ (congr (congrArg _ (congr (congrArg _ rfl) ?_)) ?_)) ?_)) ?_)) ?_)) ?_)) ?_)) ?_
    · exact e 0 (by omega) _
    · exact e 1 (by omega) _
    · exact e 2 (by omega) _
    · exact e 3 (by omega) _
    · exact e 4 (by omega) _
    · exact e 5 (by omega) _
    · exact e 6 (by omega) _
    · exact e 7 (by omega) _

/-- The normalised rows, before the sublanes' sums are put together. -/
theorem pay7_at (v8 : FVec Ideal S8x256 .f32) (x : Vec Ideal S256x4096 .bf16) (g : Vec Ideal S1x4096 .f32) (r : Fin 256) (k : Fin 4096) :
    k3_pay7 v8 x g (ix2 r k) = Ideal.div (x (ix2 r k)) (Ideal.sqrt
      ((v8 (ix2 0 r) + v8 (ix2 4 r) + (v8 (ix2 2 r) + v8 (ix2 6 r)) + (v8 (ix2 1 r) + v8 (ix2 5 r) + (v8 (ix2 3 r) + v8 (ix2 7 r))))
        * Ideal.ofBits .f32 0x39800000#32 + Ideal.ofBits .f32 0x3727C5AC#32)) * g (ix2 0 k) := by
  pointwise [k3_pay7]

/-- The sublanes' sums together are the row's sum of squares. -/
theorem tree_sum (x : Vec Ideal S256x4096 .bf16) (r : Fin 256) (v8 : FVec Ideal S8x256 .f32)
    (h : ∀ s : Fin 8, v8 (ix2 s r) = ∑ p ∈ Finset.range 512, sq x r (8 * p + s.val)) :
    v8 (ix2 0 r) + v8 (ix2 4 r) + (v8 (ix2 2 r) + v8 (ix2 6 r)) + (v8 (ix2 1 r) + v8 (ix2 5 r) + (v8 (ix2 3 r) + v8 (ix2 7 r)))
      = ∑ j : Fin 4096, row (m := 256) (d := 4096) x r j * row (m := 256) (d := 4096) x r j := by
  have e : ∑ j : Fin 4096, row (m := 256) (d := 4096) x r j * row (m := 256) (d := 4096) x r j = ∑ j ∈ Finset.range 4096, sq x r j := by
    rw [Finset.sum_range]
    refine Finset.sum_congr rfl fun j _ => ?_
    unfold sq; rw [dif_pos j.isLt]
  rw [e, show 4096 = 8 * 512 from rfl, sum_by_eight]
  simp only [Finset.sum_add_distrib]
  rw [h 0, h 1, h 2, h 3, h 4, h 5, h 6, h 7]
  simp only [Fin.val_zero, Fin.isValue, add_zero]
  generalize ∑ p ∈ Finset.range 512, sq x r (8 * p) = a0
  change a0 + _ + (_ + _) + (_ + _ + (_ + _)) = _
  ac_rfl

/-- The normalised rows of the block. -/
theorem norm_at (v8 : FVec Ideal S8x256 .f32) (x : Vec Ideal S256x4096 .bf16) (g : Vec Ideal S1x4096 .f32) (r : Fin 256)
    (h : ∀ s : Fin 8, v8 (ix2 s r) = ∑ p ∈ Finset.range 512, sq x r (8 * p + s.val)) (k : Fin 4096) :
    k3_pay7 v8 x g (ix2 r k) = normed (Ideal.ofBits .f32 0x45800000#32) (row (m := 256) (d := 4096) x r) (row (m := 1) (d := 4096) g 0) k := by
  rw [pay7_at, tree_sum x r v8 h]
  unfold normed
  rw [bits_4096, bits_inv, Ideal.div_coe (by norm_num : (4096 : ℝ) ≠ 0)]

/-- The scale of each row of the block. -/
theorem scale_at (v8 : FVec Ideal S8x256 .f32) (x : Vec Ideal S256x4096 .bf16) (g : Vec Ideal S1x4096 .f32) (r : Fin 256)
    (h : ∀ s : Fin 8, v8 (ix2 s r) = ∑ p ∈ Finset.range 512, sq x r (8 * p + s.val)) (q : Fin 1) :
    k3_pay1 (k3_pay8 v8 x g) (k3_pay9 v8 x g) (ix2 r q) = scale (Ideal.ofBits .f32 0x45800000#32) (row (m := 256) (d := 4096) x r) (row (m := 1) (d := 4096) g 0) := by
  rw [pay1_scale]
  refine (congrArg (scaleOf (F := Ideal)) (maxRed _ _ _ _ r)).trans ?_
  refine congrArg (scaleOf (F := Ideal)) (congrArg (Finset.fold max _ · Finset.univ) (funext fun k => ?_))
  exact congrArg (FloatOps.absf (F := Ideal)) (norm_at v8 x g r h k)

/-- The codes of each row of the block. -/
theorem code_at (v8 : FVec Ideal S8x256 .f32) (x : Vec Ideal S256x4096 .bf16) (g : Vec Ideal S1x4096 .f32) (r : Fin 256)
    (h : ∀ s : Fin 8, v8 (ix2 s r) = ∑ p ∈ Finset.range 512, sq x r (8 * p + s.val)) (k : Fin 4096) :
    k3_pay2 (k3_pay7 v8 x g) (k3_pay8 v8 x g) (k3_pay9 v8 x g) (ix2 r k)
      = code (Ideal.ofBits .f32 0x45800000#32) (row (m := 256) (d := 4096) x r) (row (m := 1) (d := 4096) g 0) k := by
  rw [pay2_code, norm_at v8 x g r h, scale_at v8 x g r h]
  rfl

end Cert.FrontNorm
-- ==== Proof.Front.Val3.lean ====
/-
  What the region of the input norm leaves in its two arrays: the codes and the scales of the normalised rows.
-/
module

public import proofs.«01_k».proof.Proof.Front.NormK

@[expose] public section

set_option maxRecDepth 16384

noncomputable section

namespace Cert.FrontVal

open Idealize.ShloMosaic Idealize.ShloMosaic.TcCoe Idealize.ShloMosaic.Pipeline Cert.Rows
open Cert.FrontIdeal Cert.FrontIdeal.Gen
open Cert.FrontNorm

variable (V : (c : Dev nD) → (b : Ref sig .tc) → Buf (Elt Ideal) ((c : Thread nD τ).loc b))

theorem idx3_0 : ∀ t : Fin cfg3.N, win3_0.index t = ![(grid3.coords t 0).val, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![(grid3.coords t 0).val, 0] := (by decide +kernel : ∀ t : Fin grid3.N, _)
theorem idx3_3 : ∀ t : Fin cfg3.N, win3_3.index t = ![(grid3.coords t 0).val, 0] := (by decide +kernel : ∀ t : Fin grid3.N, _)
theorem trips_64 : Scf.trips (0#32) (Scalar.addi 0#32 64#32) 1#32 = 64 := by decide +kernel
theorem trips_le : 64 ≤ k3_t1_loop.trips := by decide +kernel

/-- The codes: each row normalised and quantised. -/
theorem final3_2 (c : Dev nD) : (dat3 V c).arrAt 2 cfg3.N
    = codeMat (m := 9216) (d := 4096) (Ideal.ofBits .f32 0x45800000#32) (V c main_v6) (row (m := 1) (d := 4096) (V c main_v7) 0) := by
  refine (dat3 V c).arrAt_eq_of_covers 2 _ (by decide +kernel) fun t hf y => ?_
  blk_simp
  rw [after3_2]
  unfold outsAt3 out3_A_2 kernelRun3_A
  frame_out
  rw [trips_64]
  obtain ⟨r, k, rfl⟩ : ∃ r : Fin 256, ∃ k : Fin 4096, y = ix2 r k := ⟨y 0, y 1, eq_ix2 y⟩
  refine (code_at _ _ _ r (fun s => st_at _ _ _ _ _ _ _ _ _ _ _ _ _ s r 64 trips_le) k).trans ?_
  refine congr (congr (congrArg (code _) (funext fun x => ?_)) (funext fun x => ?_)) (Fin.ext ?_)
  · blk_ext! [iblk3, row, idx3_0 t, idx3_2 t]
  · blk_ext! [iblk3, row, idx3_1 t]
  · blk_simp [idx3_2 t]

/-- The scales, the same in every lane of a row. -/
theorem final3_3 (c : Dev nD) : (dat3 V c).arrAt 3 cfg3.N
    = laneMat (m := 9216) (d := 4096) (Ideal.ofBits .f32 0x45800000#32) (V c main_v6) (row (m := 1) (d := 4096) (V c main_v7) 0) 128 := by
  refine (dat3 V c).arrAt_eq_of_covers 3 _ (by decide +kernel) fun t hf y => ?_
  blk_simp
  rw [after3_3]
  unfold outsAt3 out3_A_3 kernelRun3_A
  frame_out
  rw [trips_64]
  obtain ⟨r, k, rfl⟩ : ∃ r : Fin 256, ∃ k : Fin 128, y = ix2 r k := ⟨y 0, y 1, eq_ix2 y⟩
  refine ((pay3_lanes _ _ r k).trans (scale_at _ _ _ r (fun s => st_at _ _ _ _ _ _ _ _ _ _ _ _ _ s r 64 trips_le) 0)).trans ?_
  refine congr (congrArg (scale _) (funext fun x => ?_)) (funext fun x => ?_)
  · blk_ext! [iblk3, row, idx3_0 t, idx3_3 t]
  · blk_ext! [iblk3, row, idx3_1 t]

end Cert.FrontVal
-- ==== Proof.Front.QkvK.lean ====
/-
  The block of four heads that one grid point of the query/key/value kernel works on: its quantised product, the rotation, the codes and the scales.
-/
module

public import proofs.«01_k».proof.Proof.Front.Heads
public import proofs.«01_k».proof.Proof.Front.Region4Run

@[expose] public section

set_option maxRecDepth 16384

noncomputable section

namespace Cert.FrontQkv

open Idealize.ShloMosaic Idealize.ShloMosaic.TcCoe Idealize.ShloMosaic.Pipeline Cert.Rows
open Cert.FrontIdeal Cert.FrontIdeal.Gen
open Cert.Heads

section
variable {F : FTy → Type} [FloatOps F]

theorem slices_head : ∀ j : Fin 4, S1024x512.Slices ![0, 128 * j.val] S1024x128 := by decide +kernel

/-- Head `j` of the block. -/
def head (z : FVec F S1024x512 .f32) (j : Fin 4) : FVec F S1024x128 .f32 :=
  extractStridedSlice S1024x128 ![0, 128 * j.val] z (slices_head j)

/-- The head rotated by the positions. -/
def ropeHead (h : FVec F S1024x128 .f32) (cos sin : Vec F S1024x64 .f32) : FVec F S1024x128 .f32 :=
  let a : FVec F S1024x64 .f32 := extractStridedSlice S1024x64 ![0, 0] h slices_S1024x128_o0_0_S1024x64
  let b : FVec F S1024x64 .f32 := extractStridedSlice S1024x64 ![0, 64] h slices_S1024x128_o0_64_S1024x64
  let c : FVec F S1024x64 .f32 := shapeCast S1024x64 cos shapeCasts_S1024x64_S1024x64
  let s : FVec F S1024x64 .f32 := shapeCast S1024x64 sin shapeCasts_S1024x64_S1024x64
  concatenate S1024x128 1 [⟨S1024x64, subf (mulf a c) (mulf b s)⟩, ⟨S1024x64, addf (mulf b c) (mulf a s)⟩] concatenates_S1024x64_S1024x64_S1024x128_d1

/-- The largest absolute value of each row of a head. -/
def maxCol (y : FVec F S1024x128 .f32) : FVec F S1024x1 .f32 :=
  shapeCast S1024x1 (multiReduction .maximumf [1] S1024 (absf y) 0xFF800000#32 reduces_S1024x128_S1024 (.inl rfl) rfl) shapeCasts_S1024_S1024x1

/-- The scale of each row of a head. -/
def scaleCol (y : FVec F S1024x128 .f32) : FVec F S1024x1 .f32 :=
  select (cmpf .oeq (maxCol y) (broadcast S1024x1 (Scalar.ofBits .f32 0x00000000#32))) (broadcast S1024x1 (Scalar.ofBits .f32 0x3F800000#32))
    (divf (maxCol y) (broadcast S1024x1 (Scalar.ofBits .f32 0x42FE0000#32)))

/-- The codes of a head. -/
def codes (y : FVec F S1024x128 .f32) : IVec S1024x128 8 := k4_pay24 y (scaleCol y)

/-- A head's scale put into the lane of its number. -/
def mark (n j : BitVec 32) (s : FVec F S1024x1 .f32) (p : Vec F S1024x128 .f32) : FVec F S1024x128 .f32 :=
  select (cmpi .eq (iota .tc S1024x128 32 [1] iota_S1024x128_d1_w32) (broadcast S1024x128 (Scalar.addi (Scalar.muli n 4#32) j)))
    (broadcastTo S1024x128 (shapeCast S1024x1 s shapeCasts_S1024x1_S1024x1) broadcasts_S1024x1_S1024x128) (shapeCast S1024x128 p shapeCasts_S1024x128_S1024x128)

/-- The block of codes, head by head. -/
def codeTiles (y : Fin 4 → FVec F S1024x128 .f32) : Vec F S1024x512 .i8 :=
  View.canon [⟨Rect.unit ![0, 384] ![1024, 128] inb_S1024x512_S1024x128_0_384, codes (y 3)⟩,
    ⟨Rect.unit ![0, 256] ![1024, 128] inb_S1024x512_S1024x128_0_256, codes (y 2)⟩,
    ⟨Rect.unit ![0, 128] ![1024, 128] inb_S1024x512_S1024x128_0_128, codes (y 1)⟩,
    ⟨Rect.unit ![0, 0] ![1024, 128] inb_S1024x512_S1024x128_0_0, codes (y 0)⟩]

/-- The four heads' scales put into their lanes. -/
def marks (n : BitVec 32) (y : Fin 4 → FVec F S1024x128 .f32) (p : Vec F S1024x128 .f32) : FVec F S1024x128 .f32 :=
  mark n 3#32 (scaleCol (y 3)) (mark n 2#32 (scaleCol (y 2)) (mark n 1#32 (scaleCol (y 1)) (mark n 0#32 (scaleCol (y 0)) p)))

theorem scale_max (y : FVec F S1024x128 .f32) (r : Fin 1024) (q : Fin 1) :
    scaleCol y (ix2 r q) = scaleOf (multiReduction .maximumf [1] S1024 (absf y) 0xFF800000#32 reduces_S1024x128_S1024 (.inl rfl) rfl (ix1 r)) := by
  rw [← castCol (multiReduction .maximumf [1] S1024 (absf y) 0xFF800000#32 reduces_S1024x128_S1024 (.inl rfl) rfl) shapeCasts_S1024_S1024x1 r q]
  rfl

theorem codes_scale (y : FVec F S1024x128 .f32) (r : Fin 1024) (k : Fin 128) :
    codes y (ix2 r k) = codeOf (y (ix2 r k)) (scaleCol y (ix2 r 0)) := by
  unfold codes k4_pay24
  generalize scaleCol y = s
  rw [← bcCol s broadcasts_S1024x1_S1024x128 r k]
  rfl

end

theorem scaleCol_at (y : FVec Ideal S1024x128 .f32) (r : Fin 1024) (q : Fin 1) :
    scaleCol y (ix2 r q) = headScale (row (m := 1024) (d := 128) y r) := by
  rw [scale_max]
  exact congrArg (scaleOf (F := Ideal)) (maxRed (absf y) _ _ _ r)

theorem codes_at (y : FVec Ideal S1024x128 .f32) (r : Fin 1024) (k : Fin 128) :
    codes y (ix2 r k) = headCode (row (m := 1024) (d := 128) y r) k := by
  rw [codes_scale, scaleCol_at]
  rfl

theorem prod_at (ws : Elt Ideal .f32) (a : Vec Ideal S1024x4096 .i8) (w : Vec Ideal S512x4096 .bf16) (s : Vec Ideal S1024x1 .f32)
    (r : Fin 1024) (q : Fin 512) : k4_pay11 ws a w s (ix2 r q) = lin (row a r) (row w q) (s (ix2 r 0)) ws := by
  unfold lin dot row
  pointwise [k4_pay11]

theorem head_at (z : FVec Ideal S1024x512 .f32) (j : Fin 4) (r : Fin 1024) (k : Fin 128) :
    head z j (ix2 r k) = z (ix2 r ⟨128 * j.val + k.val, by omega⟩) := by
  unfold head
  pointwise

theorem rope_at (h : FVec Ideal S1024x128 .f32) (c s : Vec Ideal S1024x64 .f32) (r : Fin 1024) (k : Fin 128) :
    ropeHead h c s (ix2 r k) = roped (row (m := 1024) (d := 128) h r) (row (m := 1024) (d := 64) c r) (row (m := 1024) (d := 64) s r) k := by
  unfold roped row
  pointwise [ropeHead]
  refine dite_congr rfl (fun hk => rfl) fun hk => ?_
  exact congrArg (fun q => h (ix2 r q) * _ + _) (Fin.ext (by show 64 + (k.val - 64) = k.val; omega))

theorem tiles_at (y : Fin 4 → FVec Ideal S1024x128 .f32) (r : Fin 1024) (j : Fin 4) (k : Fin 128) :
    codeTiles y (ix2 r ⟨128 * j.val + k.val, by omega⟩) = headCode (row (m := 1024) (d := 128) (y j) r) k := by
  unfold codeTiles
  canon_tiles x h
  all_goals
    change r.val = _ at h0
    change 128 * j.val + k.val = _ at h1
    have hk := k.isLt
    have hx : x = ix2 r k := (eq_ix2 x).trans (congr (congrArg ix2 (Fin.ext h0.symm)) (Fin.ext (by show (x 1).val = k.val; omega)))
    subst hx
  · obtain rfl : j = 3 := Fin.ext (by show j.val = 3; omega)
    exact codes_at _ r k
  · obtain rfl : j = 2 := Fin.ext (by show j.val = 2; omega)
    exact codes_at _ r k
  · obtain rfl : j = 1 := Fin.ext (by show j.val = 1; omega)
    exact codes_at _ r k
  · obtain rfl : j = 0 := Fin.ext (by show j.val = 0; omega)
    exact codes_at _ r k

theorem sel_eq {α : Type} (a b : BitVec 32) (x y : α) (q : Prop) [Decidable q] (e : a = b ↔ q) :
    Scalar.select (IntOp.cmpi .eq a b) x y = if q then x else y := by
  by_cases h : q
  · rw [if_pos h, e.mpr h]
    simp [Scalar.select, IntOp.cmpi]
  · have hne : ¬ a = b := mt e.mp h
    have hb : (a == b) = false := beq_eq_false_iff_ne.mpr hne
    rw [if_neg h]
    show (if BitVec.ofBool (a == b) = 1#1 then x else y) = y
    rw [hb]
    exact if_neg (by decide)

theorem mark_at (n : ℕ) (hn : n < 12) (j : Fin 4) (s : FVec Ideal S1024x1 .f32) (p : Vec Ideal S1024x128 .f32) (r : Fin 1024) (l : Fin 128) :
    mark (BitVec.ofNat 32 n) (BitVec.ofNat 32 j.val) s p (ix2 r l) = if l.val = 4 * n + j.val then s (ix2 r 0) else p (ix2 r l) := by
  pointwise [mark]
  have e : (BitVec.ofNat 32 l.val = Scalar.addi (Scalar.muli (BitVec.ofNat 32 n) 4#32) (BitVec.ofNat 32 j.val)) ↔ l.val = 4 * n + j.val := by
    have hl := l.isLt
    have hj := j.isLt
    rw [← BitVec.toNat_inj]
    simp only [Scalar.addi, Scalar.muli, IntOp.addi, IntOp.muli, BitVec.toNat_add, BitVec.toNat_mul, BitVec.toNat_ofNat]
    omega
  exact sel_eq _ _ _ _ _ e

theorem marks_at (n : ℕ) (hn : n < 12) (y : Fin 4 → FVec Ideal S1024x128 .f32) (p : Vec Ideal S1024x128 .f32) (r : Fin 1024) (l : Fin 128) :
    marks (BitVec.ofNat 32 n) y p (ix2 r l)
      = if l.val / 4 = n then headScale (row (m := 1024) (d := 128) (y ⟨l.val % 4, Nat.mod_lt _ (by decide)⟩) r) else p (ix2 r l) := by
  unfold marks
  rw [show (3#32) = BitVec.ofNat 32 (3 : Fin 4).val from rfl, show (2#32) = BitVec.ofNat 32 (2 : Fin 4).val from rfl,
    show (1#32) = BitVec.ofNat 32 (1 : Fin 4).val from rfl, show (0#32) = BitVec.ofNat 32 (0 : Fin 4).val from rfl]
  rw [mark_at n hn 3, mark_at n hn 2, mark_at n hn 1, mark_at n hn 0]
  simp only [scaleCol_at]
  have e : ∀ j : Fin 4, l.val = 4 * n + j.val → (⟨l.val % 4, Nat.mod_lt _ (by decide)⟩ : Fin 4) = j := fun j h => Fin.ext (by
    have hj := j.isLt
    show l.val % 4 = j.val
    omega)
  by_cases h : l.val / 4 = n
  · rw [if_pos h]
    by_cases h3 : l.val = 4 * n + (3 : Fin 4).val
    · rw [if_pos h3, e 3 h3]
    rw [if_neg h3]
    by_cases h2 : l.val = 4 * n + (2 : Fin 4).val
    · rw [if_pos h2, e 2 h2]
    rw [if_neg h2]
    by_cases h1 : l.val = 4 * n + (1 : Fin 4).val
    · rw [if_pos h1, e 1 h1]
    rw [if_neg h1]
    have h0 : l.val = 4 * n + (0 : Fin 4).val := by
      change ¬ l.val = 4 * n + 3 at h3
      change ¬ l.val = 4 * n + 2 at h2
      change ¬ l.val = 4 * n + 1 at h1
      show l.val = 4 * n + 0
      omega
    rw [if_pos h0, e 0 h0]
  · rw [if_neg h]
    have g : ∀ j : Fin 4, ¬ l.val = 4 * n + j.val := fun j => by have hj := j.isLt; omega
    rw [if_neg (g 3), if_neg (g 2), if_neg (g 1), if_neg (g 0)]

end Cert.FrontQkv
-- ==== Proof.Front.QkvOut.lean ====
/-
  What the query/key/value kernel leaves at each grid point, in terms of the block of four heads.
-/
module

public import proofs.«01_k».proof.Proof.Front.QkvK

@[expose] public section

set_option maxRecDepth 16384

noncomputable section

namespace Cert.FrontQkv

open Idealize.ShloMosaic Idealize.ShloMosaic.TcCoe Idealize.ShloMosaic.Pipeline Cert.Rows
open Cert.FrontIdeal Cert.FrontIdeal.Gen
open Cert.Heads

variable {F : FTy → Type} [FloatOps F]
variable (c : Dev nD) (i : grid4.Coords)  (arg2 : Memref sig .tc .smem S3 .f32) (harg2 : arg2.IsWhole)
  (arg3 : Memref sig .tc .vmem S1024x4096 .i8) (harg3 : arg3.IsWhole)
  (arg4 : Memref sig .tc .vmem S1024x128 .f32) (harg4 : arg4.IsWhole)
  (arg5 : Memref sig .tc .vmem S1024x64 .f32) (harg5 : arg5.IsWhole)
  (arg6 : Memref sig .tc .vmem S1024x64 .f32) (harg6 : arg6.IsWhole)
  (arg7 : Memref sig .tc .vmem S512x4096 .bf16) (harg7 : arg7.IsWhole)
  (arg8 : Memref sig .tc .vmem S512x4096 .bf16) (harg8 : arg8.IsWhole)
  (arg9 : Memref sig .tc .vmem S512x4096 .bf16) (harg9 : arg9.IsWhole)
  (arg10 : Memref sig .tc .vmem S1024x512 .i8) (harg10 : arg10.IsWhole)
  (arg11 : Memref sig .tc .vmem S1024x512 .i8) (harg11 : arg11.IsWhole)
  (arg12 : Memref sig .tc .vmem S1024x512 .i8) (harg12 : arg12.IsWhole)
  (arg13 : Memref sig .tc .vmem S1024x512 .bf16) (harg13 : arg13.IsWhole)
  (arg14 : Memref sig .tc .vmem S1024x128 .f32) (harg14 : arg14.IsWhole)
variable (x0 : Vec F S3 .f32) (x1 : Vec F S1024x4096 .i8) (x2 : Vec F S1024x128 .f32) (x3 : Vec F S1024x64 .f32) (x4 : Vec F S1024x64 .f32) (x5 : Vec F S512x4096 .bf16) (x6 : Vec F S512x4096 .bf16) (x7 : Vec F S512x4096 .bf16) (xo12 : Vec F S1024x128 .f32)

/-- The quantised product of the point's codes with one block of weights. -/
def prod (ws : Elt F .f32) (x1 : Vec F S1024x4096 .i8) (x2 : Vec F S1024x128 .f32) (w : Vec F S512x4096 .bf16) : FVec F S1024x512 .f32 :=
  k4_pay11 ws x1 w (View.ld x2 (Rect.unit ![0, 0] ![1024, 1] inb_S1024x128_S1024x1_0_0))

/-- The heads of a query block. -/
def qHeads : Fin 4 → FVec F S1024x128 .f32 := fun j =>
  ropeHead (head (prod (View.ld x0 (Rect.unit ![0] ![1] inb_S3_S1_0) (Shape.Idx.first (by decide))) x1 x2 x5) j) x3 x4

/-- The heads of a key block. -/
def kHeads : Fin 4 → FVec F S1024x128 .f32 := fun j =>
  ropeHead (head (prod (View.ld x0 (Rect.unit ![1] ![1] inb_S3_S1_1) (Shape.Idx.first (by decide))) x1 x2 x6) j) x3 x4

/-- The heads of a value block: no rotation. -/
def vHeads : Fin 4 → FVec F S1024x128 .f32 := fun j =>
  head (prod (View.ld x0 (Rect.unit ![2] ![1] inb_S3_S1_2) (Shape.Idx.first (by decide))) x1 x2 x7) j

theorem codes_A (hc0 : cond4_0 i) (hc1 : cond4_1 i) (hc2 : ¬cond4_2 i) (hc3 : ¬cond4_3 i) :
    out4_A_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 = codeTiles (qHeads x0 x1 x2 x3 x4 x5) := by
  unfold out4_A_8 kernelRun4_A
  frame_out
  rfl

theorem marks_A (hc0 : cond4_0 i) (hc1 : cond4_1 i) (hc2 : ¬cond4_2 i) (hc3 : ¬cond4_3 i) :
    out4_A_12 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 = marks (BitVec.ofNat 32 (i 1).val) (qHeads x0 x1 x2 x3 x4 x5) k4_pay1 := by
  unfold out4_A_12 kernelRun4_A
  frame_out
  rfl

theorem codes_B (hc0 : ¬cond4_0 i) (hc1 : cond4_1 i) (hc2 : ¬cond4_2 i) (hc3 : ¬cond4_3 i) :
    out4_B_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12 = codeTiles (qHeads x0 x1 x2 x3 x4 x5) := by
  unfold out4_B_8 kernelRun4_B
  frame_out
  rfl

theorem marks_B (hc0 : ¬cond4_0 i) (hc1 : cond4_1 i) (hc2 : ¬cond4_2 i) (hc3 : ¬cond4_3 i) :
    out4_B_12 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12 = marks (BitVec.ofNat 32 (i 1).val) (qHeads x0 x1 x2 x3 x4 x5) xo12 := by
  unfold out4_B_12 kernelRun4_B
  frame_out
  rfl

theorem codes_C (hc0 : ¬cond4_0 i) (hc1 : ¬cond4_1 i) (hc2 : cond4_2 i) (hc3 : ¬cond4_3 i) :
    out4_C_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12 = codeTiles (kHeads x0 x1 x2 x3 x4 x6) := by
  unfold out4_C_9 kernelRun4_C
  frame_out
  rfl

theorem marks_C (hc0 : ¬cond4_0 i) (hc1 : ¬cond4_1 i) (hc2 : cond4_2 i) (hc3 : ¬cond4_3 i) :
    out4_C_12 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12 = marks (BitVec.ofNat 32 (i 1).val) (kHeads x0 x1 x2 x3 x4 x6) xo12 := by
  unfold out4_C_12 kernelRun4_C
  frame_out
  rfl

theorem codes_D (hc0 : ¬cond4_0 i) (hc1 : ¬cond4_1 i) (hc2 : ¬cond4_2 i) (hc3 : cond4_3 i) :
    out4_D_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12 = codeTiles (vHeads x0 x1 x2 x7) := by
  unfold out4_D_10 kernelRun4_D
  frame_out
  rfl

theorem marks_D (hc0 : ¬cond4_0 i) (hc1 : ¬cond4_1 i) (hc2 : ¬cond4_2 i) (hc3 : cond4_3 i) :
    out4_D_12 c i arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 xo12 = marks (BitVec.ofNat 32 (i 1).val) (vHeads x0 x1 x2 x7) xo12 := by
  unfold out4_D_12 kernelRun4_D
  frame_out
  rfl

end Cert.FrontQkv
-- ==== Proof.Front.Val4.lean ====
/-
  The arrays of the query/key/value kernel at its end: codes of the query, key and value heads, and the scale of every head.
-/
module

public import proofs.«01_k».proof.Proof.Front.QkvOut
public import proofs.«01_k».proof.Proof.Front.Region4

@[expose] public section

set_option maxRecDepth 16384

noncomputable section

namespace Cert.FrontVal

open Idealize.ShloMosaic Idealize.ShloMosaic.TcCoe Idealize.ShloMosaic.Pipeline Cert.Rows
open Cert.FrontIdeal Cert.FrontIdeal.Gen
open Cert.Heads Cert.FrontQkv

variable (V : (c : Dev nD) → (b : Ref sig .tc) → Buf (Elt Ideal) ((c : Thread nD τ).loc b))

theorem idx4_0 : ∀ t : Fin cfg4.N, win4_0.index t = ![0] := (by decide +kernel : ∀ t : Fin grid4.N, _)
theorem idx4_1 : ∀ t : Fin cfg4.N, win4_1.index t = ![t.val / 12, 0] := (by decide +kernel : ∀ t : Fin grid4.N, _)
theorem idx4_2 : ∀ t : Fin cfg4.N, win4_2.index t = ![t.val / 12, 0] := (by decide +kernel : ∀ t : Fin grid4.N, _)
theorem idx4_3 : ∀ t : Fin cfg4.N, win4_3.index t = ![t.val / 12, 0] := (by decide +kernel : ∀ t : Fin grid4.N, _)
theorem idx4_4 : ∀ t : Fin cfg4.N, win4_4.index t = ![t.val / 12, 0] := (by decide +kernel : ∀ t : Fin grid4.N, _)
theorem idx4_5 : ∀ t : Fin cfg4.N, win4_5.index t = ![min (t.val % 12) 7, 0] := (by decide +kernel : ∀ t : Fin grid4.N, _)
theorem idx4_6 : ∀ t : Fin cfg4.N, win4_6.index t = ![min (t.val % 12) 9 - 8, 0] := (by decide +kernel : ∀ t : Fin grid4.N, _)
theorem idx4_7 : ∀ t : Fin cfg4.N, win4_7.index t = ![t.val % 12 - 10, 0] := (by decide +kernel : ∀ t : Fin grid4.N, _)
theorem idx4_8 : ∀ t : Fin cfg4.N, win4_8.index t = ![t.val / 12, min (t.val % 12) 7] := (by decide +kernel : ∀ t : Fin grid4.N, _)
theorem idx4_9 : ∀ t : Fin cfg4.N, win4_9.index t = ![t.val / 12, min (t.val % 12) 9 - 8] := (by decide +kernel : ∀ t : Fin grid4.N, _)
theorem idx4_10 : ∀ t : Fin cfg4.N, win4_10.index t = ![t.val / 12, t.val % 12 - 10] := (by decide +kernel : ∀ t : Fin grid4.N, _)
theorem idx4_12 : ∀ t : Fin cfg4.N, win4_12.index t = ![t.val / 12, 0] := (by decide +kernel : ∀ t : Fin grid4.N, _)
theorem coord4 : ∀ t : Fin cfg4.N, (grid4.coords t 1).val = t.val % 12 := (by decide +kernel : ∀ t : Fin grid4.N, _)
theorem flush4_9 : ∀ t : Fin cfg4.N, (cfg4.win 9).flush t = true → 8 ≤ t.val % 12 := by decide +kernel
theorem flush4_10 : ∀ t : Fin cfg4.N, (cfg4.win 10).flush t = true → 10 ≤ t.val % 12 := by decide +kernel
theorem flush4_12 : ∀ t : Fin cfg4.N, (cfg4.win 12).flush t = true → t.val % 12 = 11 := by decide +kernel

theorem lt_108 (t : Fin cfg4.N) : t.val < 108 := lt_of_lt_of_eq t.isLt (show cfg4.N = 108 from N_4)

/-- The row of the whole array that row `r` of point `t`'s block is. -/
def rowOf (t : Fin cfg4.N) (r : Fin 1024) : Fin 9216 := ⟨t.val / 12 * 1024 + r.val, by have := lt_108 t; omega⟩

/-! ## Blocks of the inputs -/

theorem blk_codes (c : Dev nD) (t : Fin cfg4.N) (r : Fin 1024) (x : Fin 4096) :
    (iblk4 V c 1 t : S1024x4096.Idx → BitVec 8) (ix2 r x) = (V c main_v8_0 : S9216x4096.Idx → BitVec 8) (ix2 (rowOf t r) x) := by
  unfold rowOf
  blk_ext! [iblk4, idx4_1 t]
theorem blk_scale (c : Dev nD) (t : Fin cfg4.N) (r : Fin 1024) (x : Fin 128) :
    (iblk4 V c 2 t : S1024x128.Idx → EReal) (ix2 r x) = (V c main_v8_1 : S9216x128.Idx → EReal) (ix2 (rowOf t r) x) := by
  unfold rowOf
  blk_ext! [iblk4, idx4_2 t]
theorem blk_cos (c : Dev nD) (t : Fin cfg4.N) (r : Fin 1024) (x : Fin 64) :
    (iblk4 V c 3 t : S1024x64.Idx → EReal) (ix2 r x) = (V c main_v9 : S9216x64.Idx → EReal) (ix2 (rowOf t r) x) := by
  unfold rowOf
  blk_ext! [iblk4, idx4_3 t]
theorem blk_sin (c : Dev nD) (t : Fin cfg4.N) (r : Fin 1024) (x : Fin 64) :
    (iblk4 V c 4 t : S1024x64.Idx → EReal) (ix2 r x) = (V c main_v10 : S9216x64.Idx → EReal) (ix2 (rowOf t r) x) := by
  unfold rowOf
  blk_ext! [iblk4, idx4_4 t]
theorem blk_ws (c : Dev nD) (t : Fin cfg4.N) (x : Fin 3) :
    (iblk4 V c 0 t : S3.Idx → EReal) (ix1 x) = (V c main_v14 : S3.Idx → EReal) (ix1 x) := by
  blk_ext! [iblk4, idx4_0 t]
theorem blk_wq (c : Dev nD) (t : Fin cfg4.N) (q : Fin 512) (x : Fin 4096) :
    (iblk4 V c 5 t : S512x4096.Idx → EReal) (ix2 q x) = (V c main_v1 : S4096x4096.Idx → EReal) (ix2 ⟨min (t.val % 12) 7 * 512 + q.val, by omega⟩ x) := by
  blk_ext! [iblk4, idx4_5 t]
theorem blk_wk (c : Dev nD) (t : Fin cfg4.N) (q : Fin 512) (x : Fin 4096) :
    (iblk4 V c 6 t : S512x4096.Idx → EReal) (ix2 q x) = (V c main_v3 : S1024x4096.Idx → EReal) (ix2 ⟨(min (t.val % 12) 9 - 8) * 512 + q.val, by omega⟩ x) := by
  blk_ext! [iblk4, idx4_6 t]
theorem blk_wv (c : Dev nD) (t : Fin cfg4.N) (q : Fin 512) (x : Fin 4096) :
    (iblk4 V c 7 t : S512x4096.Idx → EReal) (ix2 q x) = (V c main_v5 : S1024x4096.Idx → EReal) (ix2 ⟨(t.val % 12 - 10) * 512 + q.val, by omega⟩ x) := by
  blk_ext! [iblk4, idx4_7 t]

/-! ## The heads of a row -/

variable (wq wk wv : ℕ → Fin 4096 → EReal)

/-- Query head `h` of row `R`. -/
def qh (c : Dev nD) (R : Fin 9216) (h : ℕ) : Fin 128 → EReal :=
  roped (headVec (row (m := 9216) (d := 4096) (V c main_v8_0) R) (row (m := 9216) (d := 128) (V c main_v8_1) R 0) wq ((V c main_v14 : S3.Idx → EReal) (ix1 0)) h)
    (row (m := 9216) (d := 64) (V c main_v9) R) (row (m := 9216) (d := 64) (V c main_v10) R)
/-- Key head `h` of row `R`. -/
def kh (c : Dev nD) (R : Fin 9216) (h : ℕ) : Fin 128 → EReal :=
  roped (headVec (row (m := 9216) (d := 4096) (V c main_v8_0) R) (row (m := 9216) (d := 128) (V c main_v8_1) R 0) wk ((V c main_v14 : S3.Idx → EReal) (ix1 1)) h)
    (row (m := 9216) (d := 64) (V c main_v9) R) (row (m := 9216) (d := 64) (V c main_v10) R)
/-- Value head `h` of row `R`. -/
def vh (c : Dev nD) (R : Fin 9216) (h : ℕ) : Fin 128 → EReal :=
  headVec (row (m := 9216) (d := 4096) (V c main_v8_0) R) (row (m := 9216) (d := 128) (V c main_v8_1) R 0) wv ((V c main_v14 : S3.Idx → EReal) (ix1 2)) h
/-- Head `h` of row `R`, of all 48: 32 query heads, 8 key heads, 8 value heads. -/
def anyh (c : Dev nD) (R : Fin 9216) (h : ℕ) : Fin 128 → EReal :=
  if h < 32 then qh V wq c R h else if h < 40 then kh V wk c R (h - 32) else vh V wv c R (h - 40)

/-- A head of the product at a point, from the whole arrays. -/
theorem prod_pt (c : Dev nD) (t : Fin cfg4.N) (ws : EReal) (wb : Vec Ideal S512x4096 .bf16) (w : ℕ → Fin 4096 → EReal) (n : ℕ)
    (hw : ∀ (q : Fin 512) x, wb (ix2 q x) = w (512 * n + q.val) x) (j : Fin 4) (r : Fin 1024) :
    row (m := 1024) (d := 128) (head (prod (F := Ideal) ws (iblk4 V c 1 t) (iblk4 V c 2 t) wb) j) r
      = headVec (row (m := 9216) (d := 4096) (V c main_v8_0) (rowOf t r)) (row (m := 9216) (d := 128) (V c main_v8_1) (rowOf t r) 0) w ws (4 * n + j.val) := by
  refine funext fun k => ?_
  unfold row prod
  rw [head_at, prod_at]
  unfold headVec
  refine congr (congr (congr (congrArg lin (funext fun x => blk_codes V c t r x)) (funext fun x => ?_)) ?_) rfl
  · refine (hw _ x).trans ?_
    rw [show 512 * n + (128 * j.val + k.val) = 128 * (4 * n + j.val) + k.val from by ring]
  · refine Eq.trans ?_ (blk_scale V c t r 0)
    pointwise

theorem q_pt (c : Dev nD) (t : Fin cfg4.N) (h : t.val % 12 ≤ 7) (hw : ∀ n (hn : n < 4096) x, (V c main_v1 : S4096x4096.Idx → EReal) (ix2 ⟨n, hn⟩ x) = wq n x) (j : Fin 4) (r : Fin 1024) :
    row (m := 1024) (d := 128) (qHeads (F := Ideal) (iblk4 V c 0 t) (iblk4 V c 1 t) (iblk4 V c 2 t) (iblk4 V c 3 t) (iblk4 V c 4 t) (iblk4 V c 5 t) j) r
      = qh V wq c (rowOf t r) (4 * (t.val % 12) + j.val) := by
  refine funext fun k => ?_
  refine (rope_at _ _ _ r k).trans ?_
  unfold qh
  rw [prod_pt V c t _ _ wq (t.val % 12) (fun q x => ?_) j r]
  · refine congrFun (congr (congr (congrArg roped ?_) (funext fun x => blk_cos V c t r x)) (funext fun x => blk_sin V c t r x)) k
    refine congrFun (congrArg (headVec _ _ wq) ?_) _
    refine Eq.trans ?_ (blk_ws V c t 0)
    pointwise
  · rw [blk_wq, hw]
    congr 1
    rw [Nat.min_eq_left h, Nat.mul_comm]

theorem k_pt (c : Dev nD) (t : Fin cfg4.N) (h : 8 ≤ t.val % 12) (h' : t.val % 12 ≤ 9) (hw : ∀ n (hn : n < 1024) x, (V c main_v3 : S1024x4096.Idx → EReal) (ix2 ⟨n, hn⟩ x) = wk n x) (j : Fin 4) (r : Fin 1024) :
    row (m := 1024) (d := 128) (kHeads (F := Ideal) (iblk4 V c 0 t) (iblk4 V c 1 t) (iblk4 V c 2 t) (iblk4 V c 3 t) (iblk4 V c 4 t) (iblk4 V c 6 t) j) r
      = kh V wk c (rowOf t r) (4 * (t.val % 12 - 8) + j.val) := by
  refine funext fun k => ?_
  refine (rope_at _ _ _ r k).trans ?_
  unfold kh
  rw [prod_pt V c t _ _ wk (t.val % 12 - 8) (fun q x => ?_) j r]
  · refine congrFun (congr (congr (congrArg roped ?_) (funext fun x => blk_cos V c t r x)) (funext fun x => blk_sin V c t r x)) k
    refine congrFun (congrArg (headVec _ _ wk) ?_) _
    refine Eq.trans ?_ (blk_ws V c t 1)
    pointwise
  · rw [blk_wk, hw]
    congr 1
    rw [Nat.min_eq_left h', Nat.mul_comm]

theorem v_pt (c : Dev nD) (t : Fin cfg4.N) (hw : ∀ n (hn : n < 1024) x, (V c main_v5 : S1024x4096.Idx → EReal) (ix2 ⟨n, hn⟩ x) = wv n x) (j : Fin 4) (r : Fin 1024) :
    row (m := 1024) (d := 128) (vHeads (F := Ideal) (iblk4 V c 0 t) (iblk4 V c 1 t) (iblk4 V c 2 t) (iblk4 V c 7 t) j) r
      = vh V wv c (rowOf t r) (4 * (t.val % 12 - 10) + j.val) := by
  unfold vh vHeads
  rw [prod_pt V c t _ _ wv (t.val % 12 - 10) (fun q x => ?_) j r]
  · refine congrFun (congrArg (headVec _ _ wv) ?_) _
    refine Eq.trans ?_ (blk_ws V c t 2)
    pointwise
  · rw [blk_wv, hw]
    congr 1
    rw [Nat.mul_comm]

end Cert.FrontVal
-- ==== Proof.Front.Val4End.lean ====
/-
  The arrays of the query/key/value kernel at its end, from what each grid point leaves.
-/
module

public import proofs.«01_k».proof.Proof.Front.Val4

@[expose] public section

set_option maxRecDepth 16384

noncomputable section

namespace Cert.FrontVal

open Idealize.ShloMosaic Idealize.ShloMosaic.TcCoe Idealize.ShloMosaic.Pipeline Cert.Rows
open Cert.FrontIdeal Cert.FrontIdeal.Gen
open Cert.Heads Cert.FrontQkv

variable (V : (c : Dev nD) → (b : Ref sig .tc) → Buf (Elt Ideal) ((c : Thread nD τ).loc b))
variable (wq wk wv : ℕ → Fin 4096 → EReal) (c : Dev nD)

/-- The whole array of codes of heads of 128 columns each. -/
def codeHeads {n : ℕ} (y : Fin 9216 → ℕ → Fin 128 → EReal) : (Mat 9216 n).Idx → BitVec 8 :=
  fun i => headCode (y (i 0) ((i 1).val / 128)) ⟨(i 1).val % 128, Nat.mod_lt _ (by decide)⟩

theorem split_col (q : Fin 512) : ∃ j : Fin 4, ∃ k : Fin 128, q = ⟨128 * j.val + k.val, by omega⟩ :=
  ⟨⟨q.val / 128, by omega⟩, ⟨q.val % 128, by omega⟩, Fin.ext (by show q.val = 128 * (q.val / 128) + q.val % 128; omega)⟩

theorem codeHeads_at {n : ℕ} (y : Fin 9216 → ℕ → Fin 128 → EReal) (i : (Mat 9216 n).Idx) (R : Fin 9216) (b : ℕ) (j : Fin 4) (k : Fin 128)
    (h0 : (i 0).val = R.val) (h1 : (i 1).val = b * 512 + (128 * j.val + k.val)) : codeHeads y i = headCode (y R (4 * b + j.val)) k := by
  unfold codeHeads
  have hj := j.isLt
  have hk := k.isLt
  rw [show i 0 = R from Fin.ext h0, show (i 1).val / 128 = 4 * b + j.val from by omega]
  exact congrArg (headCode _) (Fin.ext (by show (i 1).val % 128 = k.val; omega))

/-- The whole array of scales: head `l` in lane `l`, zero past the last head. -/
def scaleLanes (y : Fin 9216 → ℕ → Fin 128 → EReal) : (Mat 9216 128).Idx → EReal :=
  fun i => if (i 1).val < 48 then headScale (y (i 0) (i 1).val) else 0

theorem scaleLanes_at (y : Fin 9216 → ℕ → Fin 128 → EReal) (i : (Mat 9216 128).Idx) (R : Fin 9216) (l : ℕ) (h0 : (i 0).val = R.val) (h1 : (i 1).val = l) :
    scaleLanes y i = if l / 4 ≤ 11 then headScale (y R l) else 0 := by
  unfold scaleLanes
  rw [show i 0 = R from Fin.ext h0, h1]
  by_cases hl : l < 48
  · rw [if_pos hl, if_pos (by omega)]
  · rw [if_neg hl, if_neg (by omega)]

theorem rowOf_pred (t : Fin cfg4.N) (r : Fin 1024) (h : t.val % 12 ≠ 0) :
    rowOf ⟨t.val - 1, Nat.lt_of_le_of_lt (Nat.sub_le _ _) t.isLt⟩ r = rowOf t r :=
  Fin.ext (by show (t.val - 1) / 12 * 1024 + r.val = t.val / 12 * 1024 + r.val; omega)

section
variable (hq : ∀ n (hn : n < 4096) x, (V c main_v1 : S4096x4096.Idx → EReal) (ix2 ⟨n, hn⟩ x) = wq n x)
variable (hk : ∀ n (hn : n < 1024) x, (V c main_v3 : S1024x4096.Idx → EReal) (ix2 ⟨n, hn⟩ x) = wk n x)
variable (hv : ∀ n (hn : n < 1024) x, (V c main_v5 : S1024x4096.Idx → EReal) (ix2 ⟨n, hn⟩ x) = wv n x)
include hq hk hv

/-! ## The codes of the query heads -/

include hq in
omit hk hv in
theorem left8 : ∀ (n : ℕ) (t : Fin cfg4.N), t.val % 12 = n → ∀ (r : Fin 1024) (j : Fin 4) (k : Fin 128),
    ((dat4 V c).after 8 t : S1024x512.Idx → BitVec 8) (ix2 r ⟨128 * j.val + k.val, by omega⟩) = headCode (qh V wq c (rowOf t r) (4 * min n 7 + j.val)) k := by
  intro n
  induction n with
  | zero =>
    intro t h r j k
    rw [after4_8, outsAt4_A V c t h (by omega) (by omega) (by omega)]
    dsimp only
    rw [codes_A, tiles_at, q_pt V wq c t (by omega) hq, h]
    rfl
  | succ n ih =>
    intro t h r j k
    by_cases h7 : t.val % 12 ≤ 7
    · rw [after4_8, outsAt4_B V c t (by omega) h7 (by omega) (by omega)]
      dsimp only
      rw [codes_B, tiles_at, q_pt V wq c t h7 hq, h, Nat.min_eq_left (by omega)]
    · rw [after4_8_keep V c t (by omega), ih _ (by show (t.val - 1) % 12 = n; omega) r j k, rowOf_pred t r (by omega),
        Nat.min_eq_right (by omega), Nat.min_eq_right (by omega)]

include hq in
omit hk hv in
/-- The codes of the query heads. -/
theorem final4_8 : (dat4 V c).arrAt 8 cfg4.N = codeHeads (n := 4096) (qh V wq c) := by
  refine (dat4 V c).arrAt_eq_of_covers 8 _ (by decide +kernel) fun t hf y => ?_
  blk_simp
  obtain ⟨r, q, rfl⟩ : ∃ r : Fin 1024, ∃ q : Fin 512, y = ix2 r q := ⟨y 0, y 1, eq_ix2 y⟩
  obtain ⟨j, k, rfl⟩ := split_col q
  refine (left8 V wq c hq _ t rfl r j k).trans (codeHeads_at _ _ _ _ j k ?_ ?_).symm
  · unfold rowOf; blk_simp [idx4_8 t]
  · blk_simp [idx4_8 t]

/-! ## The codes of the key heads -/

include hk in
omit hq hv in
theorem left9 : ∀ (n : ℕ) (t : Fin cfg4.N), t.val % 12 = 8 + n → ∀ (r : Fin 1024) (j : Fin 4) (k : Fin 128),
    ((dat4 V c).after 9 t : S1024x512.Idx → BitVec 8) (ix2 r ⟨128 * j.val + k.val, by omega⟩) = headCode (kh V wk c (rowOf t r) (4 * (min (t.val % 12) 9 - 8) + j.val)) k := by
  intro n
  induction n with
  | zero =>
    intro t h r j k
    rw [after4_9, outsAt4_C V c t (by omega) (by omega) (by omega) (by omega)]
    dsimp only
    rw [codes_C, tiles_at, k_pt V wk c t (by omega) (by omega) hk, Nat.min_eq_left (by omega)]
  | succ n ih =>
    intro t h r j k
    by_cases h9 : t.val % 12 ≤ 9
    · rw [after4_9, outsAt4_C V c t (by omega) (by omega) (by omega) (by omega)]
      dsimp only
      rw [codes_C, tiles_at, k_pt V wk c t (by omega) (by omega) hk, Nat.min_eq_left (by omega)]
    · rw [after4_9_keep V c t (by omega), ih _ (by show (t.val - 1) % 12 = 8 + n; omega) r j k, rowOf_pred t r (by omega)]
      have e : min ((t.val - 1) % 12) 9 = min (t.val % 12) 9 := by omega
      exact congrArg (fun b => headCode (kh V wk c (rowOf t r) (4 * (b - 8) + j.val)) k) e

include hk in
omit hq hv in
/-- The codes of the key heads. -/
theorem final4_9 : (dat4 V c).arrAt 9 cfg4.N = codeHeads (n := 1024) (kh V wk c) := by
  refine (dat4 V c).arrAt_eq_of_covers 9 _ (by decide +kernel) fun t hf y => ?_
  have h8 := flush4_9 t hf
  blk_simp
  obtain ⟨r, q, rfl⟩ : ∃ r : Fin 1024, ∃ q : Fin 512, y = ix2 r q := ⟨y 0, y 1, eq_ix2 y⟩
  obtain ⟨j, k, rfl⟩ := split_col q
  refine (left9 V wk c hk (t.val % 12 - 8) t (by omega) r j k).trans (codeHeads_at _ _ _ _ j k ?_ ?_).symm
  · unfold rowOf; blk_simp [idx4_9 t]
  · blk_simp [idx4_9 t]

/-! ## The codes of the value heads -/

include hv in
omit hq hk in
/-- The codes of the value heads. -/
theorem final4_10 : (dat4 V c).arrAt 10 cfg4.N = codeHeads (n := 1024) (vh V wv c) := by
  refine (dat4 V c).arrAt_eq_of_covers 10 _ (by decide +kernel) fun t hf y => ?_
  have h10 := flush4_10 t hf
  blk_simp
  obtain ⟨r, q, rfl⟩ : ∃ r : Fin 1024, ∃ q : Fin 512, y = ix2 r q := ⟨y 0, y 1, eq_ix2 y⟩
  obtain ⟨j, k, rfl⟩ := split_col q
  rw [after4_10, outsAt4_D V c t (by omega) (by omega) (by omega) (by omega)]
  dsimp only
  rw [codes_D, tiles_at, v_pt V wv c t hv]
  refine (codeHeads_at _ _ _ _ j k ?_ ?_).symm
  · unfold rowOf; blk_simp [idx4_10 t]
  · blk_simp [idx4_10 t]

/-! ## The scales -/

theorem left12 : ∀ (n : ℕ) (t : Fin cfg4.N), t.val % 12 = n → ∀ (r : Fin 1024) (l : Fin 128),
    ((dat4 V c).after 12 t : S1024x128.Idx → EReal) (ix2 r l)
      = if l.val / 4 ≤ n then headScale (anyh V wq wk wv c (rowOf t r) l.val) else 0 := by
  intro n
  induction n with
  | zero =>
    intro t h r l
    rw [after4_12, outsAt4_A V c t h (by omega) (by omega) (by omega)]
    dsimp only
    rw [marks_A, coord4 t, marks_at _ (by omega), h]
    by_cases hl : l.val / 4 = 0
    · rw [if_pos hl, if_pos (by omega), q_pt V wq c t (by omega) hq, h]
      unfold anyh
      rw [if_pos (by omega)]
      exact congrArg (fun b => headScale (qh V wq c (rowOf t r) b)) (by show 4 * 0 + l.val % 4 = l.val; omega)
    · rw [if_neg hl, if_neg (by omega)]
      pointwise [k4_pay1]
  | succ n ih =>
    intro t h r l
    have hp := ih ⟨t.val - 1, Nat.lt_of_le_of_lt (Nat.sub_le _ _) t.isLt⟩ (by show (t.val - 1) % 12 = n; omega) r l
    rw [rowOf_pred t r (by omega), after4_12] at hp
    rw [after4_12]
    have key : ∀ (y : Fin 4 → FVec Ideal S1024x128 .f32)
        (_ : l.val / 4 = n + 1 → row (m := 1024) (d := 128) (y ⟨l.val % 4, Nat.mod_lt _ (by decide)⟩) r = anyh V wq wk wv c (rowOf t r) l.val),
        marks (BitVec.ofNat 32 (grid4.coords t 1).val) y (outsAt4 V c (t.val - 1) (Nat.lt_of_le_of_lt (Nat.sub_le _ _) t.isLt)).2.2.2.2 (ix2 r l)
          = if l.val / 4 ≤ n + 1 then headScale (anyh V wq wk wv c (rowOf t r) l.val) else 0 := by
      intro y hy
      rw [coord4 t, marks_at _ (by omega), h]
      by_cases hl : l.val / 4 = n + 1
      · rw [if_pos hl, if_pos (by omega), hy hl]
      · rw [if_neg hl]
        refine hp.trans ?_
        by_cases hn : l.val / 4 ≤ n
        · rw [if_pos hn, if_pos (by omega)]
        · rw [if_neg hn, if_neg (by omega)]
    by_cases h7 : t.val % 12 ≤ 7
    · rw [outsAt4_B V c t (by omega) h7 (by omega) (by omega)]
      dsimp only
      rw [marks_B]
      refine key _ fun hl => ?_
      rw [q_pt V wq c t h7 hq, h]
      unfold anyh
      rw [if_pos (by omega)]
      exact congrArg (qh V wq c (rowOf t r)) (by show 4 * (n + 1) + l.val % 4 = l.val; omega)
    · by_cases h9 : t.val % 12 ≤ 9
      · rw [outsAt4_C V c t (by omega) h7 (by omega) (by omega)]
        dsimp only
        rw [marks_C]
        refine key _ fun hl => ?_
        rw [k_pt V wk c t (by omega) h9 hk, h]
        unfold anyh
        rw [if_neg (by omega), if_pos (by omega)]
        exact congrArg (kh V wk c (rowOf t r)) (by show 4 * (n + 1 - 8) + l.val % 4 = l.val - 32; omega)
      · rw [outsAt4_D V c t (by omega) h7 (by omega) (by omega)]
        dsimp only
        rw [marks_D]
        refine key _ fun hl => ?_
        rw [v_pt V wv c t hv, h]
        unfold anyh
        rw [if_neg (by omega), if_neg (by omega)]
        exact congrArg (vh V wv c (rowOf t r)) (by show 4 * (n + 1 - 10) + l.val % 4 = l.val - 40; omega)

/-- The scales: head `l` in lane `l`, zero past the last head. -/
theorem final4_12 : (dat4 V c).arrAt 12 cfg4.N = scaleLanes (anyh V wq wk wv c) := by
  refine (dat4 V c).arrAt_eq_of_covers 12 _ (by decide +kernel) fun t hf y => ?_
  have h11 := flush4_12 t hf
  blk_simp
  obtain ⟨r, l, rfl⟩ : ∃ r : Fin 1024, ∃ l : Fin 128, y = ix2 r l := ⟨y 0, y 1, eq_ix2 y⟩
  refine (left12 V wq wk wv c hq hk hv 11 t h11 r l).trans (scaleLanes_at _ _ _ _ ?_ ?_).symm
  · unfold rowOf; blk_simp [idx4_12 t]
  · blk_simp [idx4_12 t]

end

end Cert.FrontVal
-- ==== Proof.Front.Chain.lean ====
/-
  What every buffer between the calls of the front half's program holds, from the arguments to its results.
-/
module

public import proofs.«01_k».proof.Proof.Layout
public import proofs.«01_k».proof.Proof.Front.Half
public import proofs.«01_k».proof.Proof.Front.Val0
public import proofs.«01_k».proof.Proof.Front.Val1
public import proofs.«01_k».proof.Proof.Front.Val2
public import proofs.«01_k».proof.Proof.Front.Val3
public import proofs.«01_k».proof.Proof.Front.Val4End
public import proofs.«01_k».proof.Proof.Front.Fold0

@[expose] public section

set_option maxRecDepth 16384

noncomputable section

namespace Cert.FrontChain

open Idealize.ShloMosaic Idealize.ShloMosaic.TcCoe Idealize.ShloMosaic.Pipeline Cert.Rows
open Cert.FrontIdeal Cert.FrontIdeal.Gen
open Cert.Half Cert.Heads Cert.FrontVal Cert.Layout Idealize.ShloMosaic.StableHlo

/-! ## Heads side by side in a row, and as an axis of their own -/

theorem cast_heads {n N : ℕ} (hN : N = n * 128) (y : Fin 9216 → ℕ → Fin 128 → EReal) (h : (Mat 9216 N).ShapeCasts (⟨4, ![3, 3072, n, 128]⟩ : Shape))
    (h' : (⟨3, ![9216, n, 128]⟩ : Shape).ShapeCasts (⟨4, ![3, 3072, n, 128]⟩ : Shape)) :
    shapeCast (⟨4, ![3, 3072, n, 128]⟩ : Shape) (codeHeads (n := N) y) h = shapeCast (⟨4, ![3, 3072, n, 128]⟩ : Shape) (headCodes (n := n) y) h' := funext fun i => by
  obtain ⟨a, b, k, x, rfl⟩ : ∃ a : Fin 3, ∃ b : Fin 3072, ∃ k : Fin n, ∃ x : Fin 128, i = ix4 a b k x := ⟨i 0, i 1, i 2, i 3, eq_ix4 i⟩
  have hk := k.isLt
  have hx := x.isLt
  have hR : a.val * 3072 + b.val < 9216 := by omega
  have hq : 128 * k.val + x.val < N := by omega
  refine (shapeCast_apply (codeHeads (n := N) y) h (ix4 a b k x) (ix2 ⟨a.val * 3072 + b.val, hR⟩ ⟨128 * k.val + x.val, hq⟩) ?_).trans
    (Eq.trans ?_ (shapeCast_apply (headCodes (n := n) y) h' (ix4 a b k x) (ix3 ⟨a.val * 3072 + b.val, hR⟩ k x) ?_).symm)
  · rw [Shape.rowMajor_val_two, Shape.rowMajor_val_four]
    show (a.val * 3072 + b.val) * N + (128 * k.val + x.val) = ((a.val * 3072 + b.val) * n + k.val) * 128 + x.val
    subst hN
    ring
  · show headCode (y ⟨a.val * 3072 + b.val, hR⟩ ((128 * k.val + x.val) / 128)) ⟨(128 * k.val + x.val) % 128, _⟩ = headCode (y ⟨a.val * 3072 + b.val, hR⟩ k.val) x
    have e1 : (128 * k.val + x.val) / 128 = k.val := by omega
    have e2 : (128 * k.val + x.val) % 128 = x.val := by omega
    simp only [e1, e2]
  · rw [Shape.rowMajor_val_three, Shape.rowMajor_val_four]
    rfl

theorem slice_lanes {n : ℕ} (o : ℕ) (ho : o + n ≤ 48) (y z : Fin 9216 → ℕ → Fin 128 → EReal) (hyz : ∀ r k, k < n → y r (o + k) = z r k)
    (h : (Mat 9216 128).ShapeCasts S3x3072x128) (hs : S3x3072x128.Slices ![0, 0, o] (⟨3, ![3, 3072, n]⟩ : Shape))
    (h' : (Mat 9216 n).ShapeCasts (⟨3, ![3, 3072, n]⟩ : Shape)) :
    extractStridedSlice (⟨3, ![3, 3072, n]⟩ : Shape) ![0, 0, o] (shapeCast S3x3072x128 (scaleLanes y) h) hs
      = shapeCast (⟨3, ![3, 3072, n]⟩ : Shape) (headScales (n := n) z) h' := funext fun i => by
  obtain ⟨a, b, k, rfl⟩ : ∃ a : Fin 3, ∃ b : Fin 3072, ∃ k : Fin n, i = ix3 a b k := ⟨i 0, i 1, i 2, eq_ix3 i⟩
  have hk := k.isLt
  have hR : a.val * 3072 + b.val < 9216 := by omega
  have hl : o + k.val < 128 := by omega
  have e : extractStridedSlice (⟨3, ![3, 3072, n]⟩ : Shape) ![0, 0, o] (shapeCast S3x3072x128 (scaleLanes y) h) hs (ix3 a b k)
      = shapeCast S3x3072x128 (scaleLanes y) h (ix3 a b ⟨o + k.val, hl⟩) := by
    refine congrArg (shapeCast S3x3072x128 (scaleLanes y) h) (funext fun x => ?_)
    fin_cases x
    · exact Fin.ext (Nat.zero_add _)
    · exact Fin.ext (Nat.zero_add _)
    · rfl
  refine e.trans ((shapeCast_apply (scaleLanes y) h (ix3 a b ⟨o + k.val, hl⟩) (ix2 ⟨a.val * 3072 + b.val, hR⟩ ⟨o + k.val, hl⟩) ?_).trans
    (Eq.trans ?_ (shapeCast_apply (headScales (n := n) z) h' (ix3 a b k) (ix2 ⟨a.val * 3072 + b.val, hR⟩ k) ?_).symm))
  · rw [Shape.rowMajor_val_two, Shape.rowMajor_val_three]
    rfl
  · show (if o + k.val < 48 then headScale (y ⟨a.val * 3072 + b.val, hR⟩ (o + k.val)) else 0) = headScale (z ⟨a.val * 3072 + b.val, hR⟩ k.val)
    rw [if_pos (by omega), hyz _ _ hk]
  · rw [Shape.rowMajor_val_two, Shape.rowMajor_val_three]
    rfl

variable (m : (ℓ : Loc nD τ sig) → Buf (Elt Ideal) ℓ) (ρ : Dev nD → PrngReg)

/-- The layer's inputs, from the program's arguments. -/
abbrev kin (c : Dev nD) : Half :=
  ⟨shapeCast S9216x4096 (m ((c : Thread nD τ).loc main_arg0) : S3x3072x4096.Idx → EReal) shapeCasts_S3x3072x4096_S9216x4096,
   shapeCast S9216x64 (m ((c : Thread nD τ).loc main_arg1) : S3x3072x64.Idx → EReal) shapeCasts_S3x3072x64_S9216x64,
   shapeCast S9216x64 (m ((c : Thread nD τ).loc main_arg2) : S3x3072x64.Idx → EReal) shapeCasts_S3x3072x64_S9216x64,
   vec (d := 4096) (m ((c : Thread nD τ).loc main_arg3)),
   m ((c : Thread nD τ).loc main_arg4), m ((c : Thread nD τ).loc main_arg5), m ((c : Thread nD τ).loc main_arg6),
   (m ((c : Thread nD τ).loc main_arg7) : S_.Idx → EReal) ix0, (m ((c : Thread nD τ).loc main_arg8) : S_.Idx → EReal) ix0,
   (m ((c : Thread nD τ).loc main_arg9) : S_.Idx → EReal) ix0⟩

/-! ## The host operations -/

theorem tail_main_v1 (V : Valuation τ sig (Elt Ideal)) : StableHlo.after hostOps1 V (Proc.devRef .tc main_v1) = shapeCast _ (V (Proc.devRef .tc main_v0)) shapeCasts_S4x1024x4096_S4096x4096 := by
  simp only [hostOps1]
  after_results <;> rfl
theorem tail_main_v3 (V : Valuation τ sig (Elt Ideal)) : StableHlo.after hostOps2 V (Proc.devRef .tc main_v3) = shapeCast _ (V (Proc.devRef .tc main_v2)) shapeCasts_S4x256x4096_S1024x4096 := by
  simp only [hostOps2]
  after_results <;> rfl
theorem tail_main_v5 (V : Valuation τ sig (Elt Ideal)) : StableHlo.after hostOps3 V (Proc.devRef .tc main_v5) = shapeCast _ (V (Proc.devRef .tc main_v4)) shapeCasts_S4x256x4096_S1024x4096 := by
  simp only [hostOps3]
  after_results <;> rfl
theorem tail_main_v6 (V : Valuation τ sig (Elt Ideal)) : StableHlo.after hostOps3 V (Proc.devRef .tc main_v6) = shapeCast _ (V (Proc.devRef .tc main_arg0)) shapeCasts_S3x3072x4096_S9216x4096 := by
  simp only [hostOps3]
  after_results <;> rfl
theorem tail_main_v7 (V : Valuation τ sig (Elt Ideal)) : StableHlo.after hostOps3 V (Proc.devRef .tc main_v7) = shapeCast _ (V (Proc.devRef .tc main_arg3)) shapeCasts_S4096_S1x4096 := by
  simp only [hostOps3]
  after_results <;> rfl
theorem tail_main_v9 (V : Valuation τ sig (Elt Ideal)) : StableHlo.after hostOps4 V (Proc.devRef .tc main_v9) = shapeCast _ (V (Proc.devRef .tc main_arg1)) shapeCasts_S3x3072x64_S9216x64 := by
  simp only [hostOps4]
  after_results <;> rfl
theorem tail_main_v10 (V : Valuation τ sig (Elt Ideal)) : StableHlo.after hostOps4 V (Proc.devRef .tc main_v10) = shapeCast _ (V (Proc.devRef .tc main_arg2)) shapeCasts_S3x3072x64_S9216x64 := by
  simp only [hostOps4]
  after_results <;> rfl
theorem tail_main_v14 (V : Valuation τ sig (Elt Ideal)) : StableHlo.after hostOps4 V (Proc.devRef .tc main_v14) = concatenate S3 0 [⟨S1, broadcastInDim S1 ![] bcast_S_S1 (V (Proc.devRef .tc main_arg7) : S_.Idx → EReal)⟩, ⟨S1, broadcastInDim S1 ![] bcast_S_S1 (V (Proc.devRef .tc main_arg8) : S_.Idx → EReal)⟩, ⟨S1, broadcastInDim S1 ![] bcast_S_S1 (V (Proc.devRef .tc main_arg9) : S_.Idx → EReal)⟩] concatenates_S1_S1_S1_S3_d0 := by
  simp only [hostOps4]
  after_results <;> rfl
theorem tail_main_v17 (V : Valuation τ sig (Elt Ideal)) : StableHlo.after hostOps5 V (Proc.devRef .tc main_v17) = shapeCast _ (V (Proc.devRef .tc main_v8_0)) shapeCasts_S9216x4096_S3x3072x4096 := by
  simp only [hostOps5]
  after_results <;> rfl
theorem tail_main_v20 (V : Valuation τ sig (Elt Ideal)) : StableHlo.after hostOps5 V (Proc.devRef .tc main_v20) = shapeCast S3x3072 (shapeCast S9216 (extractStridedSlice S9216x1 ![0, 0] (V (Proc.devRef .tc main_v8_1) : S9216x128.Idx → EReal) slices_S9216x128_S9216x1_0_0) shapeCasts_S9216x1_S9216) shapeCasts_S9216_S3x3072 := by
  simp only [hostOps5]
  after_results <;> rfl
theorem tail_main_v21 (V : Valuation τ sig (Elt Ideal)) : StableHlo.after hostOps5 V (Proc.devRef .tc main_v21) = shapeCast _ (V (Proc.devRef .tc main_v15_0)) shapeCasts_S9216x4096_S3x3072x32x128 := by
  simp only [hostOps5]
  after_results <;> rfl
theorem tail_main_v23 (V : Valuation τ sig (Elt Ideal)) : StableHlo.after hostOps5 V (Proc.devRef .tc main_v23) = shapeCast _ (V (Proc.devRef .tc main_v15_1)) shapeCasts_S9216x1024_S3x3072x8x128 := by
  simp only [hostOps5]
  after_results <;> rfl
theorem tail_main_v25 (V : Valuation τ sig (Elt Ideal)) : StableHlo.after hostOps5 V (Proc.devRef .tc main_v25) = shapeCast _ (V (Proc.devRef .tc main_v15_2)) shapeCasts_S9216x1024_S3x3072x8x128 := by
  simp only [hostOps5]
  after_results <;> rfl
theorem tail_main_v22 (V : Valuation τ sig (Elt Ideal)) : StableHlo.after hostOps5 V (Proc.devRef .tc main_v22) = extractStridedSlice S3x3072x32 ![0, 0, 0] (shapeCast S3x3072x128 (V (Proc.devRef .tc main_v15_4) : S9216x128.Idx → EReal) shapeCasts_S9216x128_S3x3072x128) slices_S3x3072x128_S3x3072x32_0_0_0 := by
  simp only [hostOps5]
  after_results <;> rfl
theorem tail_main_v24 (V : Valuation τ sig (Elt Ideal)) : StableHlo.after hostOps5 V (Proc.devRef .tc main_v24) = extractStridedSlice S3x3072x8 ![0, 0, 32] (shapeCast S3x3072x128 (V (Proc.devRef .tc main_v15_4) : S9216x128.Idx → EReal) shapeCasts_S9216x128_S3x3072x128) slices_S3x3072x128_S3x3072x8_0_0_32 := by
  simp only [hostOps5]
  after_results <;> rfl
theorem tail_main_v26 (V : Valuation τ sig (Elt Ideal)) : StableHlo.after hostOps5 V (Proc.devRef .tc main_v26) = extractStridedSlice S3x3072x8 ![0, 0, 40] (shapeCast S3x3072x128 (V (Proc.devRef .tc main_v15_4) : S9216x128.Idx → EReal) shapeCasts_S9216x128_S3x3072x128) slices_S3x3072x128_S3x3072x8_0_0_40 := by
  simp only [hostOps5]
  after_results <;> rfl

/-! ## Buffers carried past the calls that do not write them -/

theorem carry_main_v1 (c : Dev nD) : W8 m ρ c (Proc.devRef .tc main_v1) = W2 m ρ c (Proc.devRef .tc main_v1) :=
  (W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)))))))
theorem carry_main_v3 (c : Dev nD) : W8 m ρ c (Proc.devRef .tc main_v3) = W4 m ρ c (Proc.devRef .tc main_v3) :=
  (W8_of m ρ c main_v3 (by decide)).trans ((W7_of m ρ c main_v3 (by decide)).trans ((W6_of m ρ c main_v3 (by decide)).trans ((W5_of m ρ c main_v3 (by decide)))))
theorem carry_main_v5 (c : Dev nD) : W8 m ρ c (Proc.devRef .tc main_v5) = W6 m ρ c (Proc.devRef .tc main_v5) :=
  (W8_of m ρ c main_v5 (by decide)).trans ((W7_of m ρ c main_v5 (by decide)))
theorem carry_main_v8_0 (c : Dev nD) : W8 m ρ c (Proc.devRef .tc main_v8_0) = W7 m ρ c (Proc.devRef .tc main_v8_0) :=
  (W8_of m ρ c main_v8_0 (by decide))
theorem carry_main_v8_1 (c : Dev nD) : W8 m ρ c (Proc.devRef .tc main_v8_1) = W7 m ρ c (Proc.devRef .tc main_v8_1) :=
  (W8_of m ρ c main_v8_1 (by decide))
theorem carry9_main_v8_0 (c : Dev nD) : W9 m ρ c (Proc.devRef .tc main_v8_0) = W8 m ρ c (Proc.devRef .tc main_v8_0) :=
  (W9_of m ρ c main_v8_0 (by decide))
theorem carry9_main_v8_1 (c : Dev nD) : W9 m ρ c (Proc.devRef .tc main_v8_1) = W8 m ρ c (Proc.devRef .tc main_v8_1) :=
  (W9_of m ρ c main_v8_1 (by decide))

/-! ## The buffers between the calls -/

theorem at_main_v0 (c : Dev nD) : (W1 m ρ c (Proc.devRef .tc main_v0) : S4x1024x4096.Idx → EReal) = unpackMat (R := 1024) (d := 4096) (m ((c : Thread nD τ).loc main_arg4)) :=
  (W1_arr m ρ c 1).trans ((final0_1 (V0 m ρ) c).trans (congrArg (unpackMat (R := 1024) (d := 4096)) (W0_args m ρ c main_arg4 (by decide))))
theorem at_main_v1 (c : Dev nD) (n : ℕ) (hn : n < 4096) (x : Fin 4096) :
    (V8 m ρ c main_v1 : S4096x4096.Idx → EReal) (ix2 ⟨n, hn⟩ x) = wrow (R := 1024) (by decide) (m ((c : Thread nD τ).loc main_arg4)) n x := by
  refine (congrFun (carry_main_v1 m ρ c) _).trans ((congrFun (tail_main_v1 (W1 m ρ c)) _).trans ?_)
  rw [at_main_v0 m ρ c]
  exact row_unpack (by decide) _ _ (by decide) ⟨n, hn⟩ x
theorem at_main_v2 (c : Dev nD) : (W3 m ρ c (Proc.devRef .tc main_v2) : S4x256x4096.Idx → EReal) = unpackMat (R := 256) (d := 4096) (m ((c : Thread nD τ).loc main_arg5)) :=
  (W3_arr m ρ c 1).trans ((final1_1 (V2 m ρ) c).trans (congrArg (unpackMat (R := 256) (d := 4096)) (W2_args m ρ c main_arg5 (by decide))))
theorem at_main_v3 (c : Dev nD) (n : ℕ) (hn : n < 1024) (x : Fin 4096) :
    (V8 m ρ c main_v3 : S1024x4096.Idx → EReal) (ix2 ⟨n, hn⟩ x) = wrow (R := 256) (by decide) (m ((c : Thread nD τ).loc main_arg5)) n x := by
  refine (congrFun (carry_main_v3 m ρ c) _).trans ((congrFun (tail_main_v3 (W3 m ρ c)) _).trans ?_)
  rw [at_main_v2 m ρ c]
  exact row_unpack (by decide) _ _ (by decide) ⟨n, hn⟩ x
theorem at_main_v4 (c : Dev nD) : (W5 m ρ c (Proc.devRef .tc main_v4) : S4x256x4096.Idx → EReal) = unpackMat (R := 256) (d := 4096) (m ((c : Thread nD τ).loc main_arg6)) :=
  (W5_arr m ρ c 1).trans ((final2_1 (V4 m ρ) c).trans (congrArg (unpackMat (R := 256) (d := 4096)) (W4_args m ρ c main_arg6 (by decide))))
theorem at_main_v5 (c : Dev nD) (n : ℕ) (hn : n < 1024) (x : Fin 4096) :
    (V8 m ρ c main_v5 : S1024x4096.Idx → EReal) (ix2 ⟨n, hn⟩ x) = wrow (R := 256) (by decide) (m ((c : Thread nD τ).loc main_arg6)) n x := by
  refine (congrFun (carry_main_v5 m ρ c) _).trans ((congrFun (tail_main_v5 (W5 m ρ c)) _).trans ?_)
  rw [at_main_v4 m ρ c]
  exact row_unpack (by decide) _ _ (by decide) ⟨n, hn⟩ x

theorem at_main_v6 (c : Dev nD) : (W6 m ρ c (Proc.devRef .tc main_v6) : S9216x4096.Idx → EReal) = (kin m c).x := by
  rw [show W6 m ρ c (Proc.devRef .tc main_v6) = _ from tail_main_v6 (W5 m ρ c), W5_args m ρ c main_arg0 (by decide)]
theorem at_main_v7 (c : Dev nD) : row (m := 1) (d := 4096) (W6 m ρ c (Proc.devRef .tc main_v7)) 0 = vec (d := 4096) (m ((c : Thread nD τ).loc main_arg3)) := by
  rw [show W6 m ρ c (Proc.devRef .tc main_v7) = _ from tail_main_v7 (W5 m ρ c), W5_args m ρ c main_arg3 (by decide)]
  exact row_one _ _
theorem at_main_v8_0 (c : Dev nD) : (W7 m ρ c (Proc.devRef .tc main_v8_0) : S9216x4096.Idx → BitVec 8) = (kin m c).codes :=
  (W7_arr m ρ c 2).trans ((final3_2 (V6 m ρ) c).trans (codeMat_congr nModel (at_main_v6 m ρ c) (at_main_v7 m ρ c)))
theorem at_main_v8_1 (c : Dev nD) : (W7 m ρ c (Proc.devRef .tc main_v8_1) : S9216x128.Idx → EReal) = laneMat nModel (kin m c).x (kin m c).gIn 128 :=
  (W7_arr m ρ c 3).trans ((final3_3 (V6 m ρ) c).trans (laneMat_congr nModel 128 (at_main_v6 m ρ c) (at_main_v7 m ρ c)))
theorem at_main_v9 (c : Dev nD) : (W8 m ρ c (Proc.devRef .tc main_v9) : S9216x64.Idx → EReal) = (kin m c).cos := by
  rw [show W8 m ρ c (Proc.devRef .tc main_v9) = _ from tail_main_v9 (W7 m ρ c), W7_args m ρ c main_arg1 (by decide)]
theorem at_main_v10 (c : Dev nD) : (W8 m ρ c (Proc.devRef .tc main_v10) : S9216x64.Idx → EReal) = (kin m c).sin := by
  rw [show W8 m ρ c (Proc.devRef .tc main_v10) = _ from tail_main_v10 (W7 m ρ c), W7_args m ρ c main_arg2 (by decide)]
theorem at_main_v14_0 (c : Dev nD) : (V8 m ρ c main_v14 : S3.Idx → EReal) (ix1 0) = (kin m c).sQ := by
  rw [show (V8 m ρ c main_v14 : S3.Idx → EReal) = _ from tail_main_v14 (W7 m ρ c), W7_args m ρ c main_arg7 (by decide), W7_args m ρ c main_arg8 (by decide), W7_args m ρ c main_arg9 (by decide)]
  pointwise
theorem at_main_v14_1 (c : Dev nD) : (V8 m ρ c main_v14 : S3.Idx → EReal) (ix1 1) = (kin m c).sK := by
  rw [show (V8 m ρ c main_v14 : S3.Idx → EReal) = _ from tail_main_v14 (W7 m ρ c), W7_args m ρ c main_arg7 (by decide), W7_args m ρ c main_arg8 (by decide), W7_args m ρ c main_arg9 (by decide)]
  pointwise
theorem at_main_v14_2 (c : Dev nD) : (V8 m ρ c main_v14 : S3.Idx → EReal) (ix1 2) = (kin m c).sV := by
  rw [show (V8 m ρ c main_v14 : S3.Idx → EReal) = _ from tail_main_v14 (W7 m ρ c), W7_args m ρ c main_arg7 (by decide), W7_args m ρ c main_arg8 (by decide), W7_args m ρ c main_arg9 (by decide)]
  pointwise

/-! ## The heads -/

/-- The rows of the unpacked query weights. -/
abbrev wq (c : Dev nD) : ℕ → Fin 4096 → EReal := wrow (R := 1024) (by decide) (m ((c : Thread nD τ).loc main_arg4))
/-- The rows of the unpacked key weights. -/
abbrev wk (c : Dev nD) : ℕ → Fin 4096 → EReal := wrow (R := 256) (by decide) (m ((c : Thread nD τ).loc main_arg5))
/-- The rows of the unpacked value weights. -/
abbrev wv (c : Dev nD) : ℕ → Fin 4096 → EReal := wrow (R := 256) (by decide) (m ((c : Thread nD τ).loc main_arg6))

theorem codes8 (c : Dev nD) : (V8 m ρ c main_v8_0 : S9216x4096.Idx → BitVec 8) = (kin m c).codes := (carry_main_v8_0 m ρ c).trans (at_main_v8_0 m ρ c)
theorem scale8 (c : Dev nD) (R : Fin 9216) : row (m := 9216) (d := 128) (V8 m ρ c main_v8_1) R 0 = (kin m c).scales (ix1 R) :=
  congrFun (((carry_main_v8_1 m ρ c).trans (at_main_v8_1 m ρ c)) : (V8 m ρ c main_v8_1 : S9216x128.Idx → EReal) = _) (ix2 R 0)

theorem qh_eq (c : Dev nD) : qh (V8 m ρ) (wq m c) c = (kin m c).qHead := funext fun R => funext fun h => by
  unfold qh qHead
  rw [codes8, scale8, at_main_v14_0, show (V8 m ρ c main_v9 : S9216x64.Idx → EReal) = _ from at_main_v9 m ρ c, show (V8 m ρ c main_v10 : S9216x64.Idx → EReal) = _ from at_main_v10 m ρ c]
theorem kh_eq (c : Dev nD) : kh (V8 m ρ) (wk m c) c = (kin m c).kHead := funext fun R => funext fun h => by
  unfold kh kHead
  rw [codes8, scale8, at_main_v14_1, show (V8 m ρ c main_v9 : S9216x64.Idx → EReal) = _ from at_main_v9 m ρ c, show (V8 m ρ c main_v10 : S9216x64.Idx → EReal) = _ from at_main_v10 m ρ c]
theorem vh_eq (c : Dev nD) : vh (V8 m ρ) (wv m c) c = (kin m c).vHead := funext fun R => funext fun h => by
  unfold vh vHead
  rw [codes8, scale8, at_main_v14_2]

/-! ## The results -/

theorem res_main_v17 (c : Dev nD) : (W10 m ρ c (Proc.devRef .tc main_v17) : S3x3072x4096.Idx → BitVec 8) = shapeCast S3x3072x4096 ((kin m c).codes : S9216x4096.Idx → BitVec 8) shapeCasts_S9216x4096_S3x3072x4096 :=
  (tail_main_v17 (W9 m ρ c)).trans (congrArg (fun z : S9216x4096.Idx → BitVec 8 => shapeCast S3x3072x4096 z shapeCasts_S9216x4096_S3x3072x4096) ((carry9_main_v8_0 m ρ c).trans (codes8 m ρ c)))
theorem res_main_v20 (c : Dev nD) : (W10 m ρ c (Proc.devRef .tc main_v20) : S3x3072.Idx → EReal) = shapeCast S3x3072 ((kin m c).scales : S9216.Idx → EReal) shapeCasts_S9216_S3x3072 := by
  have e : (W9 m ρ c (Proc.devRef .tc main_v8_1) : S9216x128.Idx → EReal) = laneMat nModel (kin m c).x (kin m c).gIn 128 :=
    (carry9_main_v8_1 m ρ c).trans ((carry_main_v8_1 m ρ c).trans (at_main_v8_1 m ρ c))
  have l := lane_vec nModel (m := 9216) (l := 128) (kin m c).x (kin m c).gIn (by decide) slices_S9216x128_S9216x1_0_0 shapeCasts_S9216x1_S9216
  have f : (kin m c).scales = scaleVec nModel (kin m c).x (kin m c).gIn := rfl
  refine (tail_main_v20 (W9 m ρ c)).trans ?_
  rw [e, f, ← l]

theorem casts_q : (⟨3, ![9216, 32, 128]⟩ : Shape).ShapeCasts S3x3072x32x128 := by decide
theorem casts_kv : (⟨3, ![9216, 8, 128]⟩ : Shape).ShapeCasts S3x3072x8x128 := by decide
theorem casts_qs : (Mat 9216 32).ShapeCasts S3x3072x32 := by decide
theorem casts_kvs : (Mat 9216 8).ShapeCasts S3x3072x8 := by decide

theorem res_main_v21 (c : Dev nD) : (W10 m ρ c (Proc.devRef .tc main_v21) : S3x3072x32x128.Idx → BitVec 8) = shapeCast S3x3072x32x128 (headCodes (n := 32) (kin m c).qHead) casts_q := by
  have e : (W9 m ρ c (Proc.devRef .tc main_v15_0) : S9216x4096.Idx → BitVec 8) = codeHeads (n := 4096) (kin m c).qHead :=
    (W9_arr m ρ c 8).trans ((final4_8 (V8 m ρ) (wq m c) c (at_main_v1 m ρ c)).trans (congrArg (codeHeads (n := 4096)) (qh_eq m ρ c)))
  refine (tail_main_v21 (W9 m ρ c)).trans ?_
  rw [e]
  exact cast_heads (by decide) _ _ _
theorem res_main_v23 (c : Dev nD) : (W10 m ρ c (Proc.devRef .tc main_v23) : S3x3072x8x128.Idx → BitVec 8) = shapeCast S3x3072x8x128 (headCodes (n := 8) (kin m c).kHead) casts_kv := by
  have e : (W9 m ρ c (Proc.devRef .tc main_v15_1) : S9216x1024.Idx → BitVec 8) = codeHeads (n := 1024) (kin m c).kHead :=
    (W9_arr m ρ c 9).trans ((final4_9 (V8 m ρ) (wk m c) c (at_main_v3 m ρ c)).trans (congrArg (codeHeads (n := 1024)) (kh_eq m ρ c)))
  refine (tail_main_v23 (W9 m ρ c)).trans ?_
  rw [e]
  exact cast_heads (by decide) _ _ _
theorem res_main_v25 (c : Dev nD) : (W10 m ρ c (Proc.devRef .tc main_v25) : S3x3072x8x128.Idx → BitVec 8) = shapeCast S3x3072x8x128 (headCodes (n := 8) (kin m c).vHead) casts_kv := by
  have e : (W9 m ρ c (Proc.devRef .tc main_v15_2) : S9216x1024.Idx → BitVec 8) = codeHeads (n := 1024) (kin m c).vHead :=
    (W9_arr m ρ c 10).trans ((final4_10 (V8 m ρ) (wv m c) c (at_main_v5 m ρ c)).trans (congrArg (codeHeads (n := 1024)) (vh_eq m ρ c)))
  refine (tail_main_v25 (W9 m ρ c)).trans ?_
  rw [e]
  exact cast_heads (by decide) _ _ _

/-- The scales of all heads, one lane each. -/
theorem at_main_v15_4 (c : Dev nD) : (W9 m ρ c (Proc.devRef .tc main_v15_4) : S9216x128.Idx → EReal)
    = scaleLanes (anyh (V8 m ρ) (wq m c) (wk m c) (wv m c) c) :=
  (W9_arr m ρ c 12).trans (final4_12 (V8 m ρ) (wq m c) (wk m c) (wv m c) c (at_main_v1 m ρ c) (at_main_v3 m ρ c) (at_main_v5 m ρ c))

theorem res_main_v22 (c : Dev nD) : (W10 m ρ c (Proc.devRef .tc main_v22) : S3x3072x32.Idx → EReal) = shapeCast S3x3072x32 (headScales (n := 32) (kin m c).qHead) casts_qs := by
  refine (tail_main_v22 (W9 m ρ c)).trans ?_
  rw [at_main_v15_4 m ρ c]
  exact slice_lanes (n := 32) 0 (by decide) _ _ (fun r x hx => by
    unfold anyh
    rw [if_pos (by omega), Nat.zero_add, qh_eq]) _ _ _
theorem res_main_v24 (c : Dev nD) : (W10 m ρ c (Proc.devRef .tc main_v24) : S3x3072x8.Idx → EReal) = shapeCast S3x3072x8 (headScales (n := 8) (kin m c).kHead) casts_kvs := by
  refine (tail_main_v24 (W9 m ρ c)).trans ?_
  rw [at_main_v15_4 m ρ c]
  exact slice_lanes (n := 8) 32 (by decide) _ _ (fun r x hx => by
    unfold anyh
    rw [if_neg (by omega), if_pos (by omega), Nat.add_sub_cancel_left, kh_eq]) _ _ _
theorem res_main_v26 (c : Dev nD) : (W10 m ρ c (Proc.devRef .tc main_v26) : S3x3072x8.Idx → EReal) = shapeCast S3x3072x8 (headScales (n := 8) (kin m c).vHead) casts_kvs := by
  refine (tail_main_v26 (W9 m ρ c)).trans ?_
  rw [at_main_v15_4 m ρ c]
  exact slice_lanes (n := 8) 40 (by decide) _ _ (fun r x hx => by
    unfold anyh
    rw [if_neg (by omega), if_neg (by omega), Nat.add_sub_cancel_left, vh_eq]) _ _ _

end Cert.FrontChain
-- ==== Proof.Front.RefPay.lean ====
/-
  The steps of the reference of the front half: normalised codes, heads of the products, rotation, codes and scales of the heads.
-/
module

public import proofs.«01_k».proof.Proof.Front.Heads
public import proofs.«01_k».proof.Proof.LinR
public import proofs.«01_k».proof.Proof.Gen.FrontRefIdeal.Skeleton

@[expose] public section

set_option maxRecDepth 16384

noncomputable section

namespace Cert.FrontRefPay

open Idealize.ShloMosaic Idealize.ShloMosaic.TcCoe Idealize.ShloMosaic.Pipeline Cert.Rows
open Cert.FrontRefIdeal Cert.FrontRefIdeal.Gen
open Cert.Heads Cert.LinR

theorem castHead {α : Type} {m n : ℕ} (z : (Mat m n).Idx → α) (h : (Mat m n).ShapeCasts (⟨3, ![m, n, 1]⟩ : Shape)) (r : Fin m) (k : Fin n) (q : Fin 1) :
    shapeCast (⟨3, ![m, n, 1]⟩ : Shape) z h (ix3 r k q) = z (ix2 r k) := by
  refine shapeCast_apply z h (ix3 r k q) (ix2 r k) ?_
  rw [Shape.rowMajor_val_two, Shape.rowMajor_val_three]
  show r.val * n + k.val = (r.val * n + k.val) * 1 + q.val
  omega

theorem bcHead32 {α : Type} (z : S9216x32x1.Idx → α) (h : S9216x32x1.Broadcasts S9216x32x128) (r : Fin 9216) (k : Fin 32) (q : Fin 128) :
    broadcastTo S9216x32x128 z h (ix3 r k q) = z (ix3 r k 0) := by
  pointwise

theorem bcHead8 {α : Type} (z : S9216x8x1.Idx → α) (h : S9216x8x1.Broadcasts S9216x8x128) (r : Fin 9216) (k : Fin 8) (q : Fin 128) :
    broadcastTo S9216x8x128 z h (ix3 r k q) = z (ix3 r k 0) := by
  pointwise

section
variable {F : FTy → Type} [FloatOps F]

theorem pay_scale4 (v0 : Vec F S9216x4096 .bf16) (v3 : Vec F S4096 .f32) (r : Fin 9216) :
    k0_pay4 v0 v3 (ix1 r) = scaleOf (multiReduction .maximumf [1] S9216 (absf (k0_pay3 v0 v3)) 0xFF800000#32
      reduces_S9216x4096_S9216 (.inl rfl) rfl (ix1 r)) := by
  unfold k0_pay4
  generalize k0_pay3 v0 v3 = y
  rfl

theorem pay_code5 (v0 : Vec F S9216x4096 .bf16) (v3 : Vec F S4096 .f32) (r : Fin 9216) (k : Fin 4096) :
    k0_pay5 v0 v3 (ix2 r k) = codeOf (k0_pay3 v0 v3 (ix2 r k)) (k0_pay4 v0 v3 (ix1 r)) := by
  unfold k0_pay5
  generalize k0_pay3 v0 v3 = y
  generalize k0_pay4 v0 v3 = s
  rw [← castCol s shapeCasts_S9216_S9216x1 r 0, ← bcCol (shapeCast S9216x1 s shapeCasts_S9216_S9216x1) broadcasts_S9216x1_S9216x4096 r k]
  rfl

theorem pay_scale16 (v81 : FVec F S9216x32x128 .f32) (v176 v178 : Vec F S9216x64 .f32) (r : Fin 9216) (h : Fin 32) :
    k0_pay16 v81 v176 v178 (ix2 r h) = scaleOf (multiReduction .maximumf [2] S9216x32 (absf (k0_pay15 v81 v176 v178)) 0xFF800000#32
      reduces_S9216x32x128_S9216x32 (.inl rfl) rfl (ix2 r h)) := by
  unfold k0_pay16
  generalize k0_pay15 v81 v176 v178 = y
  rfl

theorem pay_code17 (v81 : FVec F S9216x32x128 .f32) (v176 v178 : Vec F S9216x64 .f32) (r : Fin 9216) (h : Fin 32) (k : Fin 128) :
    k0_pay17 v81 v176 v178 (ix3 r h k) = codeOf ((k0_pay15 v81 v176 v178) (ix3 r h k)) (k0_pay16 v81 v176 v178 (ix2 r h)) := by
  unfold k0_pay17
  generalize k0_pay15 v81 v176 v178 = y
  generalize k0_pay16 v81 v176 v178 = s
  rw [← castHead s shapeCasts_S9216x32_S9216x32x1 r h 0, ← bcHead32 (shapeCast S9216x32x1 s shapeCasts_S9216x32_S9216x32x1) broadcasts_S9216x32x1_S9216x32x128 r h k]
  rfl

theorem pay_scale19 (v81 : FVec F S9216x8x128 .f32) (v176 v178 : Vec F S9216x64 .f32) (r : Fin 9216) (h : Fin 8) :
    k0_pay19 v81 v176 v178 (ix2 r h) = scaleOf (multiReduction .maximumf [2] S9216x8 (absf (k0_pay18 v81 v176 v178)) 0xFF800000#32
      reduces_S9216x8x128_S9216x8 (.inl rfl) rfl (ix2 r h)) := by
  unfold k0_pay19
  generalize k0_pay18 v81 v176 v178 = y
  rfl

theorem pay_code20 (v81 : FVec F S9216x8x128 .f32) (v176 v178 : Vec F S9216x64 .f32) (r : Fin 9216) (h : Fin 8) (k : Fin 128) :
    k0_pay20 v81 v176 v178 (ix3 r h k) = codeOf ((k0_pay18 v81 v176 v178) (ix3 r h k)) (k0_pay19 v81 v176 v178 (ix2 r h)) := by
  unfold k0_pay20
  generalize k0_pay18 v81 v176 v178 = y
  generalize k0_pay19 v81 v176 v178 = s
  rw [← castHead s shapeCasts_S9216x8_S9216x8x1 r h 0, ← bcHead8 (shapeCast S9216x8x1 s shapeCasts_S9216x8_S9216x8x1) broadcasts_S9216x8x1_S9216x8x128 r h k]
  rfl

theorem pay_scale1 (v173 : FVec F S9216x8x128 .f32) (r : Fin 9216) (h : Fin 8) :
    k0_pay1 v173 (ix2 r h) = scaleOf (multiReduction .maximumf [2] S9216x8 (absf v173) 0xFF800000#32
      reduces_S9216x8x128_S9216x8 (.inl rfl) rfl (ix2 r h)) := by
  unfold k0_pay1
  rfl

theorem pay_code2 (v173 : FVec F S9216x8x128 .f32) (r : Fin 9216) (h : Fin 8) (k : Fin 128) :
    k0_pay2 v173 (ix3 r h k) = codeOf (v173 (ix3 r h k)) (k0_pay1 v173 (ix2 r h)) := by
  unfold k0_pay2
  generalize k0_pay1 v173 = s
  rw [← castHead s shapeCasts_S9216x8_S9216x8x1 r h 0, ← bcHead8 (shapeCast S9216x8x1 s shapeCasts_S9216x8_S9216x8x1) broadcasts_S9216x8x1_S9216x8x128 r h k]
  rfl

end

theorem maxHead {m n d : ℕ} (z : FVec Ideal (⟨3, ![m, n, d]⟩ : Shape) .f32) (h : (⟨3, ![m, n, d]⟩ : Shape).Reduces [2] (Mat m n)) (hφ) (hacc) (r : Fin m) (k : Fin n) :
    multiReduction (F := Ideal) .maximumf [2] (Mat m n) z 0xFF800000#32 h hφ hacc (ix2 r k)
      = Finset.univ.fold max (Ideal.ofBits .f32 0xFF800000#32) fun x : Fin d => z (ix3 r k x) := by
  rw [Ideal.multiReduction_maximumf_single]
  refine congrArg (Finset.fold max _ · Finset.univ) (funext fun x => congrArg z ?_)
  funext a; fin_cases a <;> rfl

theorem norm3 (v0 : Vec Ideal S9216x4096 .bf16) (v3 : Vec Ideal S4096 .f32) (r : Fin 9216) (k : Fin 4096) :
    k0_pay3 v0 v3 (ix2 r k) = normed (Ideal.ofBits .f32 0x45800000#32) (row v0 r) (vec v3) k := by
  unfold normed row vec
  pointwise [k0_pay3]

theorem scale4 (v0 : Vec Ideal S9216x4096 .bf16) (v3 : Vec Ideal S4096 .f32) (r : Fin 9216) :
    k0_pay4 v0 v3 (ix1 r) = scale (Ideal.ofBits .f32 0x45800000#32) (row v0 r) (vec v3) := by
  rw [pay_scale4]
  unfold scale rowMax
  refine (congrArg (scaleOf (F := Ideal)) (maxRed (absf (k0_pay3 v0 v3)) _ _ _ r)).trans ?_
  refine congrArg (fun f => scaleOf (F := Ideal) (Finset.fold max _ f Finset.univ)) (funext fun x => ?_)
  exact congrArg (FloatOps.absf (F := Ideal) (φ := .f32)) (norm3 v0 v3 r x)

theorem code5 (v0 : Vec Ideal S9216x4096 .bf16) (v3 : Vec Ideal S4096 .f32) (r : Fin 9216) (k : Fin 4096) :
    k0_pay5 v0 v3 (ix2 r k) = code (Ideal.ofBits .f32 0x45800000#32) (row v0 r) (vec v3) k := by
  rw [pay_code5, norm3, scale4]
  rfl

theorem codes6 (v0 : Vec Ideal S9216x4096 .bf16) (v3 : Vec Ideal S4096 .f32) : k0_pay6 v0 v3 = sitofp .bf16 (k0_pay5 v0 v3) := by
  unfold k0_pay6
  generalize k0_pay5 v0 v3 = z
  rfl
theorem codes10 (c : IVec S9216x4096 8) : k0_pay10 (F := Ideal) c = sitofp .bf16 c := rfl

/-- The four fields side by side, where the column is `n`. -/
theorem prod9 (s : FVec Ideal S9216 .f32) (w : Vec Ideal S1024x4096 .i8) (ws : Elt Ideal .f32) (c : IVec S9216x4096 8) (r : Fin 9216) (h : Fin 32) (k : Fin 128) :
    k0_pay9 s w ws (sitofp .bf16 c) (k0_pay7 (F := Ideal) w) k0_pay8 (ix3 r h k)
      = headVec (row c r) (s (ix1 r)) (wrow (R := 1024) (by decide) w) ws h.val k := by
  unfold headVec lin dot row
  pointwise [k0_pay9, k0_pay7, k0_pay8]
  rw [Nat.mul_comm 128]
  exact congrArg (· * s (ix1 r) * ws)
    (ladder (R := 1024) (by decide) w (fun x => FloatOps.sitofp (F := Ideal) .bf16 (c (ix2 r x))) (h.val * 128 + k.val) (by omega))

theorem prod12 (s : FVec Ideal S9216 .f32) (w : Vec Ideal S256x4096 .i8) (ws : Elt Ideal .f32) (c : IVec S9216x4096 8) (r : Fin 9216) (h : Fin 8) (k : Fin 128) :
    k0_pay12 s w ws (sitofp .bf16 c) (k0_pay11 (F := Ideal) w) (ix3 r h k)
      = headVec (row c r) (s (ix1 r)) (wrow (R := 256) (by decide) w) ws h.val k := by
  unfold headVec lin dot row
  pointwise [k0_pay12, k0_pay11]
  rw [Nat.mul_comm 128]
  exact congrArg (· * s (ix1 r) * ws)
    (ladder (R := 256) (by decide) w (fun x => FloatOps.sitofp (F := Ideal) .bf16 (c (ix2 r x))) (h.val * 128 + k.val) (by omega))

theorem prod14 (s : FVec Ideal S9216 .f32) (w : Vec Ideal S256x4096 .i8) (ws : Elt Ideal .f32) (c : IVec S9216x4096 8) (r : Fin 9216) (h : Fin 8) (k : Fin 128) :
    k0_pay14 ws (k0_pay13 s c w) (ix3 r h k)
      = headVec (row c r) (s (ix1 r)) (wrow (R := 256) (by decide) w) ws h.val k := by
  unfold headVec lin dot row
  pointwise [k0_pay14, k0_pay13]
  rw [Nat.mul_comm 128]
  exact congrArg (· * s (ix1 r) * ws)
    (ladder (R := 256) (by decide) w (fun x => FloatOps.sitofp (F := Ideal) .bf16 (c (ix2 r x))) (h.val * 128 + k.val) (by omega))

theorem rope15 (z : FVec Ideal S9216x32x128 .f32) (c s : Vec Ideal S9216x64 .f32) (r : Fin 9216) (h : Fin 32) (k : Fin 128) :
    k0_pay15 z c s (ix3 r h k) = roped (fun k => z (ix3 r h k)) (row c r) (row s r) k := by
  unfold roped row
  pointwise [k0_pay15]
  by_cases hk : k.val < 64
  · rw [dif_pos hk, dif_pos hk]
  · have e : (⟨64 + (k.val - 64), by omega⟩ : Fin 128) = k := Fin.ext (by show 64 + (k.val - 64) = k.val; omega)
    rw [dif_neg hk, dif_neg hk, e]

theorem rope18 (z : FVec Ideal S9216x8x128 .f32) (c s : Vec Ideal S9216x64 .f32) (r : Fin 9216) (h : Fin 8) (k : Fin 128) :
    k0_pay18 z c s (ix3 r h k) = roped (fun k => z (ix3 r h k)) (row c r) (row s r) k := by
  unfold roped row
  pointwise [k0_pay18]
  by_cases hk : k.val < 64
  · rw [dif_pos hk, dif_pos hk]
  · have e : (⟨64 + (k.val - 64), by omega⟩ : Fin 128) = k := Fin.ext (by show 64 + (k.val - 64) = k.val; omega)
    rw [dif_neg hk, dif_neg hk, e]

theorem scale16 (v81 : FVec Ideal S9216x32x128 .f32) (v176 v178 : Vec Ideal S9216x64 .f32) (r : Fin 9216) (h : Fin 32) :
    k0_pay16 v81 v176 v178 (ix2 r h) = headScale (fun k => (k0_pay15 v81 v176 v178) (ix3 r h k)) := by
  rw [pay_scale16]
  exact congrArg (scaleOf (F := Ideal)) (maxHead (absf (k0_pay15 v81 v176 v178)) _ _ _ r h)

theorem codes17 (v81 : FVec Ideal S9216x32x128 .f32) (v176 v178 : Vec Ideal S9216x64 .f32) (r : Fin 9216) (h : Fin 32) (k : Fin 128) :
    k0_pay17 v81 v176 v178 (ix3 r h k) = headCode (fun k => (k0_pay15 v81 v176 v178) (ix3 r h k)) k := by
  rw [pay_code17, scale16]
  rfl

theorem scale19 (v81 : FVec Ideal S9216x8x128 .f32) (v176 v178 : Vec Ideal S9216x64 .f32) (r : Fin 9216) (h : Fin 8) :
    k0_pay19 v81 v176 v178 (ix2 r h) = headScale (fun k => (k0_pay18 v81 v176 v178) (ix3 r h k)) := by
  rw [pay_scale19]
  exact congrArg (scaleOf (F := Ideal)) (maxHead (absf (k0_pay18 v81 v176 v178)) _ _ _ r h)

theorem codes20 (v81 : FVec Ideal S9216x8x128 .f32) (v176 v178 : Vec Ideal S9216x64 .f32) (r : Fin 9216) (h : Fin 8) (k : Fin 128) :
    k0_pay20 v81 v176 v178 (ix3 r h k) = headCode (fun k => (k0_pay18 v81 v176 v178) (ix3 r h k)) k := by
  rw [pay_code20, scale19]
  rfl

theorem scale1 (v173 : FVec Ideal S9216x8x128 .f32) (r : Fin 9216) (h : Fin 8) :
    k0_pay1 v173 (ix2 r h) = headScale (fun k => (v173) (ix3 r h k)) := by
  rw [pay_scale1]
  exact congrArg (scaleOf (F := Ideal)) (maxHead (absf (v173)) _ _ _ r h)

theorem codes2 (v173 : FVec Ideal S9216x8x128 .f32) (r : Fin 9216) (h : Fin 8) (k : Fin 128) :
    k0_pay2 v173 (ix3 r h k) = headCode (fun k => (v173) (ix3 r h k)) k := by
  rw [pay_code2, scale1]
  rfl

end Cert.FrontRefPay
-- ==== Proof.Front.RefVal.lean ====
/-
  What the reference of the front half leaves in its eight result arrays.
-/
module

public import proofs.«01_k».proof.Proof.Front.RefPay
public import proofs.«01_k».proof.Proof.Front.Half
public import proofs.«01_k».proof.Proof.Gen.FrontRefIdeal.Frame
public import Idealize.ShloMosaic.Lib.Pipeline.ReadBack

@[expose] public section

set_option maxRecDepth 16384

noncomputable section

namespace Cert.FrontRefVal

open Idealize.ShloMosaic Idealize.ShloMosaic.TcCoe Idealize.ShloMosaic.Pipeline Cert.Rows
open Cert.FrontRefIdeal Cert.FrontRefIdeal.Gen
open Cert.Heads Cert.FrontRefPay Cert.Half

section
variable (x0 : Vec Ideal S9216x4096 .bf16) (x1 x2 : Vec Ideal S9216x64 .f32) (x3 : Vec Ideal S4096 .f32)
  (x4 : Vec Ideal S1024x4096 .i8) (x5 x6 : Vec Ideal S256x4096 .i8) (s7 s8 s9 : Elt Ideal .f32)

/-- The layer's inputs, from the arrays. -/
abbrev inp : Half := ⟨x0, x1, x2, vec x3, x4, x5, x6, s7, s8, s9⟩

theorem e11 : k0_pay4 x0 x3 = (inp x0 x1 x2 x3 x4 x5 x6 s7 s8 s9).scales := funext fun i => by
  obtain ⟨r, rfl⟩ : ∃ r : Fin 9216, i = ix1 r := ⟨i 0, eq_ix1 i⟩
  exact scale4 x0 x3 r
theorem e10 : k0_pay5 x0 x3 = (inp x0 x1 x2 x3 x4 x5 x6 s7 s8 s9).codes := funext fun i => by
  obtain ⟨r, k, rfl⟩ : ∃ r : Fin 9216, ∃ k : Fin 4096, i = ix2 r k := ⟨i 0, i 1, eq_ix2 i⟩
  exact code5 x0 x3 r k

/-- The query heads before the rotation. -/
abbrev Q : FVec Ideal S9216x32x128 .f32 := k0_pay9 (k0_pay4 x0 x3) x4 s7 (k0_pay6 x0 x3) (k0_pay7 (F := Ideal) x4) k0_pay8
/-- The key heads before the rotation. -/
abbrev K : FVec Ideal S9216x8x128 .f32 := k0_pay12 (k0_pay4 x0 x3) x5 s8 (k0_pay10 (k0_pay5 x0 x3)) (k0_pay11 (F := Ideal) x5)
/-- The value heads. -/
abbrev Vh : FVec Ideal S9216x8x128 .f32 := k0_pay14 s9 (k0_pay13 (k0_pay4 x0 x3) (k0_pay5 x0 x3) x6)

theorem eQ (r : Fin 9216) (h : Fin 32) : (fun k => k0_pay15 (Q x0 x3 x4 s7) x1 x2 (ix3 r h k)) = (inp x0 x1 x2 x3 x4 x5 x6 s7 s8 s9).qHead r h.val := funext fun k => by
  rw [rope15]
  unfold Q qHead
  rw [codes6]
  simp only [prod9]
  rw [e11 x0 x1 x2 x3 x4 x5 x6 s7 s8 s9, e10 x0 x1 x2 x3 x4 x5 x6 s7 s8 s9]
theorem eK (r : Fin 9216) (h : Fin 8) : (fun k => k0_pay18 (K x0 x3 x5 s8) x1 x2 (ix3 r h k)) = (inp x0 x1 x2 x3 x4 x5 x6 s7 s8 s9).kHead r h.val := funext fun k => by
  rw [rope18]
  unfold K kHead
  rw [codes10]
  simp only [prod12]
  rw [e11 x0 x1 x2 x3 x4 x5 x6 s7 s8 s9, e10 x0 x1 x2 x3 x4 x5 x6 s7 s8 s9]
theorem eV (r : Fin 9216) (h : Fin 8) : (fun k => Vh x0 x3 x6 s9 (ix3 r h k)) = (inp x0 x1 x2 x3 x4 x5 x6 s7 s8 s9).vHead r h.val := funext fun k => by
  unfold Vh vHead
  rw [prod14, e11 x0 x1 x2 x3 x4 x5 x6 s7 s8 s9, e10 x0 x1 x2 x3 x4 x5 x6 s7 s8 s9]

theorem e12 : k0_pay17 (Q x0 x3 x4 s7) x1 x2 = headCodes (n := 32) (inp x0 x1 x2 x3 x4 x5 x6 s7 s8 s9).qHead := funext fun i => by
  obtain ⟨r, h, k, rfl⟩ : ∃ r : Fin 9216, ∃ h : Fin 32, ∃ k : Fin 128, i = ix3 r h k := ⟨i 0, i 1, i 2, eq_ix3 i⟩
  rw [codes17, eQ x0 x1 x2 x3 x4 x5 x6 s7 s8 s9 r h]
  rfl
theorem e13 : k0_pay16 (Q x0 x3 x4 s7) x1 x2 = headScales (n := 32) (inp x0 x1 x2 x3 x4 x5 x6 s7 s8 s9).qHead := funext fun i => by
  obtain ⟨r, h, rfl⟩ : ∃ r : Fin 9216, ∃ h : Fin 32, i = ix2 r h := ⟨i 0, i 1, eq_ix2 i⟩
  rw [scale16, eQ x0 x1 x2 x3 x4 x5 x6 s7 s8 s9 r h]
  rfl
theorem e14 : k0_pay20 (K x0 x3 x5 s8) x1 x2 = headCodes (n := 8) (inp x0 x1 x2 x3 x4 x5 x6 s7 s8 s9).kHead := funext fun i => by
  obtain ⟨r, h, k, rfl⟩ : ∃ r : Fin 9216, ∃ h : Fin 8, ∃ k : Fin 128, i = ix3 r h k := ⟨i 0, i 1, i 2, eq_ix3 i⟩
  rw [codes20, eK x0 x1 x2 x3 x4 x5 x6 s7 s8 s9 r h]
  rfl
theorem e15 : k0_pay19 (K x0 x3 x5 s8) x1 x2 = headScales (n := 8) (inp x0 x1 x2 x3 x4 x5 x6 s7 s8 s9).kHead := funext fun i => by
  obtain ⟨r, h, rfl⟩ : ∃ r : Fin 9216, ∃ h : Fin 8, i = ix2 r h := ⟨i 0, i 1, eq_ix2 i⟩
  rw [scale19, eK x0 x1 x2 x3 x4 x5 x6 s7 s8 s9 r h]
  rfl
theorem e16 : k0_pay2 (Vh x0 x3 x6 s9) = headCodes (n := 8) (inp x0 x1 x2 x3 x4 x5 x6 s7 s8 s9).vHead := funext fun i => by
  obtain ⟨r, h, k, rfl⟩ : ∃ r : Fin 9216, ∃ h : Fin 8, ∃ k : Fin 128, i = ix3 r h k := ⟨i 0, i 1, i 2, eq_ix3 i⟩
  rw [codes2, eV x0 x1 x2 x3 x4 x5 x6 s7 s8 s9 r h]
  rfl
theorem e17 : k0_pay1 (Vh x0 x3 x6 s9) = headScales (n := 8) (inp x0 x1 x2 x3 x4 x5 x6 s7 s8 s9).vHead := funext fun i => by
  obtain ⟨r, h, rfl⟩ : ∃ r : Fin 9216, ∃ h : Fin 8, i = ix2 r h := ⟨i 0, i 1, eq_ix2 i⟩
  rw [scale1, eV x0 x1 x2 x3 x4 x5 x6 s7 s8 s9 r h]
  rfl

end

variable (m : (ℓ : Loc nD τ sig) → Buf (Elt Ideal) ℓ)

/-- The layer's inputs, from the arrays the region finds. -/
abbrev binp (c : Dev nD) (t : Fin cfg0.N) : Half :=
  inp (iblk m c 0 t) (iblk m c 1 t) (iblk m c 2 t) (iblk m c 3 t) (iblk m c 4 t) (iblk m c 5 t) (iblk m c 6 t)
    ((iblk m c 7 t : S1.Idx → EReal) (ix1 0)) ((iblk m c 8 t : S1.Idx → EReal) (ix1 0)) ((iblk m c 9 t : S1.Idx → EReal) (ix1 0))

theorem idx10 : ∀ t : Fin cfg0.N, win0_10.index t = ![0, 0] := (by decide +kernel : ∀ t : Fin grid0.N, _)
set_option maxHeartbeats 2000000 in
theorem final10 (c : Dev nD) (X : S9216x4096.Idx → BitVec 8) (hX : ∀ t, X = (binp m c t).codes) :
    (dats m 0 c).arrAt 10 cfg0.N = X := by
  refine (dats m 0 c).arrAt_eq_of_covers 10 _ (by decide +kernel) fun t hf y => ?_
  blk_simp
  rw [after0_10]; unfold outsAt0 out0_A_10; dsimp only
  frame_out
  simp only [read_unread_whole]
  rw [hX t]
  refine (congrFun (e10 (iblk m c 0 t) (iblk m c 1 t) (iblk m c 2 t) (iblk m c 3 t) (iblk m c 4 t) (iblk m c 5 t) (iblk m c 6 t) ((iblk m c 7 t : S1.Idx → EReal) (ix1 0)) ((iblk m c 8 t : S1.Idx → EReal) (ix1 0)) ((iblk m c 9 t : S1.Idx → EReal) (ix1 0))) _).trans ?_
  refine congrArg ((binp m c t).codes) ?_
  blk_ext! [idx10 t]

theorem idx11 : ∀ t : Fin cfg0.N, win0_11.index t = ![0] := (by decide +kernel : ∀ t : Fin grid0.N, _)
set_option maxHeartbeats 2000000 in
theorem final11 (c : Dev nD) (X : S9216.Idx → EReal) (hX : ∀ t, X = (binp m c t).scales) :
    (dats m 0 c).arrAt 11 cfg0.N = X := by
  refine (dats m 0 c).arrAt_eq_of_covers 11 _ (by decide +kernel) fun t hf y => ?_
  blk_simp
  rw [after0_11]; unfold outsAt0 out0_A_11; dsimp only
  frame_out
  simp only [read_unread_whole]
  rw [hX t]
  refine (congrFun (e11 (iblk m c 0 t) (iblk m c 1 t) (iblk m c 2 t) (iblk m c 3 t) (iblk m c 4 t) (iblk m c 5 t) (iblk m c 6 t) ((iblk m c 7 t : S1.Idx → EReal) (ix1 0)) ((iblk m c 8 t : S1.Idx → EReal) (ix1 0)) ((iblk m c 9 t : S1.Idx → EReal) (ix1 0))) _).trans ?_
  refine congrArg ((binp m c t).scales) ?_
  blk_ext! [idx11 t]

theorem idx12 : ∀ t : Fin cfg0.N, win0_12.index t = ![0, 0, 0] := (by decide +kernel : ∀ t : Fin grid0.N, _)
set_option maxHeartbeats 2000000 in
theorem final12 (c : Dev nD) (X : S9216x32x128.Idx → BitVec 8) (hX : ∀ t, X = headCodes (n := 32) (binp m c t).qHead) :
    (dats m 0 c).arrAt 12 cfg0.N = X := by
  refine (dats m 0 c).arrAt_eq_of_covers 12 _ (by decide +kernel) fun t hf y => ?_
  blk_simp
  rw [after0_12]; unfold outsAt0 out0_A_12; dsimp only
  frame_out
  simp only [read_unread_whole]
  rw [hX t]
  refine (congrFun (e12 (iblk m c 0 t) (iblk m c 1 t) (iblk m c 2 t) (iblk m c 3 t) (iblk m c 4 t) (iblk m c 5 t) (iblk m c 6 t) ((iblk m c 7 t : S1.Idx → EReal) (ix1 0)) ((iblk m c 8 t : S1.Idx → EReal) (ix1 0)) ((iblk m c 9 t : S1.Idx → EReal) (ix1 0))) _).trans ?_
  refine congrArg (headCodes (n := 32) (binp m c t).qHead) ?_
  blk_ext! [idx12 t]

theorem idx13 : ∀ t : Fin cfg0.N, win0_13.index t = ![0, 0] := (by decide +kernel : ∀ t : Fin grid0.N, _)
set_option maxHeartbeats 2000000 in
theorem final13 (c : Dev nD) (X : S9216x32.Idx → EReal) (hX : ∀ t, X = headScales (n := 32) (binp m c t).qHead) :
    (dats m 0 c).arrAt 13 cfg0.N = X := by
  refine (dats m 0 c).arrAt_eq_of_covers 13 _ (by decide +kernel) fun t hf y => ?_
  blk_simp
  rw [after0_13]; unfold outsAt0 out0_A_13; dsimp only
  frame_out
  simp only [read_unread_whole]
  rw [hX t]
  refine (congrFun (e13 (iblk m c 0 t) (iblk m c 1 t) (iblk m c 2 t) (iblk m c 3 t) (iblk m c 4 t) (iblk m c 5 t) (iblk m c 6 t) ((iblk m c 7 t : S1.Idx → EReal) (ix1 0)) ((iblk m c 8 t : S1.Idx → EReal) (ix1 0)) ((iblk m c 9 t : S1.Idx → EReal) (ix1 0))) _).trans ?_
  refine congrArg (headScales (n := 32) (binp m c t).qHead) ?_
  blk_ext! [idx13 t]

theorem idx14 : ∀ t : Fin cfg0.N, win0_14.index t = ![0, 0, 0] := (by decide +kernel : ∀ t : Fin grid0.N, _)
set_option maxHeartbeats 2000000 in
theorem final14 (c : Dev nD) (X : S9216x8x128.Idx → BitVec 8) (hX : ∀ t, X = headCodes (n := 8) (binp m c t).kHead) :
    (dats m 0 c).arrAt 14 cfg0.N = X := by
  refine (dats m 0 c).arrAt_eq_of_covers 14 _ (by decide +kernel) fun t hf y => ?_
  blk_simp
  rw [after0_14]; unfold outsAt0 out0_A_14; dsimp only
  frame_out
  simp only [read_unread_whole]
  rw [hX t]
  refine (congrFun (e14 (iblk m c 0 t) (iblk m c 1 t) (iblk m c 2 t) (iblk m c 3 t) (iblk m c 4 t) (iblk m c 5 t) (iblk m c 6 t) ((iblk m c 7 t : S1.Idx → EReal) (ix1 0)) ((iblk m c 8 t : S1.Idx → EReal) (ix1 0)) ((iblk m c 9 t : S1.Idx → EReal) (ix1 0))) _).trans ?_
  refine congrArg (headCodes (n := 8) (binp m c t).kHead) ?_
  blk_ext! [idx14 t]

theorem idx15 : ∀ t : Fin cfg0.N, win0_15.index t = ![0, 0] := (by decide +kernel : ∀ t : Fin grid0.N, _)
set_option maxHeartbeats 2000000 in
theorem final15 (c : Dev nD) (X : S9216x8.Idx → EReal) (hX : ∀ t, X = headScales (n := 8) (binp m c t).kHead) :
    (dats m 0 c).arrAt 15 cfg0.N = X := by
  refine (dats m 0 c).arrAt_eq_of_covers 15 _ (by decide +kernel) fun t hf y => ?_
  blk_simp
  rw [after0_15]; unfold outsAt0 out0_A_15; dsimp only
  frame_out
  simp only [read_unread_whole]
  rw [hX t]
  refine (congrFun (e15 (iblk m c 0 t) (iblk m c 1 t) (iblk m c 2 t) (iblk m c 3 t) (iblk m c 4 t) (iblk m c 5 t) (iblk m c 6 t) ((iblk m c 7 t : S1.Idx → EReal) (ix1 0)) ((iblk m c 8 t : S1.Idx → EReal) (ix1 0)) ((iblk m c 9 t : S1.Idx → EReal) (ix1 0))) _).trans ?_
  refine congrArg (headScales (n := 8) (binp m c t).kHead) ?_
  blk_ext! [idx15 t]

theorem idx16 : ∀ t : Fin cfg0.N, win0_16.index t = ![0, 0, 0] := (by decide +kernel : ∀ t : Fin grid0.N, _)
set_option maxHeartbeats 2000000 in
theorem final16 (c : Dev nD) (X : S9216x8x128.Idx → BitVec 8) (hX : ∀ t, X = headCodes (n := 8) (binp m c t).vHead) :
    (dats m 0 c).arrAt 16 cfg0.N = X := by
  refine (dats m 0 c).arrAt_eq_of_covers 16 _ (by decide +kernel) fun t hf y => ?_
  blk_simp
  rw [after0_16]; unfold outsAt0 out0_A_16; dsimp only
  frame_out
  simp only [read_unread_whole]
  rw [hX t]
  refine (congrFun (e16 (iblk m c 0 t) (iblk m c 1 t) (iblk m c 2 t) (iblk m c 3 t) (iblk m c 4 t) (iblk m c 5 t) (iblk m c 6 t) ((iblk m c 7 t : S1.Idx → EReal) (ix1 0)) ((iblk m c 8 t : S1.Idx → EReal) (ix1 0)) ((iblk m c 9 t : S1.Idx → EReal) (ix1 0))) _).trans ?_
  refine congrArg (headCodes (n := 8) (binp m c t).vHead) ?_
  blk_ext! [idx16 t]

theorem idx17 : ∀ t : Fin cfg0.N, win0_17.index t = ![0, 0] := (by decide +kernel : ∀ t : Fin grid0.N, _)
set_option maxHeartbeats 2000000 in
theorem final17 (c : Dev nD) (X : S9216x8.Idx → EReal) (hX : ∀ t, X = headScales (n := 8) (binp m c t).vHead) :
    (dats m 0 c).arrAt 17 cfg0.N = X := by
  refine (dats m 0 c).arrAt_eq_of_covers 17 _ (by decide +kernel) fun t hf y => ?_
  blk_simp
  rw [after0_17]; unfold outsAt0 out0_A_17; dsimp only
  frame_out
  simp only [read_unread_whole]
  rw [hX t]
  refine (congrFun (e17 (iblk m c 0 t) (iblk m c 1 t) (iblk m c 2 t) (iblk m c 3 t) (iblk m c 4 t) (iblk m c 5 t) (iblk m c 6 t) ((iblk m c 7 t : S1.Idx → EReal) (ix1 0)) ((iblk m c 8 t : S1.Idx → EReal) (ix1 0)) ((iblk m c 9 t : S1.Idx → EReal) (ix1 0))) _).trans ?_
  refine congrArg (headScales (n := 8) (binp m c t).vHead) ?_
  blk_ext! [idx17 t]

end Cert.FrontRefVal
-- ==== Proof.Front.RefChain.lean ====
/-
  The reference's results as the arrays of the layer's front half, from the program's arguments.
-/
module

public import proofs.«01_k».proof.Proof.Layout
public import proofs.«01_k».proof.Proof.Front.RefVal
public import proofs.«01_k».proof.Proof.Gen.FrontRefIdeal.Run

@[expose] public section

set_option maxRecDepth 16384

noncomputable section

namespace Cert.FrontRefChain

open Idealize.ShloMosaic Idealize.ShloMosaic.TcCoe Idealize.ShloMosaic.Pipeline Cert.Rows
open Cert.FrontRefIdeal Cert.FrontRefIdeal.Gen
open Cert.Half Cert.FrontRefVal Cert.Layout Idealize.ShloMosaic.StableHlo

variable (m : (ℓ : Loc nD τ sig) → Buf (Elt Ideal) ℓ)

/-- The layer's inputs, from the program's arguments. -/
abbrev rin (c : Dev nD) : Half :=
  ⟨shapeCast S9216x4096 (m ((c : Thread nD τ).loc main_arg0) : S3x3072x4096.Idx → EReal) shapeCasts_S3x3072x4096_S9216x4096,
   shapeCast S9216x64 (m ((c : Thread nD τ).loc main_arg1) : S3x3072x64.Idx → EReal) shapeCasts_S3x3072x64_S9216x64,
   shapeCast S9216x64 (m ((c : Thread nD τ).loc main_arg2) : S3x3072x64.Idx → EReal) shapeCasts_S3x3072x64_S9216x64,
   vec (d := 4096) (m ((c : Thread nD τ).loc main_arg3)),
   m ((c : Thread nD τ).loc main_arg4), m ((c : Thread nD τ).loc main_arg5), m ((c : Thread nD τ).loc main_arg6),
   (m ((c : Thread nD τ).loc main_arg7) : S_.Idx → EReal) ix0, (m ((c : Thread nD τ).loc main_arg8) : S_.Idx → EReal) ix0,
   (m ((c : Thread nD τ).loc main_arg9) : S_.Idx → EReal) ix0⟩

theorem head_main_v0 (c : Dev nD) : V m c main_v0 = shapeCast _ (m ((c : Thread nD τ).loc main_arg0)) shapeCasts_S3x3072x4096_S9216x4096 := by
  show StableHlo.after (List.flatten [hostOps0]) _ (Proc.devRef .tc main_v0) = _
  simp only [hostOps0, List.flatten_cons, List.flatten_nil, List.append_nil, List.cons_append, List.nil_append]
  after_results <;> rfl
theorem head_main_v1 (c : Dev nD) : V m c main_v1 = shapeCast _ (m ((c : Thread nD τ).loc main_arg1)) shapeCasts_S3x3072x64_S9216x64 := by
  show StableHlo.after (List.flatten [hostOps0]) _ (Proc.devRef .tc main_v1) = _
  simp only [hostOps0, List.flatten_cons, List.flatten_nil, List.append_nil, List.cons_append, List.nil_append]
  after_results <;> rfl
theorem head_main_v2 (c : Dev nD) : V m c main_v2 = shapeCast _ (m ((c : Thread nD τ).loc main_arg2)) shapeCasts_S3x3072x64_S9216x64 := by
  show StableHlo.after (List.flatten [hostOps0]) _ (Proc.devRef .tc main_v2) = _
  simp only [hostOps0, List.flatten_cons, List.flatten_nil, List.append_nil, List.cons_append, List.nil_append]
  after_results <;> rfl
theorem head_main_v3 (c : Dev nD) : V m c main_v3 = shapeCast _ (m ((c : Thread nD τ).loc main_arg7)) shapeCasts_S_S1 := by
  show StableHlo.after (List.flatten [hostOps0]) _ (Proc.devRef .tc main_v3) = _
  simp only [hostOps0, List.flatten_cons, List.flatten_nil, List.append_nil, List.cons_append, List.nil_append]
  after_results <;> rfl
theorem head_main_v4 (c : Dev nD) : V m c main_v4 = shapeCast _ (m ((c : Thread nD τ).loc main_arg8)) shapeCasts_S_S1 := by
  show StableHlo.after (List.flatten [hostOps0]) _ (Proc.devRef .tc main_v4) = _
  simp only [hostOps0, List.flatten_cons, List.flatten_nil, List.append_nil, List.cons_append, List.nil_append]
  after_results <;> rfl
theorem head_main_v5 (c : Dev nD) : V m c main_v5 = shapeCast _ (m ((c : Thread nD τ).loc main_arg9)) shapeCasts_S_S1 := by
  show StableHlo.after (List.flatten [hostOps0]) _ (Proc.devRef .tc main_v5) = _
  simp only [hostOps0, List.flatten_cons, List.flatten_nil, List.append_nil, List.cons_append, List.nil_append]
  after_results <;> rfl

theorem idx0 : ∀ t : Fin cfg0.N, win0_0.index t = ![0, 0] := (by decide +kernel : ∀ t : Fin grid0.N, _)
theorem blk0 (c : Dev nD) (t : Fin cfg0.N) : (iblk m c 0 t : S9216x4096.Idx → EReal) = (V m c main_v0 : S9216x4096.Idx → EReal) := by
  funext y
  blk_ext! [iblk, idx0 t]

theorem idx1 : ∀ t : Fin cfg0.N, win0_1.index t = ![0, 0] := (by decide +kernel : ∀ t : Fin grid0.N, _)
theorem blk1 (c : Dev nD) (t : Fin cfg0.N) : (iblk m c 1 t : S9216x64.Idx → EReal) = (V m c main_v1 : S9216x64.Idx → EReal) := by
  funext y
  blk_ext! [iblk, idx1 t]

theorem idx2 : ∀ t : Fin cfg0.N, win0_2.index t = ![0, 0] := (by decide +kernel : ∀ t : Fin grid0.N, _)
theorem blk2 (c : Dev nD) (t : Fin cfg0.N) : (iblk m c 2 t : S9216x64.Idx → EReal) = (V m c main_v2 : S9216x64.Idx → EReal) := by
  funext y
  blk_ext! [iblk, idx2 t]

theorem idx3 : ∀ t : Fin cfg0.N, win0_3.index t = ![0] := (by decide +kernel : ∀ t : Fin grid0.N, _)
theorem blk3 (c : Dev nD) (t : Fin cfg0.N) : (iblk m c 3 t : S4096.Idx → EReal) = (V m c main_arg3 : S4096.Idx → EReal) := by
  funext y
  blk_ext! [iblk, idx3 t]

theorem idx4 : ∀ t : Fin cfg0.N, win0_4.index t = ![0, 0] := (by decide +kernel : ∀ t : Fin grid0.N, _)
theorem blk4 (c : Dev nD) (t : Fin cfg0.N) : (iblk m c 4 t : S1024x4096.Idx → BitVec 8) = (V m c main_arg4 : S1024x4096.Idx → BitVec 8) := by
  funext y
  blk_ext! [iblk, idx4 t]

theorem idx5 : ∀ t : Fin cfg0.N, win0_5.index t = ![0, 0] := (by decide +kernel : ∀ t : Fin grid0.N, _)
theorem blk5 (c : Dev nD) (t : Fin cfg0.N) : (iblk m c 5 t : S256x4096.Idx → BitVec 8) = (V m c main_arg5 : S256x4096.Idx → BitVec 8) := by
  funext y
  blk_ext! [iblk, idx5 t]

theorem idx6 : ∀ t : Fin cfg0.N, win0_6.index t = ![0, 0] := (by decide +kernel : ∀ t : Fin grid0.N, _)
theorem blk6 (c : Dev nD) (t : Fin cfg0.N) : (iblk m c 6 t : S256x4096.Idx → BitVec 8) = (V m c main_arg6 : S256x4096.Idx → BitVec 8) := by
  funext y
  blk_ext! [iblk, idx6 t]

theorem idx7 : ∀ t : Fin cfg0.N, win0_7.index t = ![0] := (by decide +kernel : ∀ t : Fin grid0.N, _)
theorem blk7 (c : Dev nD) (t : Fin cfg0.N) : (iblk m c 7 t : S1.Idx → EReal) = (V m c main_v3 : S1.Idx → EReal) := by
  funext y
  blk_ext! [iblk, idx7 t]

theorem idx8 : ∀ t : Fin cfg0.N, win0_8.index t = ![0] := (by decide +kernel : ∀ t : Fin grid0.N, _)
theorem blk8 (c : Dev nD) (t : Fin cfg0.N) : (iblk m c 8 t : S1.Idx → EReal) = (V m c main_v4 : S1.Idx → EReal) := by
  funext y
  blk_ext! [iblk, idx8 t]

theorem idx9 : ∀ t : Fin cfg0.N, win0_9.index t = ![0] := (by decide +kernel : ∀ t : Fin grid0.N, _)
theorem blk9 (c : Dev nD) (t : Fin cfg0.N) : (iblk m c 9 t : S1.Idx → EReal) = (V m c main_v5 : S1.Idx → EReal) := by
  funext y
  blk_ext! [iblk, idx9 t]

/-- The blocks the region's body finds are the program's inputs. -/
theorem binp_eq (c : Dev nD) (t : Fin cfg0.N) : binp m c t = rin m c := by
  unfold binp rin inp
  rw [blk0, blk1, blk2, blk3, blk4, blk5, blk6, blk7, blk8, blk9, head_main_v0, head_main_v1, head_main_v2,
    head_main_v3, head_main_v4, head_main_v5, V_main_arg3, V_main_arg4, V_main_arg5, V_main_arg6]
  congr 1

theorem res10 (c : Dev nD) : shapeCast S3x3072x4096 (Value.reg_main_v6_0 m c : S9216x4096.Idx → BitVec 8) shapeCasts_S9216x4096_S3x3072x4096
    = shapeCast S3x3072x4096 ((rin m c).codes : S9216x4096.Idx → BitVec 8) shapeCasts_S9216x4096_S3x3072x4096 :=
  congrArg (fun z : S9216x4096.Idx → BitVec 8 => shapeCast S3x3072x4096 z shapeCasts_S9216x4096_S3x3072x4096)
    (final10 m c ((rin m c).codes) fun t => congrArg (fun b : Half => b.codes) (binp_eq m c t).symm)

theorem res11 (c : Dev nD) : shapeCast S3x3072 (Value.reg_main_v6_1 m c : S9216.Idx → EReal) shapeCasts_S9216_S3x3072
    = shapeCast S3x3072 ((rin m c).scales : S9216.Idx → EReal) shapeCasts_S9216_S3x3072 :=
  congrArg (fun z : S9216.Idx → EReal => shapeCast S3x3072 z shapeCasts_S9216_S3x3072)
    (final11 m c ((rin m c).scales) fun t => congrArg (fun b : Half => b.scales) (binp_eq m c t).symm)

theorem res12 (c : Dev nD) : shapeCast S3x3072x32x128 (Value.reg_main_v6_2 m c : S9216x32x128.Idx → BitVec 8) shapeCasts_S9216x32x128_S3x3072x32x128
    = shapeCast S3x3072x32x128 (headCodes (n := 32) (rin m c).qHead : S9216x32x128.Idx → BitVec 8) shapeCasts_S9216x32x128_S3x3072x32x128 :=
  congrArg (fun z : S9216x32x128.Idx → BitVec 8 => shapeCast S3x3072x32x128 z shapeCasts_S9216x32x128_S3x3072x32x128)
    (final12 m c (headCodes (n := 32) (rin m c).qHead) fun t => congrArg (fun b : Half => headCodes (n := 32) b.qHead) (binp_eq m c t).symm)

theorem res13 (c : Dev nD) : shapeCast S3x3072x32 (Value.reg_main_v6_3 m c : S9216x32.Idx → EReal) shapeCasts_S9216x32_S3x3072x32
    = shapeCast S3x3072x32 (headScales (n := 32) (rin m c).qHead : S9216x32.Idx → EReal) shapeCasts_S9216x32_S3x3072x32 :=
  congrArg (fun z : S9216x32.Idx → EReal => shapeCast S3x3072x32 z shapeCasts_S9216x32_S3x3072x32)
    (final13 m c (headScales (n := 32) (rin m c).qHead) fun t => congrArg (fun b : Half => headScales (n := 32) b.qHead) (binp_eq m c t).symm)

theorem res14 (c : Dev nD) : shapeCast S3x3072x8x128 (Value.reg_main_v6_4 m c : S9216x8x128.Idx → BitVec 8) shapeCasts_S9216x8x128_S3x3072x8x128
    = shapeCast S3x3072x8x128 (headCodes (n := 8) (rin m c).kHead : S9216x8x128.Idx → BitVec 8) shapeCasts_S9216x8x128_S3x3072x8x128 :=
  congrArg (fun z : S9216x8x128.Idx → BitVec 8 => shapeCast S3x3072x8x128 z shapeCasts_S9216x8x128_S3x3072x8x128)
    (final14 m c (headCodes (n := 8) (rin m c).kHead) fun t => congrArg (fun b : Half => headCodes (n := 8) b.kHead) (binp_eq m c t).symm)

theorem res15 (c : Dev nD) : shapeCast S3x3072x8 (Value.reg_main_v6_5 m c : S9216x8.Idx → EReal) shapeCasts_S9216x8_S3x3072x8
    = shapeCast S3x3072x8 (headScales (n := 8) (rin m c).kHead : S9216x8.Idx → EReal) shapeCasts_S9216x8_S3x3072x8 :=
  congrArg (fun z : S9216x8.Idx → EReal => shapeCast S3x3072x8 z shapeCasts_S9216x8_S3x3072x8)
    (final15 m c (headScales (n := 8) (rin m c).kHead) fun t => congrArg (fun b : Half => headScales (n := 8) b.kHead) (binp_eq m c t).symm)

theorem res16 (c : Dev nD) : shapeCast S3x3072x8x128 (Value.reg_main_v6_6 m c : S9216x8x128.Idx → BitVec 8) shapeCasts_S9216x8x128_S3x3072x8x128
    = shapeCast S3x3072x8x128 (headCodes (n := 8) (rin m c).vHead : S9216x8x128.Idx → BitVec 8) shapeCasts_S9216x8x128_S3x3072x8x128 :=
  congrArg (fun z : S9216x8x128.Idx → BitVec 8 => shapeCast S3x3072x8x128 z shapeCasts_S9216x8x128_S3x3072x8x128)
    (final16 m c (headCodes (n := 8) (rin m c).vHead) fun t => congrArg (fun b : Half => headCodes (n := 8) b.vHead) (binp_eq m c t).symm)

theorem res17 (c : Dev nD) : shapeCast S3x3072x8 (Value.reg_main_v6_7 m c : S9216x8.Idx → EReal) shapeCasts_S9216x8_S3x3072x8
    = shapeCast S3x3072x8 (headScales (n := 8) (rin m c).vHead : S9216x8.Idx → EReal) shapeCasts_S9216x8_S3x3072x8 :=
  congrArg (fun z : S9216x8.Idx → EReal => shapeCast S3x3072x8 z shapeCasts_S9216x8_S3x3072x8)
    (final17 m c (headScales (n := 8) (rin m c).vHead) fun t => congrArg (fun b : Half => headScales (n := 8) b.vHead) (binp_eq m c t).symm)

end Cert.FrontRefChain
-- ==== Proof.Front.Claim.lean ====
/-
  Over the extended reals the front half's program and its reference compute the same eight results.
-/
module

public import proofs.«01_k».proof.Defs
public import proofs.«01_k».proof.Proof.Front.Segs
public import proofs.«01_k».proof.Proof.Front.Chain
public import proofs.«01_k».proof.Proof.Front.RefChain

@[expose] public section

noncomputable section

namespace Cert.FrontClaim

open Idealize.ShloMosaic Idealize.ShloMosaic.TcCoe Idealize.SL.Sem Cert.Rows Cert.Half Cert.FrontChain Cert.FrontRefChain

/-- Where the arguments agree, the two programs have the same inputs. -/
theorem inputs_eq (m : (ℓ : Loc Cert.FrontIdeal.nD Cert.FrontIdeal.τ Cert.FrontIdeal.sig) → Buf (Elt Ideal) ℓ)
    (m' : (ℓ : Loc Cert.FrontRefIdeal.nD Cert.FrontRefIdeal.τ Cert.FrontRefIdeal.sig) → Buf (Elt Ideal) ℓ) (c : Dev Cert.FrontIdeal.nD)
    (h0 : m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0))
    (h1 : m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1))
    (h2 : m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2))
    (h3 : m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3))
    (h4 : m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4))
    (h5 : m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5))
    (h6 : m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6))
    (h7 : m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7))
    (h8 : m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8))
    (h9 : m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9))
    : rin m' c = kin m c := by
  unfold rin kin
  rw [h0, h1, h2, h3, h4, h5, h6, h7, h8, h9]

/-- Over the extended reals the kernel's program and the reference compute the same eight results. -/
theorem algebraic : algebraic_FrontIdeal_FrontRefIdeal (hFrontIdeal := Cert.FrontIdeal.Gen.facts) (hFrontRefIdeal := Cert.FrontRefIdeal.Gen.facts) := by
  intro m g m' g' _ hm
  refine ⟨fun c => shapeCast Cert.FrontIdeal.S3x3072x4096 ((kin m c).codes : Cert.FrontIdeal.S9216x4096.Idx → BitVec 8) Cert.FrontIdeal.Gen.shapeCasts_S9216x4096_S3x3072x4096,
    fun c => shapeCast Cert.FrontIdeal.S3x3072 ((kin m c).scales : Cert.FrontIdeal.S9216.Idx → EReal) Cert.FrontIdeal.Gen.shapeCasts_S9216_S3x3072,
    fun c => shapeCast Cert.FrontIdeal.S3x3072x32x128 (headCodes (n := 32) (kin m c).qHead) casts_q,
    fun c => shapeCast Cert.FrontIdeal.S3x3072x32 (headScales (n := 32) (kin m c).qHead) casts_qs,
    fun c => shapeCast Cert.FrontIdeal.S3x3072x8x128 (headCodes (n := 8) (kin m c).kHead) casts_kv,
    fun c => shapeCast Cert.FrontIdeal.S3x3072x8 (headScales (n := 8) (kin m c).kHead) casts_kvs,
    fun c => shapeCast Cert.FrontIdeal.S3x3072x8x128 (headCodes (n := 8) (kin m c).vHead) casts_kv,
    fun c => shapeCast Cert.FrontIdeal.S3x3072x8 (headScales (n := 8) (kin m c).vHead) casts_kvs, ?_, ?_⟩
  · refine (θ_run _ _ _).mono (fun _ h c => ?_) (Cert.FrontIdeal.Gen.run (F := Ideal) m g)
    obtain ⟨r0, r1, r2, r3, r4, r5, r6, r7, hargs⟩ := h.1 c
    exact ⟨r0.trans (res_main_v17 m g c), r1.trans (res_main_v20 m g c), r2.trans (res_main_v21 m g c), r3.trans (res_main_v22 m g c), r4.trans (res_main_v23 m g c), r5.trans (res_main_v24 m g c), r6.trans (res_main_v25 m g c), r7.trans (res_main_v26 m g c), hargs⟩
  · refine (θ_run _ _ _).mono (fun _ h c => ?_) (Cert.FrontRefIdeal.Value.run (F := Ideal) m' g')
    obtain ⟨r0, r1, r2, r3, r4, r5, r6, r7, hargs⟩ := h c
    obtain ⟨h0, h1, h2, h3, h4, h5, h6, h7, h8, h9⟩ := hm c
    have e := inputs_eq m m' c h0 h1 h2 h3 h4 h5 h6 h7 h8 h9
    beta_reduce
    rw [← e]
    exact ⟨r0.trans (res10 m' c), r1.trans (res11 m' c), r2.trans (res12 m' c), r3.trans (res13 m' c), r4.trans (res14 m' c), r5.trans (res15 m' c), r6.trans (res16 m' c), r7.trans (res17 m' c), hargs⟩

end Cert.FrontClaim

end
-- ==== Proof.lean ====
/-
  The ten claims about the kernel's two programs, their ideal forms and their references.
-/
module

public import proofs.«01_k».proof.Defs
public import proofs.«01_k».proof.Proof.Gen.Back.Frame
public import proofs.«01_k».proof.Proof.Gen.FrontRefIdeal.Frame
public import proofs.«01_k».proof.Proof.Chain
public import proofs.«01_k».proof.Proof.KernelRun
public import proofs.«01_k».proof.Proof.RefChain
public import proofs.«01_k».proof.Proof.Front.Same
public import proofs.«01_k».proof.Proof.Front.Claim

@[expose] public section

noncomputable section

namespace Cert.Proof

open Idealize.ShloMosaic Idealize.ShloMosaic.TcCoe Idealize.SL.Sem Cert.Rows Cert.Chain Cert.RefChain

/-- Where the arguments agree, the two programs have the same inputs. -/
theorem inputs_eq (m : (ℓ : Loc Cert.BackIdeal.nD Cert.BackIdeal.τ Cert.BackIdeal.sig) → Buf (Elt Ideal) ℓ)
    (m' : (ℓ : Loc Cert.BackRefIdeal.nD Cert.BackRefIdeal.τ Cert.BackRefIdeal.sig) → Buf (Elt Ideal) ℓ) (c : Dev Cert.BackIdeal.nD)
    (h0 : m' ((c.tc : Thread Cert.BackRefIdeal.nD Cert.BackRefIdeal.τ).loc Cert.BackRefIdeal.main_arg0) = m ((c.tc : Thread Cert.BackIdeal.nD Cert.BackIdeal.τ).loc Cert.BackIdeal.main_arg0))
    (h1 : m' ((c.tc : Thread Cert.BackRefIdeal.nD Cert.BackRefIdeal.τ).loc Cert.BackRefIdeal.main_arg1) = m ((c.tc : Thread Cert.BackIdeal.nD Cert.BackIdeal.τ).loc Cert.BackIdeal.main_arg1))
    (h2 : m' ((c.tc : Thread Cert.BackRefIdeal.nD Cert.BackRefIdeal.τ).loc Cert.BackRefIdeal.main_arg2) = m ((c.tc : Thread Cert.BackIdeal.nD Cert.BackIdeal.τ).loc Cert.BackIdeal.main_arg2))
    (h3 : m' ((c.tc : Thread Cert.BackRefIdeal.nD Cert.BackRefIdeal.τ).loc Cert.BackRefIdeal.main_arg3) = m ((c.tc : Thread Cert.BackIdeal.nD Cert.BackIdeal.τ).loc Cert.BackIdeal.main_arg3))
    (h4 : m' ((c.tc : Thread Cert.BackRefIdeal.nD Cert.BackRefIdeal.τ).loc Cert.BackRefIdeal.main_arg4) = m ((c.tc : Thread Cert.BackIdeal.nD Cert.BackIdeal.τ).loc Cert.BackIdeal.main_arg4))
    (h5 : m' ((c.tc : Thread Cert.BackRefIdeal.nD Cert.BackRefIdeal.τ).loc Cert.BackRefIdeal.main_arg5) = m ((c.tc : Thread Cert.BackIdeal.nD Cert.BackIdeal.τ).loc Cert.BackIdeal.main_arg5))
    (h6 : m' ((c.tc : Thread Cert.BackRefIdeal.nD Cert.BackRefIdeal.τ).loc Cert.BackRefIdeal.main_arg6) = m ((c.tc : Thread Cert.BackIdeal.nD Cert.BackIdeal.τ).loc Cert.BackIdeal.main_arg6))
    (h7 : m' ((c.tc : Thread Cert.BackRefIdeal.nD Cert.BackRefIdeal.τ).loc Cert.BackRefIdeal.main_arg7) = m ((c.tc : Thread Cert.BackIdeal.nD Cert.BackIdeal.τ).loc Cert.BackIdeal.main_arg7))
    (h8 : m' ((c.tc : Thread Cert.BackRefIdeal.nD Cert.BackRefIdeal.τ).loc Cert.BackRefIdeal.main_arg8) = m ((c.tc : Thread Cert.BackIdeal.nD Cert.BackIdeal.τ).loc Cert.BackIdeal.main_arg8))
    (h9 : m' ((c.tc : Thread Cert.BackRefIdeal.nD Cert.BackRefIdeal.τ).loc Cert.BackRefIdeal.main_arg9) = m ((c.tc : Thread Cert.BackIdeal.nD Cert.BackIdeal.τ).loc Cert.BackIdeal.main_arg9))
    (h10 : m' ((c.tc : Thread Cert.BackRefIdeal.nD Cert.BackRefIdeal.τ).loc Cert.BackRefIdeal.main_arg10) = m ((c.tc : Thread Cert.BackIdeal.nD Cert.BackIdeal.τ).loc Cert.BackIdeal.main_arg10))
    (h11 : m' ((c.tc : Thread Cert.BackRefIdeal.nD Cert.BackRefIdeal.τ).loc Cert.BackRefIdeal.main_arg11) = m ((c.tc : Thread Cert.BackIdeal.nD Cert.BackIdeal.τ).loc Cert.BackIdeal.main_arg11))
    (h12 : m' ((c.tc : Thread Cert.BackRefIdeal.nD Cert.BackRefIdeal.τ).loc Cert.BackRefIdeal.main_arg12) = m ((c.tc : Thread Cert.BackIdeal.nD Cert.BackIdeal.τ).loc Cert.BackIdeal.main_arg12))
    : rin m' c = kin m c := by
  unfold rin kin
  rw [h0, h1, h2, h3, h4, h5, h6, h7, h8, h9, h10, h11, h12]

/-- Over the extended reals the kernel's program and the reference compute the same eight results. -/
theorem algebraic : algebraic_BackIdeal_BackRefIdeal (hBackIdeal := Cert.BackIdeal.Gen.facts) (hBackRefIdeal := Cert.BackRefIdeal.Gen.facts) := by
  intro m g m' g' _ hm
  refine ⟨fun c => shapeCast Cert.BackIdeal.S3x3072x4096 ((kin m c).out : Cert.BackIdeal.S9216x4096.Idx → EReal) Cert.BackIdeal.Gen.shapeCasts_S9216x4096_S3x3072x4096,
    fun c => shapeCast Cert.BackIdeal.S3x3072x11008 ((kin m c).hid : Cert.BackIdeal.S9216x11008.Idx → EReal) Cert.BackIdeal.Gen.shapeCasts_S9216x11008_S3x3072x11008,
    fun c => shapeCast Cert.BackIdeal.S3x3072x4096 ((kin m c).attnCodes : Cert.BackIdeal.S9216x4096.Idx → BitVec 8) Cert.BackIdeal.Gen.shapeCasts_S9216x4096_S3x3072x4096,
    fun c => shapeCast Cert.BackIdeal.S3x3072 ((kin m c).attnScales : Cert.BackIdeal.S9216.Idx → EReal) Cert.BackIdeal.Gen.shapeCasts_S9216_S3x3072,
    fun c => shapeCast Cert.BackIdeal.S3x3072x4096 ((kin m c).postCodes : Cert.BackIdeal.S9216x4096.Idx → BitVec 8) Cert.BackIdeal.Gen.shapeCasts_S9216x4096_S3x3072x4096,
    fun c => shapeCast Cert.BackIdeal.S3x3072 ((kin m c).postScales : Cert.BackIdeal.S9216.Idx → EReal) Cert.BackIdeal.Gen.shapeCasts_S9216_S3x3072,
    fun c => shapeCast Cert.BackIdeal.S3x3072x11008 ((kin m c).hidCodes : Cert.BackIdeal.S9216x11008.Idx → BitVec 8) Cert.BackIdeal.Gen.shapeCasts_S9216x11008_S3x3072x11008,
    fun c => shapeCast Cert.BackIdeal.S3x3072 ((kin m c).hidScales : Cert.BackIdeal.S9216.Idx → EReal) Cert.BackIdeal.Gen.shapeCasts_S9216_S3x3072, ?_, ?_⟩
  · refine (θ_run _ _ _).mono (fun _ h c => ?_) (Cert.KernelRun.run (F := Ideal) m g)
    obtain ⟨r0, r1, r2, r3, r4, r5, r6, r7, hargs⟩ := h.1 c
    exact ⟨r0.trans (res_main_v24 m g c), r1.trans (res_main_v25 m g c), r2.trans (res_main_v26 m g c), r3.trans (res_main_v29 m g c), r4.trans (res_main_v30 m g c), r5.trans (res_main_v33 m g c), r6.trans (res_main_v34 m g c), r7.trans (res_main_v37 m g c), hargs⟩
  · refine (θ_run _ _ _).mono (fun _ h c => ?_) (Cert.BackRefIdeal.Value.run (F := Ideal) m' g')
    obtain ⟨r0, r1, r2, r3, r4, r5, r6, r7, hargs⟩ := h c
    obtain ⟨h0, h1, h2, h3, h4, h5, h6, h7, h8, h9, h10, h11, h12⟩ := hm c
    have e := inputs_eq m m' c h0 h1 h2 h3 h4 h5 h6 h7 h8 h9 h10 h11 h12
    beta_reduce
    rw [← e]
    exact ⟨r0.trans (res13 m' c), r1.trans (res14 m' c), r2.trans (res15 m' c), r3.trans (res16 m' c), r4.trans (res17 m' c), r5.trans (res18 m' c), r6.trans (res19 m' c), r7.trans (res20 m' c), hargs⟩

/-- All ten claims. -/
theorem claim : Cert.Claim := ⟨Cert.Back.Gen.facts, Cert.BackIdeal.Gen.facts, Cert.BackRefIdeal.Gen.facts,
  Cert.Front.Gen.facts, Cert.FrontIdeal.Gen.facts, Cert.FrontRefIdeal.Gen.facts,
  fun m g _ => Cert.Back.Gen.frame m g, fun m g _ => Cert.BackIdeal.Gen.frame m g, fun m g _ => Cert.BackRefIdeal.Gen.frame m g,
  Cert.FrontSame.frame, fun m g _ => Cert.FrontIdeal.Gen.frame m g, fun m g _ => Cert.FrontRefIdeal.Gen.frame m g,
  trivial, algebraic, trivial, Cert.FrontClaim.algebraic⟩

end Cert.Proof

end
